-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2_0) i = v0 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v2_1) i = v1 c i)
          ∧ (∀ i : (⟨2, ![3, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v2_2) i = v2 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v2_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v5) i = v0 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v124) i = v1 c i)
          ∧ (∀ i : (⟨2, ![3, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v126) i = v2 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v117) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== On_written.lean ====
abbrev S8192x2048 : Shape := ⟨2, ![8192, 2048]⟩
abbrev S8192x8192 : Shape := ⟨2, ![8192, 8192]⟩
abbrev S8192x6144 : Shape := ⟨2, ![8192, 6144]⟩
abbrev S1x1024x3 : Shape := ⟨3, ![1, 1024, 3]⟩
abbrev S1x1024 : Shape := ⟨2, ![1, 1024]⟩
abbrev S_ : Shape := ⟨0, ![]⟩
abbrev S4x2048x2048 : Shape := ⟨3, ![4, 2048, 2048]⟩
abbrev S3x1024 : Shape := ⟨2, ![3, 1024]⟩

class Facts : Prop where
  bcast_S_S8192x6144 : S_.BroadcastsInDim S8192x6144 (![] : Fin 0 → Fin S8192x6144.rank)
  bcast_S_S4x2048x2048 : S_.BroadcastsInDim S4x2048x2048 (![] : Fin 0 → Fin S4x2048x2048.rank)
  bcast_S_S3x1024 : S_.BroadcastsInDim S3x1024 (![] : Fin 0 → Fin S3x1024.rank)
  bcast_S_S1x1024 : S_.BroadcastsInDim S1x1024 (![] : Fin 0 → Fin S1x1024.rank)

variable [Facts]

def fn {F : FTy → Type} [FloatOps F] (main_arg0 : FVec F S8192x2048 .bf16) (main_arg1 : FVec F S8192x8192 .bf16) (main_arg2 : FVec F S8192x2048 .bf16) (main_arg3 : FVec F S8192x6144 .f32) (main_arg4 : FVec F S1x1024x3 .f32) (main_arg5 : FVec F S1x1024 .f32) : IVec S4x2048x2048 1 × IVec S8192x6144 1 × IVec S3x1024 1 × IVec S1x1024 1 :=
  let main_v0 : IVec S8192x6144 32 := iotaInDim S8192x6144 32 1
  let main_c : IVec S_ 32 := constantI S_ 32 3072#32
  let main_v1 : IVec S8192x6144 32 := broadcastInDim S8192x6144 ![] bcast_S_S8192x6144 main_c
  let main_v2 : IVec S8192x6144 1 := cmpi .slt main_v0 main_v1
  let main_c_0 : IVec S_ 1 := constantI S_ 1 1#1
  let main_v3 : IVec S4x2048x2048 1 := broadcastInDim S4x2048x2048 ![] bcast_S_S4x2048x2048 main_c_0
  let main_c_1 : IVec S_ 1 := constantI S_ 1 1#1
  let main_v4 : IVec S3x1024 1 := broadcastInDim S3x1024 ![] bcast_S_S3x1024 main_c_1
  let main_c_2 : IVec S_ 1 := constantI S_ 1 1#1
  let main_v5 : IVec S1x1024 1 := broadcastInDim S1x1024 ![] bcast_S_S1x1024 main_c_2
  (main_v3, main_v2, main_v4, main_v5)
-- ==== Pre_finite.lean ====
abbrev S8192x2048 : Shape := ⟨2, ![8192, 2048]⟩
abbrev S8192x8192 : Shape := ⟨2, ![8192, 8192]⟩
abbrev S8192x6144 : Shape := ⟨2, ![8192, 6144]⟩
abbrev S1x1024x3 : Shape := ⟨3, ![1, 1024, 3]⟩
abbrev S1x1024 : Shape := ⟨2, ![1, 1024]⟩
abbrev S8192x1024 : Shape := ⟨2, ![8192, 1024]⟩
abbrev S_ : Shape := ⟨0, ![]⟩
abbrev S8192x3072 : Shape := ⟨2, ![8192, 3072]⟩

class Facts : Prop where
  slices_S8192x2048_S8192x1024_0_0 : S8192x2048.Slices ![0, 0] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S8192x6144_S8192x3072_0_0 : S8192x6144.Slices ![0, 0] S8192x3072
  bcast_S_S8192x3072 : S_.BroadcastsInDim S8192x3072 (![] : Fin 0 → Fin S8192x3072.rank)
  reducesTo_S8192x3072_S_d0_1 : S8192x3072.ReducesTo [0, 1] S_
  bcast_S_S1x1024x3 : S_.BroadcastsInDim S1x1024x3 (![] : Fin 0 → Fin S1x1024x3.rank)
  reducesTo_S1x1024x3_S_d0_1_2 : S1x1024x3.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  main_v21

def fn {F : FTy → Type} [FloatOps F] (main_arg0 : FVec F S8192x2048 .bf16) (main_arg1 : FVec F S8192x8192 .bf16) (main_arg2 : FVec F S8192x2048 .bf16) (main_arg3 : FVec F S8192x6144 .f32) (main_arg4 : FVec F S1x1024x3 .f32) (main_arg5 : FVec F S1x1024 .f32) : IVec S_ 1 :=
  let main_v0 : FVec F S8192x1024 .bf16 := (extractStridedSlice S8192x1024 ![0, 0] · slices_S8192x2048_S8192x1024_0_0) main_arg2
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8192x3072 .f32 := (extractStridedSlice S8192x3072 ![0, 0] · slices_S8192x6144_S8192x3072_0_0) main_arg3
  let main_v7 : FVec F S8192x3072 .f32 := Host.absf main_v6
  let main_cst_0 : FVec F S_ .f32 := constant S_ .f32 0x7F800000#32
  let main_v8 : FVec F S8192x3072 .f32 := broadcastInDim S8192x3072 ![] bcast_S_S8192x3072 main_cst_0
  let main_v9 : IVec S8192x3072 1 := cmpf .olt main_v7 main_v8
  let main_c_1 : IVec S_ 1 := constantI S_ 1 1#1
  let main_v10 : IVec S_ 1 := (fun x v => Host.reduce IntOp.andi x v reducesTo_S8192x3072_S_d0_1 h_S_) main_v9 main_c_1
  let main_v11 : IVec S_ 1 := andi main_v5 main_v10
  let main_v12 : FVec F S1x1024x3 .f32 := Host.absf main_arg4
  let main_cst_2 : FVec F S_ .f32 := constant S_ .f32 0x7F800000#32
  let main_v13 : FVec F S1x1024x3 .f32 := broadcastInDim S1x1024x3 ![] bcast_S_S1x1024x3 main_cst_2
  let main_v14 : IVec S1x1024x3 1 := cmpf .olt main_v12 main_v13
  let main_c_3 : IVec S_ 1 := constantI S_ 1 1#1
  let main_v15 : IVec S_ 1 := (fun x v => Host.reduce IntOp.andi x v reducesTo_S1x1024x3_S_d0_1_2 h_S_) main_v14 main_c_3
  let main_v16 : IVec S_ 1 := andi main_v11 main_v15
  let main_v17 : FVec F S1x1024 .f32 := Host.absf main_arg5
  fn_part1 (F := F) main_v16 main_v17
-- ==== Pre_finite6.lean ====
abbrev S8192x8192 : Shape := ⟨2, ![8192, 8192]⟩
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x8192 .bf16) (main_arg1 : FVec F S8192x2048 .bf16) (main_arg2 : FVec F S8192x2048 .bf16) (main_arg3 : FVec F S8192x2048 .f32) (main_arg4 : FVec F S1x2048 .f32) : IVec S_ 1 :=
  let main_v0 : FVec F S8192x2048 .f32 := (extf .f32 · bitsLt_bf16_f32) main_arg2
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := Host.absf main_arg3
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v4 main_v8
  let main_v10 : FVec F S1x2048 .f32 := Host.absf main_arg4
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_c_3 : IVec S_ 1 := constantI S_ 1 1#1
  let main_v13 : IVec S_ 1 := (fun x v => Host.reduce IntOp.andi x v reducesTo_S1x2048_S_d0_1 h_S_) main_v12 main_c_3
  let main_v14 : IVec S_ 1 := andi main_v9 main_v13
  main_v14
-- ==== Kernel.lean ====
abbrev S8192x2048 : Shape := ⟨2, ![8192, 2048]⟩
abbrev S8192x8192 : Shape := ⟨2, ![8192, 8192]⟩
abbrev S8192x6144 : Shape := ⟨2, ![8192, 6144]⟩
abbrev S1x1024x3 : Shape := ⟨3, ![1, 1024, 3]⟩
abbrev S1x1024 : Shape := ⟨2, ![1, 1024]⟩
abbrev S1024x3 : Shape := ⟨2, ![1024, 3]⟩
abbrev S3x1024 : Shape := ⟨2, ![3, 1024]⟩
abbrev S4x2048x2048 : Shape := ⟨3, ![4, 2048, 2048]⟩
abbrev S2048x1024 : Shape := ⟨2, ![2048, 1024]⟩
abbrev S2048x2048 : Shape := ⟨2, ![2048, 2048]⟩
abbrev S256x1024 : Shape := ⟨2, ![256, 1024]⟩
abbrev S8x1024 : Shape := ⟨2, ![8, 1024]⟩
abbrev S1x1024x2048 : Shape := ⟨3, ![1, 1024, 2048]⟩
abbrev S256x3072 : Shape := ⟨2, ![256, 3072]⟩
abbrev S1024x2048 : Shape := ⟨2, ![1024, 2048]⟩
abbrev S24x1024 : Shape := ⟨2, ![24, 1024]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S8x128 : Shape := ⟨2, ![8, 128]⟩
abbrev S32x8x128 : Shape := ⟨3, ![32, 8, 128]⟩
abbrev S1024 : Shape := ⟨1, ![1024]⟩

abbrev nBuf : Space → Nat
  | .hbm => 12
  | .vmem => 28
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .bf16⟩
  | .hbm, ⟨3, _⟩ => ⟨S8192x6144, .f32⟩
  | .hbm, ⟨4, _⟩ => ⟨S1x1024x3, .f32⟩
  | .hbm, ⟨5, _⟩ => ⟨S1x1024, .f32⟩
  | .hbm, ⟨6, _⟩ => ⟨S1024x3, .f32⟩
  | .hbm, ⟨7, _⟩ => ⟨S3x1024, .f32⟩
  | .hbm, ⟨8, _⟩ => ⟨S4x2048x2048, .bf16⟩
  | .hbm, ⟨9, _⟩ => ⟨S8192x6144, .bf16⟩
  | .hbm, ⟨10, _⟩ => ⟨S3x1024, .f32⟩
  | .hbm, ⟨11, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S3x1024, .f32⟩
  | .local _ .vmem, ⟨17, _⟩ => ⟨S1x1024, .f32⟩
  | .local _ .vmem, ⟨18, _⟩ => ⟨S1x1024x2048, .bf16⟩
  | .local _ .vmem, ⟨19, _⟩ => ⟨S1x1024x2048, .bf16⟩
  | .local _ .vmem, ⟨20, _⟩ => ⟨S256x3072, .bf16⟩
  | .local _ .vmem, ⟨21, _⟩ => ⟨S256x3072, .bf16⟩
  | .local _ .vmem, ⟨22, _⟩ => ⟨S3x1024, .f32⟩
  | .local _ .vmem, ⟨23, _⟩ => ⟨S1x1024, .f32⟩
  | .local _ .vmem, ⟨24, _⟩ => ⟨S1024x2048, .f32⟩
  | .local _ .vmem, ⟨25, _⟩ => ⟨S8x1024, .f32⟩
  | .local _ .vmem, ⟨26, _⟩ => ⟨S24x1024, .f32⟩
  | .local _ .vmem, ⟨27, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨3, ![2, 4, 4], ![false, false, false]⟩

def k0_cond4 (i : grid0.Coords) : BitVec 1 :=
  let arg2 : BitVec 32 := BitVec.ofNat 32 (i 2).val
  let c3_i32_6 : BitVec 32 := 3#32
  let v15 : BitVec 1 := Scalar.cmpi .eq arg2 c3_i32_6
  let v16 : BitVec 32 := Scalar.extui v15
  let c0_i32_7 : BitVec 32 := 0#32
  let v17 : BitVec 1 := Scalar.cmpi .ne v16 c0_i32_7
  v17

def k0_cond2 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

def k0_cond3 (i : grid0.Coords) : BitVec 1 :=
  let arg2 : BitVec 32 := BitVec.ofNat 32 (i 2).val
  let c0_i32_4 : BitVec 32 := 0#32
  let v10 : BitVec 1 := Scalar.cmpi .sgt arg2 c0_i32_4
  let c3_i32 : BitVec 32 := 3#32
  let v11 : BitVec 1 := Scalar.cmpi .slt arg2 c3_i32
  let v12 : BitVec 1 := Scalar.andi v10 v11
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c1_i32 : BitVec 32 := 1#32
  let c0_i32 : BitVec 32 := 0#32
  ![v4.toNat, c1_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c2_i32 : BitVec 32 := 2#32
  let c0_i32 : BitVec 32 := 0#32
  ![v4.toNat, c2_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c32_i32 : BitVec 32 := 32#32
  let v5 : BitVec 32 := Scalar.muli v4 c32_i32
  let c1_i32 : BitVec 32 := 1#32
  let v6 : BitVec 32 := Scalar.subi v5 c1_i32
  let c0_i32 : BitVec 32 := 0#32
  let v7 : BitVec 32 := Scalar.maxsi v6 c0_i32
  let c1_i32_1 : BitVec 32 := 1#32
  let c0_i32_2 : BitVec 32 := 0#32
  ![v7.toNat, c1_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c32_i32 : BitVec 32 := 32#32
  let v5 : BitVec 32 := Scalar.muli v4 c32_i32
  let c1_i32 : BitVec 32 := 1#32
  let v6 : BitVec 32 := Scalar.subi v5 c1_i32
  let c0_i32 : BitVec 32 := 0#32
  let v7 : BitVec 32 := Scalar.maxsi v6 c0_i32
  let c2_i32 : BitVec 32 := 2#32
  let c0_i32_1 : BitVec 32 := 0#32
  ![v7.toNat, c2_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.subi c31_i32 v3
  let c0_i32 : BitVec 32 := 0#32
  let c0_i32_1 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== ReferenceIdeal.lean ====
abbrev S8192x2048 : Shape := ⟨2, ![8192, 2048]⟩
abbrev S8192x8192 : Shape := ⟨2, ![8192, 8192]⟩
abbrev S8192x6144 : Shape := ⟨2, ![8192, 6144]⟩
abbrev S1x1024x3 : Shape := ⟨3, ![1, 1024, 3]⟩
abbrev S1x1024 : Shape := ⟨2, ![1, 1024]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x1024 : Shape := ⟨2, ![8192, 1024]⟩
abbrev S1024x3 : Shape := ⟨2, ![1024, 3]⟩
abbrev S1024 : Shape := ⟨1, ![1024]⟩
abbrev S_ : Shape := ⟨0, ![]⟩
abbrev S2x1024 : Shape := ⟨2, ![2, 1024]⟩
abbrev S8194x1024 : Shape := ⟨2, ![8194, 1024]⟩
abbrev S1024x1 : Shape := ⟨2, ![1024, 1]⟩
abbrev S8192x8x128 : Shape := ⟨3, ![8192, 8, 128]⟩
abbrev S8192x8 : Shape := ⟨2, ![8192, 8]⟩
abbrev S8192x8x1 : Shape := ⟨3, ![8192, 8, 1]⟩
abbrev S3x1024 : Shape := ⟨2, ![3, 1024]⟩

abbrev nBuf : Space → Nat
  | .hbm => 160
  | .vmem => 0
  | .smem => 0
  | _ => 0

abbrev hbmTy0_0 (i : Nat) : BufTy := match i % 128 with
  | 0 => ⟨S8192x2048, .bf16⟩
  | 1 => ⟨S8192x8192, .bf16⟩
  | 2 => ⟨S8192x2048, .bf16⟩
  | 3 => ⟨S8192x6144, .f32⟩
  | 4 => ⟨S1x1024x3, .f32⟩
  | 5 => ⟨S1x1024, .f32⟩
  | 6 => ⟨S8192x2048, .f32⟩
  | 7 => ⟨S8192x8192, .f32⟩
  | 8 => ⟨S2048x8192, .f32⟩
  | 9 => ⟨S2048x4x2048, .f32⟩
  | 10 => ⟨S4x2048x2048, .f32⟩
  | 11 => ⟨S4x2048x2048, .bf16⟩
  | 12 => ⟨S8192x1024, .bf16⟩
  | 13 => ⟨S8192x1024, .f32⟩
  | 14 => ⟨S8192x1024, .f32⟩
  | 15 => ⟨S8192x1024, .f32⟩
  | 16 => ⟨S8192x1024, .f32⟩
  | 17 => ⟨S1024x3, .f32⟩
  | 18 => ⟨S1024, .f32⟩
  | 19 => ⟨S8192x1024, .f32⟩
  | 20 => ⟨S_, .f32⟩
  | 21 => ⟨S2x1024, .f32⟩
  | 22 => ⟨S8194x1024, .f32⟩
  | 23 => ⟨S_, .f32⟩
  | 24 => ⟨S2x1024, .f32⟩
  | 25 => ⟨S8192x1024, .f32⟩
  | 26 => ⟨S1024x1, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S1024x1, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1024x1, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S8192x8x128, .f32⟩
  | 50 => ⟨S8192x8x128, .f32⟩
  | 51 => ⟨S_, .f32⟩
  | 52 => ⟨S8192x8, .f32⟩
  | 53 => ⟨S8192x8x1, .f32⟩
  | 54 => ⟨S_, .f32⟩
  | 55 => ⟨S8192x8x1, .f32⟩
  | 56 => ⟨S8192x8x1, .f32⟩
  | 57 => ⟨S_, .f32⟩
  | 58 => ⟨S8192x8x1, .f32⟩
  | 59 => ⟨S8192x8x1, .f32⟩
  | 60 => ⟨S8192x8x1, .f32⟩
  | 61 => ⟨S8192x8x1, .f32⟩
  | 62 => ⟨S_, .f32⟩
  | 63 => ⟨S8192x8x1, .f32⟩
  | 64 => ⟨S8192x8x1, .f32⟩
  | 65 => ⟨S8192x8x128, .f32⟩
  | 66 => ⟨S8192x8x128, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S_, .f32⟩
  | 78 => ⟨S1024, .f32⟩
  | 79 => ⟨S8192x8x128, .f32⟩
  | 80 => ⟨S8192x8x128, .f32⟩
  | 81 => ⟨S_, .f32⟩
  | 82 => ⟨S8192x8, .f32⟩
  | 83 => ⟨S8192x8x1, .f32⟩
  | 84 => ⟨S8192x8x128, .f32⟩
  | 85 => ⟨S8192x8x128, .f32⟩
  | 86 => ⟨S8192x8x1, .f32⟩
  | 87 => ⟨S_, .f32⟩
  | 88 => ⟨S8192x8x1, .f32⟩
  | 89 => ⟨S8192x8x1, .f32⟩
  | 90 => ⟨S_, .f32⟩
  | 91 => ⟨S8192x8, .f32⟩
  | 92 => ⟨S8192x8x128, .f32⟩
  | 93 => ⟨S8192x8x128, .f32⟩
  | 94 => ⟨S8192x8x128, .f32⟩
  | 95 => ⟨S8192x8x128, .f32⟩
  | 96 => ⟨S8192x8x128, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S1024x1, .f32⟩
  | 109 => ⟨S_, .f32⟩
  | 110 => ⟨S1024x3, .f32⟩
  | 111 => ⟨S_, .f32⟩
  | 112 => ⟨S8194x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S1024x1, .f32⟩
  | 122 => ⟨S_, .f32⟩
  | 123 => ⟨S1024x3, .f32⟩
  | 124 => ⟨S1024x3, .f32⟩
  | 125 => ⟨S_, .f32⟩
  | 126 => ⟨S8194x1024, .f32⟩
  | 127 => ⟨S8194x1024, .f32⟩
  | _ => ⟨S8192x2048, .bf16⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S1024x1, .f32⟩
  | 9 => ⟨S_, .f32⟩
  | 10 => ⟨S1024x3, .f32⟩
  | 11 => ⟨S1024x3, .f32⟩
  | 12 => ⟨S_, .f32⟩
  | 13 => ⟨S8194x1024, .f32⟩
  | 14 => ⟨S8194x1024, .f32⟩
  | 15 => ⟨S2x1024, .f32⟩
  | 16 => ⟨S8192x1024, .f32⟩
  | 17 => ⟨S8192x1024, .f32⟩
  | 18 => ⟨S8192x1024, .f32⟩
  | 19 => ⟨S1x1024, .f32⟩
  | 20 => ⟨S1x1024x3, .f32⟩
  | 21 => ⟨S_, .f32⟩
  | 22 => ⟨S8192x6144, .f32⟩
  | 23 => ⟨S_, .f32⟩
  | 24 => ⟨S8192x6144, .f32⟩
  | 25 => ⟨S8192x6144, .f32⟩
  | 26 => ⟨S_, .f32⟩
  | 27 => ⟨S8192x6144, .f32⟩
  | 28 => ⟨S8192x6144, .f32⟩
  | 29 => ⟨S8192x6144, .bf16⟩
  | 30 => ⟨S1024x3, .f32⟩
  | 31 => ⟨S3x1024, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_cst_15 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_16 : Ref sig .tc := ⟨.hbm, 119, rfl⟩
abbrev main_v96 : Ref sig .tc := ⟨.hbm, 120, rfl⟩
abbrev main_v97 : Ref sig .tc := ⟨.hbm, 121, rfl⟩
abbrev main_cst_17 : Ref sig .tc := ⟨.hbm, 122, rfl⟩
abbrev main_v98 : Ref sig .tc := ⟨.hbm, 123, rfl⟩
abbrev main_v99 : Ref sig .tc := ⟨.hbm, 124, rfl⟩
abbrev main_cst_18 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_cst_21 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_23 : Ref sig .tc := ⟨.hbm, 149, rfl⟩
abbrev main_v119 : Ref sig .tc := ⟨.hbm, 150, rfl⟩
abbrev main_cst_24 : Ref sig .tc := ⟨.hbm, 151, rfl⟩
abbrev main_v120 : Ref sig .tc := ⟨.hbm, 152, rfl⟩
abbrev main_v121 : Ref sig .tc := ⟨.hbm, 153, rfl⟩
abbrev main_cst_25 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .f32⟩
  | .hbm, ⟨4, _⟩ => ⟨S8192x2048, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x8192 : Shape := ⟨2, ![8192, 8192]⟩
abbrev S4x2048x2048 : Shape := ⟨3, ![4, 2048, 2048]⟩
abbrev S8192x2048 : Shape := ⟨2, ![8192, 2048]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S_, .f32⟩
  | .hbm, ⟨6, _⟩ => ⟨S8192x2048, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S8192x8192 : Shape := ⟨2, ![8192, 8192]⟩
abbrev S8192x2048 : Shape := ⟨2, ![8192, 2048]⟩
abbrev S1x2048 : Shape := ⟨2, ![1, 2048]⟩
abbrev S1024x1024 : Shape := ⟨2, ![1024, 1024]⟩
abbrev S1024x2048 : Shape := ⟨2, ![1024, 2048]⟩
abbrev S128x2048 : Shape := ⟨2, ![128, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2x8x2048 : Shape := ⟨3, ![2, 8, 2048]⟩
abbrev S2048 : Shape := ⟨1, ![2048]⟩

abbrev nBuf : Space → Nat
  | .hbm => 8
  | .vmem => 18
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .bf16⟩
  | .hbm, ⟨6, _⟩ => ⟨S8192x2048, .f32⟩
  | .hbm, ⟨7, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S1024x2048, .bf16⟩
  | .local _ .vmem, ⟨12, _⟩ => ⟨S1024x2048, .bf16⟩
  | .local _ .vmem, ⟨13, _⟩ => ⟨S128x2048, .f32⟩
  | .local _ .vmem, ⟨14, _⟩ => ⟨S128x2048, .f32⟩
  | .local _ .vmem, ⟨15, _⟩ => ⟨S1x2048, .f32⟩
  | .local _ .vmem, ⟨16, _⟩ => ⟨S1024x2048, .f32⟩
  | .local _ .vmem, ⟨17, _⟩ => ⟨S8x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 8], ![false, false, false]⟩

def k0_cond4 (i : grid0.Coords) : BitVec 1 :=
  let arg2 : BitVec 32 := BitVec.ofNat 32 (i 2).val
  let c7_i32_5 : BitVec 32 := 7#32
  let v15 : BitVec 1 := Scalar.cmpi .eq arg2 c7_i32_5
  let v16 : BitVec 32 := Scalar.extui v15
  let c0_i32_6 : BitVec 32 := 0#32
  let v17 : BitVec 1 := Scalar.cmpi .ne v16 c0_i32_6
  v17

def k0_cond2 (i : grid0.Coords) : BitVec 1 :=
  let arg2 : BitVec 32 := BitVec.ofNat 32 (i 2).val
  let c0_i32_1 : BitVec 32 := 0#32
  let v7 : BitVec 1 := Scalar.cmpi .eq arg2 c0_i32_1
  let v8 : BitVec 32 := Scalar.extui v7
  let c0_i32_2 : BitVec 32 := 0#32
  let v9 : BitVec 1 := Scalar.cmpi .ne v8 c0_i32_2
  v9

def k0_cond3 (i : grid0.Coords) : BitVec 1 :=
  let arg2 : BitVec 32 := BitVec.ofNat 32 (i 2).val
  let c0_i32_3 : BitVec 32 := 0#32
  let v10 : BitVec 1 := Scalar.cmpi .sgt arg2 c0_i32_3
  let c7_i32 : BitVec 32 := 7#32
  let v11 : BitVec 1 := Scalar.cmpi .slt arg2 c7_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference6Ideal.lean ====
abbrev S8192x8192 : Shape := ⟨2, ![8192, 8192]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel7.lean ====
abbrev S8192x2048 : Shape := ⟨2, ![8192, 2048]⟩
abbrev S128x2048 : Shape := ⟨2, ![128, 2048]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S128x2048 : Shape := ⟨2, ![128, 2048]⟩
abbrev S2048x128 : Shape := ⟨2, ![2048, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .f32⟩
  | .hbm, ⟨3, _⟩ => ⟨S128x2048, .f32⟩
  | .hbm, ⟨4, _⟩ => ⟨S2048x128, .f32⟩
  | .hbm, ⟨5, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Walk.lean ====
/- The run of the kernel point by point: what each of the four kinds of grid point leaves in the four output blocks and
   in the four scratch buffers that are carried from one point to the next, the recursion over the grid that follows from
   it, and from that the launch: every execution terminates, with the arrays at what the recursion computes and with
   every semaphore counter at zero. -/
module

public import proofs.«01_k».proof.Proof.Gen.KernelIdeal.Frame.RunD
public import Idealize.ShloMosaic.Lib.Claim

@[expose] public section

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four kinds of grid point

A: the first point of the grid (the accumulators are cleared). D: the first point of another output tile. B: the second
and the third point of an output tile. C: its last point (the product is written back). -/

/-- The contents of the four output blocks: of the product, of the projection's gradient, of the gradients of the taps
    and of the gain. -/
abbrev Out (F : FTy → Type) [FloatOps F] : Type :=
  Vec F S1x1024x2048 .bf16 × Vec F S256x3072 .bf16 × Vec F S3x1024 .f32 × Vec F S1x1024 .f32

/-- The contents of the four carried buffers: the product's accumulator, the first eight rows of the convolution's
    cotangent of the tile before, the accumulators of the taps' and of the gain's gradients. -/
abbrev Scr (F : FTy → Type) [FloatOps F] : Type :=
  Vec F S1024x2048 .f32 × Vec F S8x1024 .f32 × Vec F S24x1024 .f32 × Vec F S8x1024 .f32

/-- The body's run at the first point of the grid. -/
abbrev runA (c : Dev nD) (t : Fin cfg0.N) (h : conds0_A (grid0.coords t)) :=
kernelRun0_A c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) scM0_2 (Memref.isWhole_whole _) scM0_3
    (Memref.isWhole_whole _) h.1 h.2.1 h.2.2.1 h.2.2.2 (iblk m c 0 t) (iblk m c 1 t) (iblk m c 2 t) (iblk m c 3 t)
    (iblk m c 4 t) (iblk m c 5 t) (iblk m c 6 t) (iblk m c 7 t) (iblk m c 8 t) (iblk m c 9 t)

/-- The body's run at an inner point of an output tile. -/
abbrev runB (c : Dev nD) (t : Fin cfg0.N) (h : conds0_B (grid0.coords t)) (s : Scr F) :=
kernelRun0_B c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) scM0_2 (Memref.isWhole_whole _) scM0_3
    (Memref.isWhole_whole _) h.1 h.2.1 h.2.2.1 h.2.2.2 (iblk m c 0 t) (iblk m c 1 t) (iblk m c 2 t) (iblk m c 3 t)
    (iblk m c 4 t) (iblk m c 5 t) (iblk m c 6 t) (iblk m c 7 t) (iblk m c 8 t) (iblk m c 9 t) s.1 s.2.1 s.2.2.1
    s.2.2.2

/-- The body's run at the last point of an output tile. -/
abbrev runC (c : Dev nD) (t : Fin cfg0.N) (h : conds0_C (grid0.coords t)) (s : Scr F) :=
kernelRun0_C c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) scM0_2 (Memref.isWhole_whole _) scM0_3
    (Memref.isWhole_whole _) h.1 h.2.1 h.2.2.1 h.2.2.2 (iblk m c 0 t) (iblk m c 1 t) (iblk m c 2 t) (iblk m c 3 t)
    (iblk m c 4 t) (iblk m c 5 t) (iblk m c 6 t) (iblk m c 7 t) (iblk m c 8 t) (iblk m c 9 t) s.1 s.2.1 s.2.2.1
    s.2.2.2

/-- The body's run at the first point of a later output tile. -/
abbrev runD (c : Dev nD) (t : Fin cfg0.N) (h : conds0_D (grid0.coords t)) (s : Scr F) :=
kernelRun0_D c (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) scM0_2 (Memref.isWhole_whole _) scM0_3
    (Memref.isWhole_whole _) h.1 h.2.1 h.2.2.1 h.2.2.2 (iblk m c 0 t) (iblk m c 1 t) (iblk m c 2 t) (iblk m c 3 t)
    (iblk m c 4 t) (iblk m c 5 t) (iblk m c 6 t) (iblk m c 7 t) (iblk m c 8 t) (iblk m c 9 t) s.2.1 s.2.2.1 s.2.2.2

/-- What the first point of the grid leaves in the buffer `product`. -/
def productA (c : Dev nD) (t : Fin cfg0.N) (h : conds0_A (grid0.coords t)) : Vec F S1x1024x2048 .bf16 :=
  VO0_10.read (Elt F) (VO0_10.writes (Elt F) VO0_10.junk (runA m c t h).1)

/-- What the first point of the grid leaves in the buffer `proj`. -/
def projA (c : Dev nD) (t : Fin cfg0.N) (h : conds0_A (grid0.coords t)) : Vec F S256x3072 .bf16 :=
  VO0_11.read (Elt F) (VO0_11.writes (Elt F) VO0_11.junk (runA m c t h).2.1)

theorem projA_cover (c : Dev nD) (t : Fin cfg0.N) (h : conds0_A (grid0.coords t)) (y : S256x3072.Idx) :
    ∃ pc ∈ (runA m c t h).2.1, y ∈ pc.1.set :=
  View.cover_of_tiledL (runA m c t h).2.1 S256x128.size (by sl_kernel_rfl) y

/-- What the first point of the grid leaves in the buffer `taps`. -/
def tapsA (c : Dev nD) (t : Fin cfg0.N) (h : conds0_A (grid0.coords t)) : Vec F S3x1024 .f32 :=
  VO0_12.read (Elt F) (VO0_12.writes (Elt F) VO0_12.junk (runA m c t h).2.2.1)

theorem tapsA_cover (c : Dev nD) (t : Fin cfg0.N) (h : conds0_A (grid0.coords t)) (y : S3x1024.Idx) :
    ∃ pc ∈ (runA m c t h).2.2.1, y ∈ pc.1.set :=
  View.cover_of_tiledL (runA m c t h).2.2.1 S1x1024.size (by sl_kernel_rfl) y

/-- What the first point of the grid leaves in the buffer `gain`. -/
def gainA (c : Dev nD) (t : Fin cfg0.N) (h : conds0_A (grid0.coords t)) : Vec F S1x1024 .f32 :=
  VO0_13.read (Elt F) (VO0_13.writes (Elt F) VO0_13.junk (runA m c t h).2.2.2.1)

theorem gainA_cover (c : Dev nD) (t : Fin cfg0.N) (h : conds0_A (grid0.coords t)) (y : S1x1024.Idx) :
    ∃ pc ∈ (runA m c t h).2.2.2.1, y ∈ pc.1.set :=
  View.cover_of_tiledL (runA m c t h).2.2.2.1 S1x1024.size (by sl_kernel_rfl) y

/-- What the first point of the grid leaves in the buffer `acc`. -/
def accA (c : Dev nD) (t : Fin cfg0.N) (h : conds0_A (grid0.coords t)) : Vec F S1024x2048 .f32 :=
  VS0_0.read (Elt F) (VS0_0.writes (Elt F) VS0_0.junk (runA m c t h).2.2.2.2.1)

theorem accA_cover (c : Dev nD) (t : Fin cfg0.N) (h : conds0_A (grid0.coords t)) (y : S1024x2048.Idx) :
    ∃ pc ∈ (runA m c t h).2.2.2.2.1, y ∈ pc.1.set :=
  View.cover_of_tiledL (runA m c t h).2.2.2.2.1 S1024x2048.size (by sl_kernel_rfl) y

/-- What the first point of the grid leaves in the buffer `carry`. -/
def carryA (c : Dev nD) (t : Fin cfg0.N) (h : conds0_A (grid0.coords t)) : Vec F S8x1024 .f32 :=
  VS0_1.read (Elt F) (VS0_1.writes (Elt F) VS0_1.junk (runA m c t h).2.2.2.2.2.1)

theorem carryA_cover (c : Dev nD) (t : Fin cfg0.N) (h : conds0_A (grid0.coords t)) (y : S8x1024.Idx) :
    ∃ pc ∈ (runA m c t h).2.2.2.2.2.1, y ∈ pc.1.set :=
  View.cover_of_wholeMem (runA m c t h).2.2.2.2.2.1 (by sl_whole_mem) y

/-- What the first point of the grid leaves in the buffer `tapsAcc`. -/
def tapsAccA (c : Dev nD) (t : Fin cfg0.N) (h : conds0_A (grid0.coords t)) : Vec F S24x1024 .f32 :=
  VS0_2.read (Elt F) (VS0_2.writes (Elt F) VS0_2.junk (runA m c t h).2.2.2.2.2.2.1)

theorem tapsAccA_cover (c : Dev nD) (t : Fin cfg0.N) (h : conds0_A (grid0.coords t)) (y : S24x1024.Idx) :
    ∃ pc ∈ (runA m c t h).2.2.2.2.2.2.1, y ∈ pc.1.set :=
  View.cover_of_wholeMem (runA m c t h).2.2.2.2.2.2.1 (by sl_whole_mem) y

/-- What the first point of the grid leaves in the buffer `gainAcc`. -/
def gainAccA (c : Dev nD) (t : Fin cfg0.N) (h : conds0_A (grid0.coords t)) : Vec F S8x1024 .f32 :=
  VS0_3.read (Elt F) (VS0_3.writes (Elt F) VS0_3.junk (runA m c t h).2.2.2.2.2.2.2.1)

theorem gainAccA_cover (c : Dev nD) (t : Fin cfg0.N) (h : conds0_A (grid0.coords t)) (y : S8x1024.Idx) :
    ∃ pc ∈ (runA m c t h).2.2.2.2.2.2.2.1, y ∈ pc.1.set :=
  View.cover_of_wholeMem (runA m c t h).2.2.2.2.2.2.2.1 (by sl_whole_mem) y

/-- All that the first point of the grid leaves. -/
def pointA (c : Dev nD) (t : Fin cfg0.N) (h : conds0_A (grid0.coords t)) : Out F × Scr F :=
  ((productA m c t h, projA m c t h, tapsA m c t h, gainA m c t h),
    (accA m c t h, carryA m c t h, tapsAccA m c t h, gainAccA m c t h))

/-- What an inner point of an output tile leaves in the buffer `product`. -/
def productB (c : Dev nD) (t : Fin cfg0.N) (h : conds0_B (grid0.coords t)) (s : Scr F) : Vec F S1x1024x2048 .bf16 :=
  VO0_10.read (Elt F) (VO0_10.writes (Elt F) VO0_10.junk (runB m c t h s).1)

/-- What an inner point of an output tile leaves in the buffer `proj`. -/
def projB (c : Dev nD) (t : Fin cfg0.N) (h : conds0_B (grid0.coords t)) (s : Scr F) : Vec F S256x3072 .bf16 :=
  VO0_11.read (Elt F) (VO0_11.writes (Elt F) VO0_11.junk (runB m c t h s).2.1)

theorem projB_cover (c : Dev nD) (t : Fin cfg0.N) (h : conds0_B (grid0.coords t)) (s : Scr F) (y : S256x3072.Idx) :
    ∃ pc ∈ (runB m c t h s).2.1, y ∈ pc.1.set :=
  View.cover_of_tiledL (runB m c t h s).2.1 S256x128.size (by sl_kernel_rfl) y

/-- What an inner point of an output tile leaves in the buffer `taps`. -/
def tapsB (c : Dev nD) (t : Fin cfg0.N) (h : conds0_B (grid0.coords t)) (s : Scr F) : Vec F S3x1024 .f32 :=
  VO0_12.read (Elt F) (VO0_12.writes (Elt F) VO0_12.junk (runB m c t h s).2.2.1)

theorem tapsB_cover (c : Dev nD) (t : Fin cfg0.N) (h : conds0_B (grid0.coords t)) (s : Scr F) (y : S3x1024.Idx) :
    ∃ pc ∈ (runB m c t h s).2.2.1, y ∈ pc.1.set :=
  View.cover_of_tiledL (runB m c t h s).2.2.1 S1x1024.size (by sl_kernel_rfl) y

/-- What an inner point of an output tile leaves in the buffer `gain`. -/
def gainB (c : Dev nD) (t : Fin cfg0.N) (h : conds0_B (grid0.coords t)) (s : Scr F) : Vec F S1x1024 .f32 :=
  VO0_13.read (Elt F) (VO0_13.writes (Elt F) VO0_13.junk (runB m c t h s).2.2.2.1)

theorem gainB_cover (c : Dev nD) (t : Fin cfg0.N) (h : conds0_B (grid0.coords t)) (s : Scr F) (y : S1x1024.Idx) :
    ∃ pc ∈ (runB m c t h s).2.2.2.1, y ∈ pc.1.set :=
  View.cover_of_tiledL (runB m c t h s).2.2.2.1 S1x1024.size (by sl_kernel_rfl) y

/-- What an inner point of an output tile leaves in the buffer `acc`. -/
def accB (c : Dev nD) (t : Fin cfg0.N) (h : conds0_B (grid0.coords t)) (s : Scr F) : Vec F S1024x2048 .f32 :=
  VS0_0.read (Elt F) (VS0_0.writes (Elt F) VS0_0.junk (runB m c t h s).2.2.2.2.1)

theorem accB_cover (c : Dev nD) (t : Fin cfg0.N) (h : conds0_B (grid0.coords t)) (s : Scr F) (y : S1024x2048.Idx) :
    ∃ pc ∈ (runB m c t h s).2.2.2.2.1, y ∈ pc.1.set :=
  View.cover_of_tiledL (runB m c t h s).2.2.2.2.1 S1024x2048.size (by sl_kernel_rfl) y

/-- What an inner point of an output tile leaves in the buffer `carry`. -/
def carryB (c : Dev nD) (t : Fin cfg0.N) (h : conds0_B (grid0.coords t)) (s : Scr F) : Vec F S8x1024 .f32 :=
  VS0_1.read (Elt F) (VS0_1.writes (Elt F) VS0_1.junk (runB m c t h s).2.2.2.2.2.1)

theorem carryB_cover (c : Dev nD) (t : Fin cfg0.N) (h : conds0_B (grid0.coords t)) (s : Scr F) (y : S8x1024.Idx) :
    ∃ pc ∈ (runB m c t h s).2.2.2.2.2.1, y ∈ pc.1.set :=
  View.cover_of_tiledL (runB m c t h s).2.2.2.2.2.1 S8x128.size (by sl_kernel_rfl) y

/-- What an inner point of an output tile leaves in the buffer `tapsAcc`. -/
def tapsAccB (c : Dev nD) (t : Fin cfg0.N) (h : conds0_B (grid0.coords t)) (s : Scr F) : Vec F S24x1024 .f32 :=
  VS0_2.read (Elt F) (VS0_2.writes (Elt F) VS0_2.junk (runB m c t h s).2.2.2.2.2.2.1)

theorem tapsAccB_cover (c : Dev nD) (t : Fin cfg0.N) (h : conds0_B (grid0.coords t)) (s : Scr F) (y : S24x1024.Idx) :
    ∃ pc ∈ (runB m c t h s).2.2.2.2.2.2.1, y ∈ pc.1.set :=
  View.cover_of_tiledL (runB m c t h s).2.2.2.2.2.2.1 S8x128.size (by sl_kernel_rfl) y

/-- What an inner point of an output tile leaves in the buffer `gainAcc`. -/
def gainAccB (c : Dev nD) (t : Fin cfg0.N) (h : conds0_B (grid0.coords t)) (s : Scr F) : Vec F S8x1024 .f32 :=
  VS0_3.read (Elt F) (VS0_3.writes (Elt F) VS0_3.junk (runB m c t h s).2.2.2.2.2.2.2.1)

theorem gainAccB_cover (c : Dev nD) (t : Fin cfg0.N) (h : conds0_B (grid0.coords t)) (s : Scr F) (y : S8x1024.Idx) :
    ∃ pc ∈ (runB m c t h s).2.2.2.2.2.2.2.1, y ∈ pc.1.set :=
  View.cover_of_tiledL (runB m c t h s).2.2.2.2.2.2.2.1 S8x128.size (by sl_kernel_rfl) y

/-- All that an inner point of an output tile leaves. -/
def pointB (c : Dev nD) (t : Fin cfg0.N) (h : conds0_B (grid0.coords t)) (s : Scr F) : Out F × Scr F :=
  ((productB m c t h s, projB m c t h s, tapsB m c t h s, gainB m c t h s),
    (accB m c t h s, carryB m c t h s, tapsAccB m c t h s, gainAccB m c t h s))

/-- What the last point of an output tile leaves in the buffer `product`. -/
def productC (c : Dev nD) (t : Fin cfg0.N) (h : conds0_C (grid0.coords t)) (s : Scr F) : Vec F S1x1024x2048 .bf16 :=
  VO0_10.read (Elt F) (VO0_10.writes (Elt F) VO0_10.junk (runC m c t h s).1)

theorem productC_cover (c : Dev nD) (t : Fin cfg0.N) (h : conds0_C (grid0.coords t)) (s : Scr F) (y : S1x1024x2048.Idx) :
    ∃ pc ∈ (runC m c t h s).1, y ∈ pc.1.set :=
  View.cover_of_tiledL (runC m c t h s).1 S1x1024x2048.size (by sl_kernel_rfl) y

/-- What the last point of an output tile leaves in the buffer `proj`. -/
def projC (c : Dev nD) (t : Fin cfg0.N) (h : conds0_C (grid0.coords t)) (s : Scr F) : Vec F S256x3072 .bf16 :=
  VO0_11.read (Elt F) (VO0_11.writes (Elt F) VO0_11.junk (runC m c t h s).2.1)

theorem projC_cover (c : Dev nD) (t : Fin cfg0.N) (h : conds0_C (grid0.coords t)) (s : Scr F) (y : S256x3072.Idx) :
    ∃ pc ∈ (runC m c t h s).2.1, y ∈ pc.1.set :=
  View.cover_of_tiledL (runC m c t h s).2.1 S256x128.size (by sl_kernel_rfl) y

/-- What the last point of an output tile leaves in the buffer `taps`. -/
def tapsC (c : Dev nD) (t : Fin cfg0.N) (h : conds0_C (grid0.coords t)) (s : Scr F) : Vec F S3x1024 .f32 :=
  VO0_12.read (Elt F) (VO0_12.writes (Elt F) VO0_12.junk (runC m c t h s).2.2.1)

theorem tapsC_cover (c : Dev nD) (t : Fin cfg0.N) (h : conds0_C (grid0.coords t)) (s : Scr F) (y : S3x1024.Idx) :
    ∃ pc ∈ (runC m c t h s).2.2.1, y ∈ pc.1.set :=
  View.cover_of_tiledL (runC m c t h s).2.2.1 S1x1024.size (by sl_kernel_rfl) y

/-- What the last point of an output tile leaves in the buffer `gain`. -/
def gainC (c : Dev nD) (t : Fin cfg0.N) (h : conds0_C (grid0.coords t)) (s : Scr F) : Vec F S1x1024 .f32 :=
  VO0_13.read (Elt F) (VO0_13.writes (Elt F) VO0_13.junk (runC m c t h s).2.2.2.1)

theorem gainC_cover (c : Dev nD) (t : Fin cfg0.N) (h : conds0_C (grid0.coords t)) (s : Scr F) (y : S1x1024.Idx) :
    ∃ pc ∈ (runC m c t h s).2.2.2.1, y ∈ pc.1.set :=
  View.cover_of_tiledL (runC m c t h s).2.2.2.1 S1x1024.size (by sl_kernel_rfl) y

/-- What the last point of an output tile leaves in the buffer `carry`. -/
def carryC (c : Dev nD) (t : Fin cfg0.N) (h : conds0_C (grid0.coords t)) (s : Scr F) : Vec F S8x1024 .f32 :=
  VS0_1.read (Elt F) (VS0_1.writes (Elt F) VS0_1.junk (runC m c t h s).2.2.2.2.2.1)

theorem carryC_cover (c : Dev nD) (t : Fin cfg0.N) (h : conds0_C (grid0.coords t)) (s : Scr F) (y : S8x1024.Idx) :
    ∃ pc ∈ (runC m c t h s).2.2.2.2.2.1, y ∈ pc.1.set :=
  View.cover_of_tiledL (runC m c t h s).2.2.2.2.2.1 S8x128.size (by sl_kernel_rfl) y

/-- What the last point of an output tile leaves in the buffer `tapsAcc`. -/
def tapsAccC (c : Dev nD) (t : Fin cfg0.N) (h : conds0_C (grid0.coords t)) (s : Scr F) : Vec F S24x1024 .f32 :=
  VS0_2.read (Elt F) (VS0_2.writes (Elt F) VS0_2.junk (runC m c t h s).2.2.2.2.2.2.1)

theorem tapsAccC_cover (c : Dev nD) (t : Fin cfg0.N) (h : conds0_C (grid0.coords t)) (s : Scr F) (y : S24x1024.Idx) :
    ∃ pc ∈ (runC m c t h s).2.2.2.2.2.2.1, y ∈ pc.1.set :=
  View.cover_of_tiledL (runC m c t h s).2.2.2.2.2.2.1 S8x128.size (by sl_kernel_rfl) y

/-- What the last point of an output tile leaves in the buffer `gainAcc`. -/
def gainAccC (c : Dev nD) (t : Fin cfg0.N) (h : conds0_C (grid0.coords t)) (s : Scr F) : Vec F S8x1024 .f32 :=
  VS0_3.read (Elt F) (VS0_3.writes (Elt F) VS0_3.junk (runC m c t h s).2.2.2.2.2.2.2.1)

theorem gainAccC_cover (c : Dev nD) (t : Fin cfg0.N) (h : conds0_C (grid0.coords t)) (s : Scr F) (y : S8x1024.Idx) :
    ∃ pc ∈ (runC m c t h s).2.2.2.2.2.2.2.1, y ∈ pc.1.set :=
  View.cover_of_tiledL (runC m c t h s).2.2.2.2.2.2.2.1 S8x128.size (by sl_kernel_rfl) y

/-- All that the last point of an output tile leaves. -/
def pointC (c : Dev nD) (t : Fin cfg0.N) (h : conds0_C (grid0.coords t)) (s : Scr F) : Out F × Scr F :=
  ((productC m c t h s, projC m c t h s, tapsC m c t h s, gainC m c t h s),
    (s.1, carryC m c t h s, tapsAccC m c t h s, gainAccC m c t h s))

/-- What the first point of a later output tile leaves in the buffer `product`. -/
def productD (c : Dev nD) (t : Fin cfg0.N) (h : conds0_D (grid0.coords t)) (s : Scr F) : Vec F S1x1024x2048 .bf16 :=
  VO0_10.read (Elt F) (VO0_10.writes (Elt F) VO0_10.junk (runD m c t h s).1)

/-- What the first point of a later output tile leaves in the buffer `proj`. -/
def projD (c : Dev nD) (t : Fin cfg0.N) (h : conds0_D (grid0.coords t)) (s : Scr F) : Vec F S256x3072 .bf16 :=
  VO0_11.read (Elt F) (VO0_11.writes (Elt F) VO0_11.junk (runD m c t h s).2.1)

theorem projD_cover (c : Dev nD) (t : Fin cfg0.N) (h : conds0_D (grid0.coords t)) (s : Scr F) (y : S256x3072.Idx) :
    ∃ pc ∈ (runD m c t h s).2.1, y ∈ pc.1.set :=
  View.cover_of_tiledL (runD m c t h s).2.1 S256x128.size (by sl_kernel_rfl) y

/-- What the first point of a later output tile leaves in the buffer `taps`. -/
def tapsD (c : Dev nD) (t : Fin cfg0.N) (h : conds0_D (grid0.coords t)) (s : Scr F) : Vec F S3x1024 .f32 :=
  VO0_12.read (Elt F) (VO0_12.writes (Elt F) VO0_12.junk (runD m c t h s).2.2.1)

theorem tapsD_cover (c : Dev nD) (t : Fin cfg0.N) (h : conds0_D (grid0.coords t)) (s : Scr F) (y : S3x1024.Idx) :
    ∃ pc ∈ (runD m c t h s).2.2.1, y ∈ pc.1.set :=
  View.cover_of_tiledL (runD m c t h s).2.2.1 S1x1024.size (by sl_kernel_rfl) y

/-- What the first point of a later output tile leaves in the buffer `gain`. -/
def gainD (c : Dev nD) (t : Fin cfg0.N) (h : conds0_D (grid0.coords t)) (s : Scr F) : Vec F S1x1024 .f32 :=
  VO0_13.read (Elt F) (VO0_13.writes (Elt F) VO0_13.junk (runD m c t h s).2.2.2.1)

theorem gainD_cover (c : Dev nD) (t : Fin cfg0.N) (h : conds0_D (grid0.coords t)) (s : Scr F) (y : S1x1024.Idx) :
    ∃ pc ∈ (runD m c t h s).2.2.2.1, y ∈ pc.1.set :=
  View.cover_of_tiledL (runD m c t h s).2.2.2.1 S1x1024.size (by sl_kernel_rfl) y

/-- What the first point of a later output tile leaves in the buffer `acc`. -/
def accD (c : Dev nD) (t : Fin cfg0.N) (h : conds0_D (grid0.coords t)) (s : Scr F) : Vec F S1024x2048 .f32 :=
  VS0_0.read (Elt F) (VS0_0.writes (Elt F) VS0_0.junk (runD m c t h s).2.2.2.2.1)

theorem accD_cover (c : Dev nD) (t : Fin cfg0.N) (h : conds0_D (grid0.coords t)) (s : Scr F) (y : S1024x2048.Idx) :
    ∃ pc ∈ (runD m c t h s).2.2.2.2.1, y ∈ pc.1.set :=
  View.cover_of_tiledL (runD m c t h s).2.2.2.2.1 S1024x2048.size (by sl_kernel_rfl) y

/-- What the first point of a later output tile leaves in the buffer `carry`. -/
def carryD (c : Dev nD) (t : Fin cfg0.N) (h : conds0_D (grid0.coords t)) (s : Scr F) : Vec F S8x1024 .f32 :=
  VS0_1.read (Elt F) (VS0_1.writes (Elt F) VS0_1.junk (runD m c t h s).2.2.2.2.2.1)

theorem carryD_cover (c : Dev nD) (t : Fin cfg0.N) (h : conds0_D (grid0.coords t)) (s : Scr F) (y : S8x1024.Idx) :
    ∃ pc ∈ (runD m c t h s).2.2.2.2.2.1, y ∈ pc.1.set :=
  View.cover_of_tiledL (runD m c t h s).2.2.2.2.2.1 S8x128.size (by sl_kernel_rfl) y

/-- What the first point of a later output tile leaves in the buffer `tapsAcc`. -/
def tapsAccD (c : Dev nD) (t : Fin cfg0.N) (h : conds0_D (grid0.coords t)) (s : Scr F) : Vec F S24x1024 .f32 :=
  VS0_2.read (Elt F) (VS0_2.writes (Elt F) VS0_2.junk (runD m c t h s).2.2.2.2.2.2.1)

theorem tapsAccD_cover (c : Dev nD) (t : Fin cfg0.N) (h : conds0_D (grid0.coords t)) (s : Scr F) (y : S24x1024.Idx) :
    ∃ pc ∈ (runD m c t h s).2.2.2.2.2.2.1, y ∈ pc.1.set :=
  View.cover_of_tiledL (runD m c t h s).2.2.2.2.2.2.1 S8x128.size (by sl_kernel_rfl) y

/-- What the first point of a later output tile leaves in the buffer `gainAcc`. -/
def gainAccD (c : Dev nD) (t : Fin cfg0.N) (h : conds0_D (grid0.coords t)) (s : Scr F) : Vec F S8x1024 .f32 :=
  VS0_3.read (Elt F) (VS0_3.writes (Elt F) VS0_3.junk (runD m c t h s).2.2.2.2.2.2.2.1)

theorem gainAccD_cover (c : Dev nD) (t : Fin cfg0.N) (h : conds0_D (grid0.coords t)) (s : Scr F) (y : S8x1024.Idx) :
    ∃ pc ∈ (runD m c t h s).2.2.2.2.2.2.2.1, y ∈ pc.1.set :=
  View.cover_of_tiledL (runD m c t h s).2.2.2.2.2.2.2.1 S8x128.size (by sl_kernel_rfl) y

/-- All that the first point of a later output tile leaves. -/
def pointD (c : Dev nD) (t : Fin cfg0.N) (h : conds0_D (grid0.coords t)) (s : Scr F) : Out F × Scr F :=
  ((productD m c t h s, projD m c t h s, tapsD m c t h s, gainD m c t h s),
    (accD m c t h s, carryD m c t h s, tapsAccD m c t h s, gainAccD m c t h s))

/-! ## The recursion over the grid -/

/-- The four kinds are all the kinds there are. -/
theorem kinds (t : Fin cfg0.N) : conds0_A (grid0.coords t) ∨ conds0_B (grid0.coords t) ∨ conds0_C (grid0.coords t)
    ∨ conds0_D (grid0.coords t) := by
  have hN : t.val < 32 := lt_of_lt_of_eq t.isLt (show cfg0.N = 32 from N_0)
  simp only [conds0_A, conds0_B, conds0_C, conds0_D, hcond0_0, hcond0_1, hcond0_2, hcond0_3]
  omega

/-- The first kind is the first point. -/
theorem first_iff (t : Fin cfg0.N) : conds0_A (grid0.coords t) ↔ t.val = 0 := by
  have hN : t.val < 32 := lt_of_lt_of_eq t.isLt (show cfg0.N = 32 from N_0)
  simp only [conds0_A, hcond0_0, hcond0_1, hcond0_2, hcond0_3]
  omega

/-- What a point leaves, given what the point before left in the carried buffers. -/
def point (c : Dev nD) (t : Fin cfg0.N) (s : Scr F) : Out F × Scr F :=
  if hA : conds0_A (grid0.coords t) then pointA m c t hA
  else if hB : conds0_B (grid0.coords t) then pointB m c t hB s
  else if hC : conds0_C (grid0.coords t) then pointC m c t hC s
  else pointD m c t ((kinds t).elim (fun h => absurd h hA) fun h => h.elim (fun h => absurd h hB) fun h =>
    h.elim (fun h => absurd h hC) id) s

theorem point_A (c : Dev nD) (t : Fin cfg0.N) (h : conds0_A (grid0.coords t)) (s : Scr F) :
    point m c t s = pointA m c t h := by
  unfold point; rw [dif_pos h]

theorem point_B (c : Dev nD) (t : Fin cfg0.N) (h : conds0_B (grid0.coords t)) (s : Scr F) :
    point m c t s = pointB m c t h s := by
  unfold point; rw [dif_neg fun h' => h.1 h'.1, dif_pos h]

theorem point_C (c : Dev nD) (t : Fin cfg0.N) (h : conds0_C (grid0.coords t)) (s : Scr F) :
    point m c t s = pointC m c t h s := by
  unfold point; rw [dif_neg fun h' => h.1 h'.1, dif_neg fun h' => h.2.2.1 h'.2.2.1, dif_pos h]

theorem point_D (c : Dev nD) (t : Fin cfg0.N) (h : conds0_D (grid0.coords t)) (s : Scr F) :
    point m c t s = pointD m c t h s := by
  unfold point
  rw [dif_neg fun h' => h.1 h'.1, dif_neg fun h' => h'.2.1 h.2.1, dif_neg fun h' => h'.2.1 h.2.1]

/-- Some contents of the carried buffers, before the first point. -/
def start : Scr F :=
  (VS0_0.read (Elt F) VS0_0.junk, VS0_1.read (Elt F) VS0_1.junk, VS0_2.read (Elt F) VS0_2.junk,
    VS0_3.read (Elt F) VS0_3.junk)

/-- What the points up to the `n`-th leave. -/
def left (c : Dev nD) : (n : ℕ) → n < cfg0.N → Out F × Scr F
  | 0, h => point m c ⟨0, h⟩ start
  | n + 1, h => point m c ⟨n + 1, h⟩ (left c n (Nat.lt_of_succ_lt h)).2

/-- At the first point. -/
theorem left_first (c : Dev nD) (t : Fin cfg0.N) (h : t.val = 0) : left m c t.val t.isLt = point m c t start := by
  obtain ⟨n, hn⟩ := t
  subst h
  rfl

/-- At a later point. -/
theorem left_next (c : Dev nD) (t : Fin cfg0.N) (h : t.val ≠ 0) : left m c t.val t.isLt
    = point m c t (left m c (t.val - 1) (Nat.lt_of_le_of_lt (Nat.sub_le _ _) t.isLt)).2 := by
  obtain ⟨n, hn⟩ := t
  cases n with
  | zero => exact absurd rfl h
  | succ n => rw [left]; rfl

/-! ## The body at a point -/

/-- What holds before point `n`: before the first the scratch is there, with anything in it; before a later one it is at
    what the point before left. -/
def inv (c : Dev nD) : (n : ℕ) → n ≤ cfg0.N → sProp 𝕄
  | 0, _ => Pipeline.ΦA spec0 c
  | n + 1, h => iprop(iprop(owns (c : Thread nD τ) scM0_0 fullShare ((left m c n h).2.1)
        ∗ owns (c : Thread nD τ) scM0_1 fullShare ((left m c n h).2.2.1)
        ∗ owns (c : Thread nD τ) scM0_2 fullShare ((left m c n h).2.2.2.1)
        ∗ owns (c : Thread nD τ) scM0_3 fullShare ((left m c n h).2.2.2.2))
        ∗ (∃ r, prngReg c r))

theorem inv_first (c : Dev nD) (n : ℕ) (h : n ≤ cfg0.N) (h0 : n = 0) : inv m c n h = Pipeline.ΦA spec0 c := by
  subst h0; rfl

theorem inv_next (c : Dev nD) (n : ℕ) (h : n ≤ cfg0.N) (h0 : n ≠ 0) : inv m c n h
    = iprop(iprop(owns (c : Thread nD τ) scM0_0 fullShare ((left m c (n - 1) (by omega)).2.1)
        ∗ owns (c : Thread nD τ) scM0_1 fullShare ((left m c (n - 1) (by omega)).2.2.1)
        ∗ owns (c : Thread nD τ) scM0_2 fullShare ((left m c (n - 1) (by omega)).2.2.2.1)
        ∗ owns (c : Thread nD τ) scM0_3 fullShare ((left m c (n - 1) (by omega)).2.2.2.2))
        ∗ (∃ r, prngReg c r)) := by
  cases n with
  | zero => exact absurd rfl h0
  | succ n => rfl

/-- The launch's data: the arrays as the call finds them, each input's buffer at its block, each output's at what the
    recursion leaves, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (left m c t.val t.isLt).1.1
    | ⟨11, _⟩ => (left m c t.val t.isLt).1.2.1
    | ⟨12, _⟩ => (left m c t.val t.isLt).1.2.2.1
    | ⟨13, _⟩ => (left m c t.val t.isLt).1.2.2.2
  Φ t := inv m c t.val (Nat.le_of_lt_succ t.isLt)
  q w := Pipeline.shareOf spec0 w
  owed _ := 0

theorem entry (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (left m c t.val t.isLt).1.1 := by
  dsimp only [dats]
theorem after_11 (c : Dev nD) (t : Fin cfg0.N) : (dats m 0 c).after 11 t = (left m c t.val t.isLt).1.2.1 := by
  dsimp only [dats]
theorem after_12 (c : Dev nD) (t : Fin cfg0.N) : (dats m 0 c).after 12 t = (left m c t.val t.isLt).1.2.2.1 := by
  dsimp only [dats]
theorem after_13 (c : Dev nD) (t : Fin cfg0.N) : (dats m 0 c).after 13 t = (left m c t.val t.isLt).1.2.2.2 := by
  dsimp only [dats]

theorem before_0 (c : Dev nD) (t : Fin cfg0.N) (d) : (dats m 0 c).before 0 t d = iblk m c 0 t :=
  before0_0_of m (dats m 0 c) (entry m c 0) (after_0 m c) t d
theorem before_1 (c : Dev nD) (t : Fin cfg0.N) (d) : (dats m 0 c).before 1 t d = iblk m c 1 t :=
  before0_1_of m (dats m 0 c) (entry m c 1) (after_1 m c) t d
theorem before_2 (c : Dev nD) (t : Fin cfg0.N) (d) : (dats m 0 c).before 2 t d = iblk m c 2 t :=
  before0_2_of m (dats m 0 c) (entry m c 2) (after_2 m c) t d
theorem before_3 (c : Dev nD) (t : Fin cfg0.N) (d) : (dats m 0 c).before 3 t d = iblk m c 3 t :=
  before0_3_of m (dats m 0 c) (entry m c 3) (after_3 m c) t d
theorem before_4 (c : Dev nD) (t : Fin cfg0.N) (d) : (dats m 0 c).before 4 t d = iblk m c 4 t :=
  before0_4_of m (dats m 0 c) (entry m c 4) (after_4 m c) t d
theorem before_5 (c : Dev nD) (t : Fin cfg0.N) (d) : (dats m 0 c).before 5 t d = iblk m c 5 t :=
  before0_5_of m (dats m 0 c) (entry m c 5) (after_5 m c) t d
theorem before_6 (c : Dev nD) (t : Fin cfg0.N) (d) : (dats m 0 c).before 6 t d = iblk m c 6 t :=
  before0_6_of m (dats m 0 c) (entry m c 6) (after_6 m c) t d
theorem before_7 (c : Dev nD) (t : Fin cfg0.N) (d) : (dats m 0 c).before 7 t d = iblk m c 7 t :=
  before0_7_of m (dats m 0 c) (entry m c 7) (after_7 m c) t d
theorem before_8 (c : Dev nD) (t : Fin cfg0.N) (d) : (dats m 0 c).before 8 t d = iblk m c 8 t :=
  before0_8_of m (dats m 0 c) (entry m c 8) (after_8 m c) t d
theorem before_9 (c : Dev nD) (t : Fin cfg0.N) (d) : (dats m 0 c).before 9 t d = iblk m c 9 t :=
  before0_9_of m (dats m 0 c) (entry m c 9) (after_9 m c) t d

/-- A window that is in use at a point is left at what the data say. -/
theorem leaves (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

theorem leaves_0 (c : Dev nD) (t : Fin cfg0.N) :
    (dats m 0 c).leavesExact 0 t = owns (c : Thread nD τ) (ms0_0 t) fullShare (iblk m c 0 t) := by
  rw [leaves m c 0 t (liveAt0_0 t), after_0]
theorem leaves_1 (c : Dev nD) (t : Fin cfg0.N) :
    (dats m 0 c).leavesExact 1 t = owns (c : Thread nD τ) (ms0_1 t) fullShare (iblk m c 1 t) := by
  rw [leaves m c 1 t (liveAt0_1 t), after_1]
theorem leaves_2 (c : Dev nD) (t : Fin cfg0.N) :
    (dats m 0 c).leavesExact 2 t = owns (c : Thread nD τ) (ms0_2 t) fullShare (iblk m c 2 t) := by
  rw [leaves m c 2 t (liveAt0_2 t), after_2]
theorem leaves_3 (c : Dev nD) (t : Fin cfg0.N) :
    (dats m 0 c).leavesExact 3 t = owns (c : Thread nD τ) (ms0_3 t) fullShare (iblk m c 3 t) := by
  rw [leaves m c 3 t (liveAt0_3 t), after_3]
theorem leaves_4 (c : Dev nD) (t : Fin cfg0.N) :
    (dats m 0 c).leavesExact 4 t = owns (c : Thread nD τ) (ms0_4 t) fullShare (iblk m c 4 t) := by
  rw [leaves m c 4 t (liveAt0_4 t), after_4]
theorem leaves_5 (c : Dev nD) (t : Fin cfg0.N) :
    (dats m 0 c).leavesExact 5 t = owns (c : Thread nD τ) (ms0_5 t) fullShare (iblk m c 5 t) := by
  rw [leaves m c 5 t (liveAt0_5 t), after_5]
theorem leaves_6 (c : Dev nD) (t : Fin cfg0.N) :
    (dats m 0 c).leavesExact 6 t = owns (c : Thread nD τ) (ms0_6 t) fullShare (iblk m c 6 t) := by
  rw [leaves m c 6 t (liveAt0_6 t), after_6]
theorem leaves_7 (c : Dev nD) (t : Fin cfg0.N) :
    (dats m 0 c).leavesExact 7 t = owns (c : Thread nD τ) (ms0_7 t) fullShare (iblk m c 7 t) := by
  rw [leaves m c 7 t (liveAt0_7 t), after_7]
theorem leaves_8 (c : Dev nD) (t : Fin cfg0.N) :
    (dats m 0 c).leavesExact 8 t = owns (c : Thread nD τ) (ms0_8 t) fullShare (iblk m c 8 t) := by
  rw [leaves m c 8 t (liveAt0_8 t), after_8]
theorem leaves_9 (c : Dev nD) (t : Fin cfg0.N) :
    (dats m 0 c).leavesExact 9 t = owns (c : Thread nD τ) (ms0_9 t) fullShare (iblk m c 9 t) := by
  rw [leaves m c 9 t (liveAt0_9 t), after_9]
theorem live_11 (t : Fin cfg0.N) : cfg0.idle 11 (grid0.coords t) = false :=
  (kinds t).elim (fun h => liveAt0_11_A t h.1 h.2.1 h.2.2.1 h.2.2.2) fun h =>
    h.elim (fun h => liveAt0_11_B t h.1 h.2.1 h.2.2.1 h.2.2.2) fun h =>
      h.elim (fun h => liveAt0_11_C t h.1 h.2.1 h.2.2.1 h.2.2.2) fun h => liveAt0_11_D t h.1 h.2.1 h.2.2.1 h.2.2.2
theorem leaves_11 (c : Dev nD) (t : Fin cfg0.N) :
    (dats m 0 c).leavesExact 11 t = owns (c : Thread nD τ) (ms0_11 t) fullShare ((left m c t.val t.isLt).1.2.1) := by
  rw [leaves m c 11 t (live_11 t), after_11]
theorem live_12 (t : Fin cfg0.N) : cfg0.idle 12 (grid0.coords t) = false :=
  (kinds t).elim (fun h => liveAt0_12_A t h.1 h.2.1 h.2.2.1 h.2.2.2) fun h =>
    h.elim (fun h => liveAt0_12_B t h.1 h.2.1 h.2.2.1 h.2.2.2) fun h =>
      h.elim (fun h => liveAt0_12_C t h.1 h.2.1 h.2.2.1 h.2.2.2) fun h => liveAt0_12_D t h.1 h.2.1 h.2.2.1 h.2.2.2
theorem leaves_12 (c : Dev nD) (t : Fin cfg0.N) :
    (dats m 0 c).leavesExact 12 t = owns (c : Thread nD τ) (ms0_12 t) fullShare ((left m c t.val t.isLt).1.2.2.1) := by
  rw [leaves m c 12 t (live_12 t), after_12]
theorem live_13 (t : Fin cfg0.N) : cfg0.idle 13 (grid0.coords t) = false :=
  (kinds t).elim (fun h => liveAt0_13_A t h.1 h.2.1 h.2.2.1 h.2.2.2) fun h =>
    h.elim (fun h => liveAt0_13_B t h.1 h.2.1 h.2.2.1 h.2.2.2) fun h =>
      h.elim (fun h => liveAt0_13_C t h.1 h.2.1 h.2.2.1 h.2.2.2) fun h => liveAt0_13_D t h.1 h.2.1 h.2.2.1 h.2.2.2
theorem leaves_13 (c : Dev nD) (t : Fin cfg0.N) :
    (dats m 0 c).leavesExact 13 t = owns (c : Thread nD τ) (ms0_13 t) fullShare ((left m c t.val t.isLt).1.2.2.2) := by
  rw [leaves m c 13 t (live_13 t), after_13]

/-- Before the body at a point. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- After it. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 6400000 in
/-- The body at the first point of the grid. -/
theorem body_A (c : Dev nD) (t : Fin cfg0.N) (h : conds0_A (grid0.coords t)) :
    pre m c t ⊢ wp frame (wpE (defs₀ (F := F)) Variants.none c none) Set.univ (bodyAt0 t) (fun _ => post m c t) := by
  have h0 : t.val = 0 := (first_iff t).mp h
  unfold pre post bodyAt0
  simp only [before_0, before_1, before_2, before_3, before_4, before_5, before_6, before_7, before_8, before_9]
  rw [show (dats m 0 c).owesAt () t.succ = (dats m 0 c).owesAt () t.castSucc from rfl,
    show (dats m 0 c).Φ t.succ = inv m c (t.val + 1) t.isLt from rfl, inv_next m c (t.val + 1) t.isLt (Nat.succ_ne_zero _)]
  simp only [Nat.add_sub_cancel]
  rw [leaves_0, leaves_1, leaves_2, leaves_3, leaves_4, leaves_5, leaves_6, leaves_7, leaves_8, leaves_9, leaves_11, leaves_12, leaves_13]
  rw [Dat.leavesExact_idle (dats m 0 c) 10 t (idleAt0_10_A t h.1 h.2.1 h.2.2.1 h.2.2.2)
    (noFlush0_10_A t h.1 h.2.1 h.2.2.1 h.2.2.2)]
  rw [inv_at m c t, inv_first m c _ _ h0, PhiA0_eq, left_first m c t h0, point_A m c t h]
  unfold pointA projA tapsA gainA accA carryA tapsAccA gainAccA; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runA m c t h).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, ⟨%e12, H12⟩, ⟨%e13, H13⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr; swap; · iexact HS0
        ipureintro; exact View.read_writes_of_cover _ _ _ _ _ (accA_cover m c t h)
      isplitl [HS1]
      · unfold owns; iexists _; isplitr; swap; · iexact HS1
        ipureintro; exact View.read_writes_of_cover _ _ _ _ _ (carryA_cover m c t h)
      isplitl [HS2]
      · unfold owns; iexists _; isplitr; swap; · iexact HS2
        ipureintro; exact View.read_writes_of_cover _ _ _ _ _ (tapsAccA_cover m c t h)
      unfold owns; iexists _; isplitr; swap; · iexact HS3
      ipureintro; exact View.read_writes_of_cover _ _ _ _ _ (gainAccA_cover m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]
  · unfold owns; iexists _; isplitr; swap; · iexact H11
    ipureintro; exact View.read_writes_of_cover _ _ _ _ _ (projA_cover m c t h)
  isplitl [H12]
  · unfold owns; iexists _; isplitr; swap; · iexact H12
    ipureintro; exact View.read_writes_of_cover _ _ _ _ _ (tapsA_cover m c t h)
  unfold owns; iexists _; isplitr; swap; · iexact H13
  ipureintro; exact View.read_writes_of_cover _ _ _ _ _ (gainA_cover m c t h)

set_option maxHeartbeats 6400000 in
/-- The body at an inner point of an output tile. -/
theorem body_B (c : Dev nD) (t : Fin cfg0.N) (h : conds0_B (grid0.coords t)) :
    pre m c t ⊢ wp frame (wpE (defs₀ (F := F)) Variants.none c none) Set.univ (bodyAt0 t) (fun _ => post m c t) := by
  have h0 : t.val ≠ 0 := fun e => h.1 ((first_iff t).mpr e).1
  unfold pre post bodyAt0
  simp only [before_0, before_1, before_2, before_3, before_4, before_5, before_6, before_7, before_8, before_9]
  rw [show (dats m 0 c).owesAt () t.succ = (dats m 0 c).owesAt () t.castSucc from rfl,
    show (dats m 0 c).Φ t.succ = inv m c (t.val + 1) t.isLt from rfl, inv_next m c (t.val + 1) t.isLt (Nat.succ_ne_zero _)]
  simp only [Nat.add_sub_cancel]
  rw [leaves_0, leaves_1, leaves_2, leaves_3, leaves_4, leaves_5, leaves_6, leaves_7, leaves_8, leaves_9, leaves_11, leaves_12, leaves_13]
  rw [Dat.leavesExact_idle (dats m 0 c) 10 t (idleAt0_10_B t h.1 h.2.1 h.2.2.1 h.2.2.2)
    (noFlush0_10_B t h.1 h.2.1 h.2.2.1 h.2.2.2)]
  rw [inv_at m c t, inv_next m c _ _ h0, left_next m c t h0, point_B m c t h]
  unfold pointB projB tapsB gainB accB carryB tapsAccB gainAccB; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB m c t h _).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, ⟨%e12, H12⟩, ⟨%e13, H13⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr; swap; · iexact HS0
        ipureintro; exact View.read_writes_of_cover _ _ _ _ _ (accB_cover m c t h _)
      isplitl [HS1]
      · unfold owns; iexists _; isplitr; swap; · iexact HS1
        ipureintro; exact View.read_writes_of_cover _ _ _ _ _ (carryB_cover m c t h _)
      isplitl [HS2]
      · unfold owns; iexists _; isplitr; swap; · iexact HS2
        ipureintro; exact View.read_writes_of_cover _ _ _ _ _ (tapsAccB_cover m c t h _)
      unfold owns; iexists _; isplitr; swap; · iexact HS3
      ipureintro; exact View.read_writes_of_cover _ _ _ _ _ (gainAccB_cover m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]
  · unfold owns; iexists _; isplitr; swap; · iexact H11
    ipureintro; exact View.read_writes_of_cover _ _ _ _ _ (projB_cover m c t h _)
  isplitl [H12]
  · unfold owns; iexists _; isplitr; swap; · iexact H12
    ipureintro; exact View.read_writes_of_cover _ _ _ _ _ (tapsB_cover m c t h _)
  unfold owns; iexists _; isplitr; swap; · iexact H13
  ipureintro; exact View.read_writes_of_cover _ _ _ _ _ (gainB_cover m c t h _)

set_option maxHeartbeats 6400000 in
/-- The body at the last point of an output tile. -/
theorem body_C (c : Dev nD) (t : Fin cfg0.N) (h : conds0_C (grid0.coords t)) :
    pre m c t ⊢ wp frame (wpE (defs₀ (F := F)) Variants.none c none) Set.univ (bodyAt0 t) (fun _ => post m c t) := by
  have h0 : t.val ≠ 0 := fun e => h.1 ((first_iff t).mpr e).1
  unfold pre post bodyAt0
  simp only [before_0, before_1, before_2, before_3, before_4, before_5, before_6, before_7, before_8, before_9]
  rw [show (dats m 0 c).owesAt () t.succ = (dats m 0 c).owesAt () t.castSucc from rfl,
    show (dats m 0 c).Φ t.succ = inv m c (t.val + 1) t.isLt from rfl, inv_next m c (t.val + 1) t.isLt (Nat.succ_ne_zero _)]
  simp only [Nat.add_sub_cancel]
  rw [leaves_0, leaves_1, leaves_2, leaves_3, leaves_4, leaves_5, leaves_6, leaves_7, leaves_8, leaves_9, leaves_11, leaves_12, leaves_13]
  rw [leaves m c 10 t (liveAt0_10_C t h.1 h.2.1 h.2.2.1 h.2.2.2), after_10]
  rw [inv_at m c t, inv_next m c _ _ h0, left_next m c t h0, point_C m c t h]
  unfold pointC productC projC tapsC gainC carryC tapsAccC gainAccC; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC m c t h _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, HS0, ⟨%es1, HS1⟩, ⟨%es2, HS2⟩, ⟨%es3, HS3⟩⟩
  isplitl [HS0 HS1 HS2 HS3 Hg]
  · isplitl [HS0 HS1 HS2 HS3]
    · isplitl [HS0]
      · iexact HS0
      isplitl [HS1]
      · unfold owns; iexists _; isplitr; swap; · iexact HS1
        ipureintro; exact View.read_writes_of_cover _ _ _ _ _ (carryC_cover m c t h _)
      isplitl [HS2]
      · unfold owns; iexists _; isplitr; swap; · iexact HS2
        ipureintro; exact View.read_writes_of_cover _ _ _ _ _ (tapsAccC_cover m c t h _)
      unfold owns; iexists _; isplitr; swap; · iexact HS3
      ipureintro; exact View.read_writes_of_cover _ _ _ _ _ (gainAccC_cover m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; exact View.read_writes_of_cover _ _ _ _ _ (productC_cover m c t h _)
  isplitl [H11]
  · unfold owns; iexists _; isplitr; swap; · iexact H11
    ipureintro; exact View.read_writes_of_cover _ _ _ _ _ (projC_cover m c t h _)
  isplitl [H12]
  · unfold owns; iexists _; isplitr; swap; · iexact H12
    ipureintro; exact View.read_writes_of_cover _ _ _ _ _ (tapsC_cover m c t h _)
  unfold owns; iexists _; isplitr; swap; · iexact H13
  ipureintro; exact View.read_writes_of_cover _ _ _ _ _ (gainC_cover m c t h _)

set_option maxHeartbeats 6400000 in
/-- The body at the first point of a later output tile. -/
theorem body_D (c : Dev nD) (t : Fin cfg0.N) (h : conds0_D (grid0.coords t)) :
    pre m c t ⊢ wp frame (wpE (defs₀ (F := F)) Variants.none c none) Set.univ (bodyAt0 t) (fun _ => post m c t) := by
  have h0 : t.val ≠ 0 := fun e => h.1 ((first_iff t).mpr e).1
  unfold pre post bodyAt0
  simp only [before_0, before_1, before_2, before_3, before_4, before_5, before_6, before_7, before_8, before_9]
  rw [show (dats m 0 c).owesAt () t.succ = (dats m 0 c).owesAt () t.castSucc from rfl,
    show (dats m 0 c).Φ t.succ = inv m c (t.val + 1) t.isLt from rfl, inv_next m c (t.val + 1) t.isLt (Nat.succ_ne_zero _)]
  simp only [Nat.add_sub_cancel]
  rw [leaves_0, leaves_1, leaves_2, leaves_3, leaves_4, leaves_5, leaves_6, leaves_7, leaves_8, leaves_9, leaves_11, leaves_12, leaves_13]
  rw [Dat.leavesExact_idle (dats m 0 c) 10 t (idleAt0_10_D t h.1 h.2.1 h.2.2.1 h.2.2.2)
    (noFlush0_10_D t h.1 h.2.1 h.2.2.1 h.2.2.2)]
  rw [inv_at m c t, inv_next m c _ _ h0, left_next m c t h0, point_D m c t h]
  unfold pointD projD tapsD gainD accD carryD tapsAccD gainAccD; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runD m c t h _).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexists _; iexact HS0
  isplitl [HS1]; · iexact HS1
  isplitl [HS2]; · iexact HS2
  isplitl [HS3]; · iexact HS3
  iintro ⟨H0, H1, H2, H3, H4, H5, H6, H7, H8, H9, H10, ⟨%e11, H11⟩, ⟨%e12, H12⟩, ⟨%e13, H13⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr; swap; · iexact HS0
        ipureintro; exact View.read_writes_of_cover _ _ _ _ _ (accD_cover m c t h _)
      isplitl [HS1]
      · unfold owns; iexists _; isplitr; swap; · iexact HS1
        ipureintro; exact View.read_writes_of_cover _ _ _ _ _ (carryD_cover m c t h _)
      isplitl [HS2]
      · unfold owns; iexists _; isplitr; swap; · iexact HS2
        ipureintro; exact View.read_writes_of_cover _ _ _ _ _ (tapsAccD_cover m c t h _)
      unfold owns; iexists _; isplitr; swap; · iexact HS3
      ipureintro; exact View.read_writes_of_cover _ _ _ _ _ (gainAccD_cover m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]
  · unfold owns; iexists _; isplitr; swap; · iexact H11
    ipureintro; exact View.read_writes_of_cover _ _ _ _ _ (projD_cover m c t h _)
  isplitl [H12]
  · unfold owns; iexists _; isplitr; swap; · iexact H12
    ipureintro; exact View.read_writes_of_cover _ _ _ _ _ (tapsD_cover m c t h _)
  unfold owns; iexists _; isplitr; swap; · iexact H13
  ipureintro; exact View.read_writes_of_cover _ _ _ _ _ (gainD_cover m c t h _)

/-- The body at any point. -/
theorem body (c : Dev nD) (t : Fin cfg0.N) :
    pre m c t ⊢ wp frame (wpE (defs₀ (F := F)) Variants.none c none) Set.univ (bodyAt0 t) (fun _ => post m c t) :=
  (kinds t).elim (body_A m c t) fun h => h.elim (body_B m c t) fun h => h.elim (body_C m c t) (body_D m c t)

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ :=
  fun t => by
    rw [bigSep_W0, bigSep_W0, body_row]
    exact triple_restated (body m c t) rfl .rfl fun _ => .rfl

/-! ## The launch -/

theorem enter (c : Dev nD) : Pipeline.ΦA spec0 c ⊢ (dats m 0 c).Φ 0 := by
  rw [show (dats m 0 c).Φ 0 = inv m c 0 (Nat.zero_le _) from rfl, inv_first m c 0 _ rfl]
  try exact Idealize.SL.BI.Entails.refl _

theorem leave (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt)
    from rfl, inv_next m c _ _ (by rw [Fin.val_last]; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- Every execution terminates with the arrays at what the data say and every counter at zero. -/
theorem runs : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry m) (hin := enter m)
    (hout := leave m)

/-- The frame: every execution terminates, the arguments as they were and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry m) ((θ_run defs _ _).mono (fun _ h => h.1) (runs m ρ)))
    ((θ_run defs _ _).mono (fun _ h => h.2) (runs m ρ))

end Cert.KernelIdeal.Walk

end
-- ==== Proof.Mixer.lean ====
/- The backward pass of the short-convolution mixer, on the columns of one normalisation group, as plain
   formulas over the extended reals. A group is 128 columns; rows are the positions of the sequence. -/
module

public import Idealize.ShloMosaic.Lib.Pointwise

@[expose] public section

set_option maxRecDepth 16384

noncomputable section

namespace Cert.Mixer

open Idealize.ShloMosaic

/-- The arrays of one group of 128 columns: the gate `B`, the convolution's two factors `C` and `H`, the
    incoming gradient `D` (row, lane), the three taps `W` and the norm's gain `G`. Rows are natural numbers;
    an array is zero past its last row. -/
structure Grp where
  B : ℕ → Fin 128 → EReal
  C : ℕ → Fin 128 → EReal
  H : ℕ → Fin 128 → EReal
  D : ℕ → Fin 128 → EReal
  W : Fin 3 → Fin 128 → EReal
  G : Fin 128 → EReal

/-- The group's length, 128, and the norm's small constant, as the programs hold them. -/
abbrev len : EReal := Ideal.ofBits .f32 0x43000000#32
abbrev eps : EReal := Ideal.ofBits .f32 0x358637BD#32

variable (a : Grp)

/-- The convolution's input `u = C * H`, and the same one and two rows earlier (zero before the first row). -/
def Grp.U (s : ℕ) (l : Fin 128) : EReal := a.C s l * a.H s l
def Grp.U1 (s : ℕ) (l : Fin 128) : EReal := if s = 0 then 0 else a.U (s - 1) l
def Grp.U2 (s : ℕ) (l : Fin 128) : EReal := if s = 0 then 0 else if s = 1 then 0 else a.U (s - 2) l

/-- The causal convolution, and the gated value `y = B * conv`. -/
def Grp.conv (s : ℕ) (l : Fin 128) : EReal :=
  a.W 0 l * a.U2 s l + a.W 1 l * a.U1 s l + a.W 2 l * a.U s l
def Grp.Y (s : ℕ) (l : Fin 128) : EReal := a.B s l * a.conv s l

/-- The mean square of a row plus the small constant, its reciprocal root, and the normalised row. -/
def Grp.V (s : ℕ) : EReal := Ideal.div (∑ l : Fin 128, a.Y s l * a.Y s l) len + eps
def Grp.R (s : ℕ) : EReal := Ideal.rsqrt (a.V s)
def Grp.N (s : ℕ) (l : Fin 128) : EReal := a.Y s l * a.R s

/-- The gradient of the normalised row, the row mean of its product with the row, and the gradient of `y`. -/
def Grp.dN (s : ℕ) (l : Fin 128) : EReal := a.D s l * a.G l
def Grp.mean (s : ℕ) : EReal := Ideal.div (∑ l : Fin 128, a.dN s l * a.N s l) len
def Grp.dY (s : ℕ) (l : Fin 128) : EReal := a.R s * (a.dN s l - a.N s l * a.mean s)

/-- The gradient of the convolution's result and of its input (a row's input reaches the row and the two
    after it). -/
def Grp.dConv (s : ℕ) (l : Fin 128) : EReal := a.dY s l * a.B s l
def Grp.dU (s : ℕ) (l : Fin 128) : EReal :=
  a.W 2 l * a.dConv s l + a.W 1 l * a.dConv (s + 1) l + a.W 0 l * a.dConv (s + 2) l

/-- The term of row `s` in the gain's gradient, and in the gradient of each tap. -/
def Grp.gTerm (s : ℕ) (l : Fin 128) : EReal := a.D s l * a.N s l
def Grp.wTerm (k : Fin 3) (s : ℕ) (l : Fin 128) : EReal :=
  a.dConv s l * (match k with | 0 => a.U2 s l | 1 => a.U1 s l | 2 => a.U s l)

end Cert.Mixer

end
-- ==== Proof.Tile.lean ====
/- One tile of the mixer's backward pass (256 rows of one group of 128 columns) as the kernel computes it in
   vectors, and what each vector holds at an index. -/
module

public import proofs.«01_k».proof.Proof.Gen.KernelIdeal.Skeleton
public import proofs.«01_k».proof.Proof.Mixer

@[expose] public section

set_option maxRecDepth 16384

noncomputable section

namespace Cert.Tile

open Idealize.ShloMosaic Idealize.ShloMosaic.TcCoe Idealize.SL.Sem
open Cert.KernelIdeal Cert.KernelIdeal.Gen Cert.Mixer

/-- A 256 x 128 block of reals, one row of one, and its 8 row strides. -/
abbrev Blk := FVec Ideal S256x128 .f32
abbrev Row := FVec Ideal S1x128 .f32
abbrev Oct := FVec Ideal S8x128 .f32

/-- The factor that drops the rows before the first tile: 0 on tile 0, where the step is 31, and 1 elsewhere. -/
def keep (step : BitVec 32) : EReal :=
  Scalar.select (Scalar.cmpi .eq (Scalar.subi 31#32 step) 0#32)
    (Scalar.ofBits (F := Ideal) .f32 0x00000000#32) (Scalar.ofBits (F := Ideal) .f32 0x3F800000#32)

/-- Row number of every element, and the test `row = n`. -/
def rows : IVec S256x128 32 := iota .tc S256x128 32 [0] iota_S256x128_d0_w32
def rowIs (n : BitVec 32) : IVec S256x128 1 := cmpi .eq rows (broadcast S256x128 n)

/-- One row repeated 256 times. -/
def rep (p : Row) : Blk := broadcastTo S256x128 (shapeCast S1x128 p shapeCasts_S1x128_S1x128) broadcasts_S1x128_S256x128
def repC (p : FVec Ideal S256x1 .f32) : Blk := broadcastTo S256x128 p broadcasts_S256x1_S256x128

/-- A row of the tile before: the product of its two factors, dropped on the first tile. -/
def halo (k : EReal) (c h : Row) : Row := mulf (F := Ideal) (φ := .f32) (mulf c h) (broadcast S1x128 k)

/-- A block moved one and two rows down; the rows of the tile before come in on top. -/
def down1 (u : Blk) (p1 : Row) : Blk :=
  select (rowIs 0#32) (rep p1) (dynamicRotate 0 1#32 none u rotates_S256x128_d0)
def down2 (u : Blk) (p2 p1 : Row) : Blk :=
  select (rowIs 1#32) (rep p1) (select (rowIs 0#32) (rep p2) (dynamicRotate 0 2#32 none u rotates_S256x128_d0))
/-- A block moved one and two rows up; the first rows of the tile after come in below. -/
def up1 (u : Blk) (n0 : Row) : Blk :=
  select (rowIs 255#32) (rep n0) (dynamicRotate 0 255#32 none u rotates_S256x128_d0)
def up2 (u : Blk) (n0 n1 : Row) : Blk :=
  select (rowIs 255#32) (rep n1) (select (rowIs 254#32) (rep n0) (dynamicRotate 0 254#32 none u rotates_S256x128_d0))

/-- The mean of every row. -/
def mean (x : Blk) : FVec Ideal S256x1 .f32 :=
  divf (shapeCast S256x1 (multiReduction .add [1] S256 x 0x00000000#32 reduces_S256x128_S256 (.inl rfl) rfl)
    shapeCasts_S256_S256x1) (broadcast S256x1 (Scalar.ofBits (F := Ideal) .f32 0x43000000#32))
/-- The sums of the rows 8 apart. -/
def sums (x : Blk) : Oct :=
  multiReduction .add [0] S8x128 (shapeCast S32x8x128 x shapeCasts_S256x128_S32x8x128) 0x00000000#32
    reduces_S32x8x128_S8x128 (.inl rfl) rfl

/-- The convolution of a tile and its gated, normalised value. -/
def conv (w0 w1 w2 : Row) (u u1 u2 : Blk) : Blk :=
  addf (addf (mulf (rep w0) u2) (mulf (rep w1) u1)) (mulf (rep w2) u)
def inv (y : Blk) : FVec Ideal S256x1 .f32 :=
  rsqrt (addf (mean (mulf y y)) (broadcast S256x1 (Scalar.ofBits (F := Ideal) .f32 0x358637BD#32)))

/-- The gradient of the gated value, from the gradient `dn` of the normalised value `n` and the factor `r`. -/
def gradY (r : FVec Ideal S256x1 .f32) (n dn : Blk) : Blk :=
  mulf (repC r) (subf dn (mulf n (repC (mean (mulf dn n)))))
/-- The gradient of the convolution's input. -/
def gradU (w0 w1 w2 : Row) (dc d1 d2 : Blk) : Blk :=
  addf (addf (mulf (rep w2) dc) (mulf (rep w1) d1)) (mulf (rep w0) d2)

/-- What one tile and group reads: gate, factors, incoming gradient, the last rows of the tile before (rows 6
    and 7 of the halo), the taps, the gain, and the first two rows of the tile after. -/
structure In where
  k : EReal
  cb : Blk
  cc : Blk
  ch : Blk
  dy : FVec Ideal S256x128 .bf16
  c6 : Row
  h6 : Row
  c7 : Row
  h7 : Row
  w0 : Row
  w1 : Row
  w2 : Row
  g : Row
  n0 : Row
  n1 : Row

variable (i : In)

def In.u : Blk := mulf i.cc i.ch
def In.p1 : Row := halo i.k i.c7 i.h7
def In.p2 : Row := halo i.k i.c6 i.h6
def In.u1 : Blk := down1 i.u i.p1
def In.u2 : Blk := down2 i.u i.p2 i.p1
def In.conv : Blk := Tile.conv i.w0 i.w1 i.w2 i.u i.u1 i.u2
def In.y : Blk := mulf i.cb i.conv
def In.r : FVec Ideal S256x1 .f32 := inv i.y
def In.n : Blk := mulf i.y (repC i.r)
def In.d : Blk := extf .f32 i.dy bitsLt_bf16_f32
def In.dn : Blk := mulf i.d (broadcastTo S256x128 i.g broadcasts_S1x128_S256x128)
def In.gy : Blk := gradY i.r i.n i.dn
def In.dc : Blk := mulf i.gy i.cb
def In.du : Blk := gradU i.w0 i.w1 i.w2 i.dc (up1 i.dc i.n0) (up2 i.dc i.n0 i.n1)

/-- The three column ranges of the result, the partial sums, and the rows kept for the next tile. -/
def In.z0 : FVec Ideal S256x128 .bf16 := truncf .bf16 (mulf i.gy i.conv) bitsLt_bf16_f32
def In.z1 : FVec Ideal S256x128 .bf16 := truncf .bf16 (mulf i.du i.ch) bitsLt_bf16_f32
def In.z2 : FVec Ideal S256x128 .bf16 := truncf .bf16 (mulf i.du i.cc) bitsLt_bf16_f32
def In.ag (old : Oct) : Oct := shapeCast S8x128 (addf old (sums (mulf i.d i.n))) shapeCasts_S8x128_S8x128
def In.a0 (old : Oct) : Oct := shapeCast S8x128 (addf old (sums (mulf i.dc i.u2))) shapeCasts_S8x128_S8x128
def In.a1 (old : Oct) : Oct := shapeCast S8x128 (addf old (sums (mulf i.dc i.u1))) shapeCasts_S8x128_S8x128
def In.a2 (old : Oct) : Oct := shapeCast S8x128 (addf old (sums (mulf i.dc i.u))) shapeCasts_S8x128_S8x128
def In.carry : Oct :=
  shapeCast S8x128 (extractStridedSlice S8x128 ![0, 0] i.dc slices_S256x128_o0_0_S8x128) shapeCasts_S8x128_S8x128

end Cert.Tile

end
-- ==== Proof.TileAt.lean ====
/- What every vector of one tile holds at an index, by the formulas of the mixer's backward pass: row `r` of
   tile `n` is row `256 n + r` of the sequence. -/
module

public import proofs.«01_k».proof.Proof.Tile

@[expose] public section

set_option maxRecDepth 16384

noncomputable section

namespace Cert.Tile

open Idealize.ShloMosaic Idealize.ShloMosaic.TcCoe Idealize.SL.Sem
open Cert.KernelIdeal Cert.KernelIdeal.Gen Cert.Mixer

/-- What the tile reads is rows `256 n …` of the group's arrays, two rows before them and two after. -/
structure In.Of (i : In) (a : Grp) (n : ℕ) : Prop where
  k : i.k = if n = 0 then 0 else 1
  cb : ∀ (r : Fin 256) (l : Fin 128), i.cb (ix2 r l) = a.B (n * 256 + r) l
  cc : ∀ (r : Fin 256) (l : Fin 128), i.cc (ix2 r l) = a.C (n * 256 + r) l
  ch : ∀ (r : Fin 256) (l : Fin 128), i.ch (ix2 r l) = a.H (n * 256 + r) l
  dy : ∀ (r : Fin 256) (l : Fin 128), i.dy (ix2 r l) = a.D (n * 256 + r) l
  c6 : n ≠ 0 → ∀ l : Fin 128, i.c6 (ix2 0 l) = a.C (n * 256 - 2) l
  h6 : n ≠ 0 → ∀ l : Fin 128, i.h6 (ix2 0 l) = a.H (n * 256 - 2) l
  c7 : n ≠ 0 → ∀ l : Fin 128, i.c7 (ix2 0 l) = a.C (n * 256 - 1) l
  h7 : n ≠ 0 → ∀ l : Fin 128, i.h7 (ix2 0 l) = a.H (n * 256 - 1) l
  w0 : ∀ l : Fin 128, i.w0 (ix2 0 l) = a.W 0 l
  w1 : ∀ l : Fin 128, i.w1 (ix2 0 l) = a.W 1 l
  w2 : ∀ l : Fin 128, i.w2 (ix2 0 l) = a.W 2 l
  g : ∀ l : Fin 128, i.g (ix2 0 l) = a.G l
  n0 : ∀ l : Fin 128, i.n0 (ix2 0 l) = a.dConv (n * 256 + 256) l
  n1 : ∀ l : Fin 128, i.n1 (ix2 0 l) = a.dConv (n * 256 + 257) l

/-- The choice made where the row number is `k`. -/
theorem sel (r : Fin 256) (k : ℕ) (hk : k < 256) (x y : EReal) :
    Scalar.select (IntOp.cmpi .eq (BitVec.ofNat 32 (r : ℕ)) (BitVec.ofNat 32 k)) x y =
      if (r : ℕ) = k then x else y := by
  have h : (BitVec.ofNat 32 (r : ℕ) = BitVec.ofNat 32 k) ↔ (r : ℕ) = k := by
    rw [← BitVec.toNat_inj]
    simp only [BitVec.toNat_ofNat]
    have := r.isLt
    omega
  have hb : (BitVec.ofNat 32 (r : ℕ) == BitVec.ofNat 32 k) = decide ((r : ℕ) = k) := by
    rw [Bool.eq_iff_iff]
    simpa using h
  by_cases e : (r : ℕ) = k <;> simp [Scalar.select, IntOp.cmpi, hb, e]

section
variable (u : Blk) (p q : Row) (r : Fin 256) (l : Fin 128)

theorem down1_at : down1 u p (ix2 r l) =
    if (r : ℕ) = 0 then p (ix2 0 l) else u (ix2 ⟨r - 1, by omega⟩ l) := by
  pointwise [down1, rowIs, rows, rep]
  rw [sel r 0 (by omega)]
  split
  · rfl
  · congr 3; omega

theorem down2_at : down2 u p q (ix2 r l) =
    if (r : ℕ) = 1 then q (ix2 0 l) else if (r : ℕ) = 0 then p (ix2 0 l) else u (ix2 ⟨r - 2, by omega⟩ l) := by
  pointwise [down2, rowIs, rows, rep]
  rw [sel r 1 (by omega), sel r 0 (by omega)]
  split
  · rfl
  split
  · rfl
  · congr 3; omega

theorem up1_at : up1 u p (ix2 r l) =
    if h : (r : ℕ) = 255 then p (ix2 0 l) else u (ix2 ⟨r + 1, by omega⟩ l) := by
  pointwise [up1, rowIs, rows, rep]
  rw [sel r 255 (by omega)]
  split
  · rfl
  · congr 3; omega

theorem up2_at : up2 u p q (ix2 r l) =
    if h : (r : ℕ) = 255 then q (ix2 0 l) else
      if h' : (r : ℕ) = 254 then p (ix2 0 l) else u (ix2 ⟨r + 2, by omega⟩ l) := by
  pointwise [up2, rowIs, rows, rep]
  rw [sel r 255 (by omega), sel r 254 (by omega)]
  split
  · rfl
  split
  · rfl
  · congr 3; omega

theorem sums_at (j : Fin 8) : sums u (ix2 j l) = ∑ t : Fin 32, u (ix2 ⟨t * 8 + j, by omega⟩ l) := by
  pointwise [sums]

theorem conv_at (w0 w1 w2 : Row) (u u1 u2 : Blk) : conv w0 w1 w2 u u1 u2 (ix2 r l) =
    w0 (ix2 0 l) * u2 (ix2 r l) + w1 (ix2 0 l) * u1 (ix2 r l) + w2 (ix2 0 l) * u (ix2 r l) := by
  pointwise [conv, rep]

theorem inv_at (y : Blk) : inv y (ix2 r 0) =
    Ideal.rsqrt (Ideal.div (∑ l : Fin 128, y (ix2 r l) * y (ix2 r l)) len + eps) := by
  pointwise [inv, mean]

theorem gradY_at (s : FVec Ideal S256x1 .f32) (n dn : Blk) : gradY s n dn (ix2 r l) =
    s (ix2 r 0) * (dn (ix2 r l) - n (ix2 r l) * Ideal.div (∑ l : Fin 128, dn (ix2 r l) * n (ix2 r l)) len) := by
  pointwise [gradY, repC, mean]

theorem gradU_at (w0 w1 w2 : Row) (dc d1 d2 : Blk) : gradU w0 w1 w2 dc d1 d2 (ix2 r l) =
    w2 (ix2 0 l) * dc (ix2 r l) + w1 (ix2 0 l) * d1 (ix2 r l) + w0 (ix2 0 l) * d2 (ix2 r l) := by
  pointwise [gradU, rep]

theorem halo_at (k : EReal) (c h : Row) : halo k c h (ix2 0 l) = c (ix2 0 l) * h (ix2 0 l) * k := by
  pointwise [halo]
end

/-! ## The tile's vectors -/

section
variable {i : In} {a : Grp} {n : ℕ} (o : i.Of a n) (r : Fin 256) (l : Fin 128)
include o

theorem u_at : i.u (ix2 r l) = a.U (n * 256 + r) l := by
  rw [Grp.U, ← o.cc r l, ← o.ch r l]
  pointwise [In.u]

theorem p1_at : i.p1 (ix2 0 l) = a.U1 (n * 256) l := by
  rw [In.p1, halo_at, o.k]
  unfold Grp.U1 Grp.U
  by_cases h : n = 0
  · simp [h]
  · rw [o.c7 h l, o.h7 h l, if_neg h, mul_one, if_neg (by omega)]

theorem p2_at : i.p2 (ix2 0 l) = a.U2 (n * 256) l := by
  rw [In.p2, halo_at, o.k]
  unfold Grp.U2 Grp.U
  by_cases h : n = 0
  · simp [h]
  · rw [o.c6 h l, o.h6 h l, if_neg h, mul_one, if_neg (by omega), if_neg (by omega)]

theorem u1_at : i.u1 (ix2 r l) = a.U1 (n * 256 + r) l := by
  rw [In.u1, down1_at]
  by_cases h : (r : ℕ) = 0
  · rw [if_pos h, p1_at o, h, Nat.add_zero]
  · rw [if_neg h, u_at o, Grp.U1, if_neg (by omega)]
    congr 1
    show n * 256 + ((r : ℕ) - 1) = _
    omega

theorem u2_at : i.u2 (ix2 r l) = a.U2 (n * 256 + r) l := by
  rw [In.u2, down2_at]
  by_cases h : (r : ℕ) = 1
  · rw [if_pos h, p1_at o, h, Grp.U1, Grp.U2]
    by_cases e : n = 0
    · simp [e]
    · rw [if_neg (by omega), if_neg (by omega), if_neg (by omega)]
      rfl
  rw [if_neg h]
  by_cases h : (r : ℕ) = 0
  · rw [if_pos h, p2_at o, h, Nat.add_zero]
  · rw [if_neg h, u_at o, Grp.U2, if_neg (by omega), if_neg (by omega)]
    congr 1
    show n * 256 + ((r : ℕ) - 2) = _
    omega

theorem c_at : i.conv (ix2 r l) = a.conv (n * 256 + r) l := by
  rw [In.conv, conv_at, u_at o, u1_at o, u2_at o, o.w0, o.w1, o.w2, Grp.conv]

theorem y_at : i.y (ix2 r l) = a.Y (n * 256 + r) l := by
  rw [Grp.Y, ← c_at o r l, ← o.cb r l]
  pointwise [In.y]

theorem r_at : i.r (ix2 r 0) = a.R (n * 256 + r) := by
  rw [In.r, inv_at, Grp.R, Grp.V]
  simp only [y_at o]

theorem n_at : i.n (ix2 r l) = a.N (n * 256 + r) l := by
  rw [Grp.N, ← y_at o r l, ← r_at o r]
  pointwise [In.n, repC]

theorem d_at : i.d (ix2 r l) = a.D (n * 256 + r) l := by
  rw [← o.dy r l]
  pointwise [In.d]

theorem dn_at : i.dn (ix2 r l) = a.dN (n * 256 + r) l := by
  rw [Grp.dN, ← d_at o r l, ← o.g l]
  pointwise [In.dn]

theorem gy_at : i.gy (ix2 r l) = a.dY (n * 256 + r) l := by
  rw [In.gy, gradY_at, Grp.dY, Grp.mean]
  simp only [n_at o, dn_at o, r_at o]

theorem dc_at : i.dc (ix2 r l) = a.dConv (n * 256 + r) l := by
  rw [Grp.dConv, ← gy_at o r l, ← o.cb r l]
  pointwise [In.dc]

theorem du_at : i.du (ix2 r l) = a.dU (n * 256 + r) l := by
  rw [In.du, gradU_at, up1_at, up2_at, o.w0, o.w1, o.w2, o.n0, o.n1, Grp.dU, dc_at o]
  by_cases h : (r : ℕ) = 255
  · simp only [h, dif_pos]
  rw [dif_neg h, dif_neg h]
  by_cases e : (r : ℕ) = 254
  · rw [dif_pos e, dc_at o]
    simp only [e]
  · rw [dif_neg e, dc_at o, dc_at o]
    rfl

/-- The three column ranges of the gradient. -/
theorem z0_at : i.z0 (ix2 r l) = a.dY (n * 256 + r) l * a.conv (n * 256 + r) l := by
  rw [← gy_at o, ← c_at o]
  pointwise [In.z0]
theorem z1_at : i.z1 (ix2 r l) = a.dU (n * 256 + r) l * a.H (n * 256 + r) l := by
  rw [← du_at o, ← o.ch]
  pointwise [In.z1]
theorem z2_at : i.z2 (ix2 r l) = a.dU (n * 256 + r) l * a.C (n * 256 + r) l := by
  rw [← du_at o, ← o.cc]
  pointwise [In.z2]

variable (old : Oct) (j : Fin 8)

/-- The rows kept for the tile before this one. -/
theorem carry_at : i.carry (ix2 j l) = a.dConv (n * 256 + j) l := by
  have := dc_at o ⟨j, by omega⟩ l
  pointwise [In.carry]
  exact this

/-- The partial sums: each adds the tile's rows of the same number modulo 8. -/
theorem ag_at : i.ag old (ix2 j l) = old (ix2 j l) + ∑ t : Fin 32, a.gTerm (n * 256 + (t * 8 + j)) l := by
  have : ∀ t : Fin 32, mulf (F := Ideal) (φ := .f32) i.d i.n (ix2 ⟨t * 8 + j, by omega⟩ l) =
      a.gTerm (n * 256 + (t * 8 + j)) l := by
    intro t
    have h₁ := d_at o ⟨t * 8 + j, by omega⟩ l
    have h₂ := n_at o ⟨t * 8 + j, by omega⟩ l
    pointwise [h₁, h₂]
    rfl
  have e := sums_at (mulf (F := Ideal) (φ := .f32) i.d i.n) l j
  simp only [this] at e
  pointwise [In.ag, e]

theorem a0_at : i.a0 old (ix2 j l) = old (ix2 j l) + ∑ t : Fin 32, a.wTerm 0 (n * 256 + (t * 8 + j)) l := by
  have : ∀ t : Fin 32, mulf (F := Ideal) (φ := .f32) i.dc i.u2 (ix2 ⟨t * 8 + j, by omega⟩ l) =
      a.wTerm 0 (n * 256 + (t * 8 + j)) l := by
    intro t
    have h₁ := dc_at o ⟨t * 8 + j, by omega⟩ l
    have h₂ := u2_at o ⟨t * 8 + j, by omega⟩ l
    pointwise [h₁, h₂]
    rfl
  have e := sums_at (mulf (F := Ideal) (φ := .f32) i.dc i.u2) l j
  simp only [this] at e
  pointwise [In.a0, e]

theorem a1_at : i.a1 old (ix2 j l) = old (ix2 j l) + ∑ t : Fin 32, a.wTerm 1 (n * 256 + (t * 8 + j)) l := by
  have : ∀ t : Fin 32, mulf (F := Ideal) (φ := .f32) i.dc i.u1 (ix2 ⟨t * 8 + j, by omega⟩ l) =
      a.wTerm 1 (n * 256 + (t * 8 + j)) l := by
    intro t
    have h₁ := dc_at o ⟨t * 8 + j, by omega⟩ l
    have h₂ := u1_at o ⟨t * 8 + j, by omega⟩ l
    pointwise [h₁, h₂]
    rfl
  have e := sums_at (mulf (F := Ideal) (φ := .f32) i.dc i.u1) l j
  simp only [this] at e
  pointwise [In.a1, e]

theorem a2_at : i.a2 old (ix2 j l) = old (ix2 j l) + ∑ t : Fin 32, a.wTerm 2 (n * 256 + (t * 8 + j)) l := by
  have : ∀ t : Fin 32, mulf (F := Ideal) (φ := .f32) i.dc i.u (ix2 ⟨t * 8 + j, by omega⟩ l) =
      a.wTerm 2 (n * 256 + (t * 8 + j)) l := by
    intro t
    have h₁ := dc_at o ⟨t * 8 + j, by omega⟩ l
    have h₂ := u_at o ⟨t * 8 + j, by omega⟩ l
    pointwise [h₁, h₂]
    rfl
  have e := sums_at (mulf (F := Ideal) (φ := .f32) i.dc i.u) l j
  simp only [this] at e
  pointwise [In.a2, e]
end

end Cert.Tile

end
-- ==== Proof.Groups.lean ====
/- The eight groups of columns of the mixer, cut from the arrays of the step. -/
module

public import proofs.«01_k».proof.Proof.Mixer

@[expose] public section

set_option maxRecDepth 16384

noncomputable section

namespace Cert.Mixer

open Idealize.ShloMosaic

/-- The arrays: `z` (gate in columns 0–1023, the convolution's factors in 1024–3071), the incoming gradient
    (its first 1024 columns), the taps and the gain. -/
structure Arrays where
  z : FVec Ideal ⟨2, ![8192, 6144]⟩ .f32
  dy : FVec Ideal ⟨2, ![8192, 2048]⟩ .bf16
  w : FVec Ideal ⟨3, ![1, 1024, 3]⟩ .f32
  gain : FVec Ideal ⟨2, ![1, 1024]⟩ .f32

/-- Column `l` of group `g` among the 1024. -/
def col (g : Fin 8) (l : Fin 128) : Fin 1024 := ⟨g * 128 + l, by omega⟩

/-- Element `(s, b + g * 128 + l)` of `z`, zero past the last row. -/
def Arrays.zAt (A : Arrays) (b : ℕ) (hb : b ≤ 5120) (g : Fin 8) (s : ℕ) (l : Fin 128) : EReal :=
  if h : s < 8192 then A.z (ix2 ⟨s, h⟩ ⟨b + (col g l : ℕ), by have := (col g l).isLt; omega⟩) else 0

/-- The arrays of group `g`. -/
def Arrays.grp (A : Arrays) (g : Fin 8) : Grp where
  B := A.zAt 0 (by omega) g
  C := A.zAt 1024 (by omega) g
  H := A.zAt 2048 (by omega) g
  D s l := if h : s < 8192 then A.dy (ix2 ⟨s, h⟩ ⟨col g l, by have := (col g l).isLt; omega⟩) else 0
  W k l := A.w (ix3 0 (col g l) k)
  G l := A.gain (ix2 0 (col g l))

/-- Every column of the 1024 is a column of a group. -/
theorem col_surj (d : Fin 1024) : ∃ g l, col g l = d :=
  ⟨⟨d / 128, by omega⟩, ⟨d % 128, by omega⟩, by
    apply Fin.ext
    show (d : ℕ) / 128 * 128 + (d : ℕ) % 128 = d
    omega⟩

/-- The four results: the three column ranges of the gradient of `z`, of the taps and of the gain. -/
def Arrays.dB (A : Arrays) (g : Fin 8) (s : ℕ) (l : Fin 128) : EReal := (A.grp g).dY s l * (A.grp g).conv s l
def Arrays.dC (A : Arrays) (g : Fin 8) (s : ℕ) (l : Fin 128) : EReal := (A.grp g).dU s l * (A.grp g).H s l
def Arrays.dH (A : Arrays) (g : Fin 8) (s : ℕ) (l : Fin 128) : EReal := (A.grp g).dU s l * (A.grp g).C s l
def Arrays.dW (A : Arrays) (k : Fin 3) (g : Fin 8) (l : Fin 128) : EReal := ∑ s : Fin 8192, (A.grp g).wTerm k s l
def Arrays.dG (A : Arrays) (g : Fin 8) (l : Fin 128) : EReal := ∑ s : Fin 8192, (A.grp g).gTerm s l

/-- The gate is zero past the last row, and with it the gradient of the convolution's result. -/
theorem Arrays.dConv_past (A : Arrays) (g : Fin 8) (s : ℕ) (l : Fin 128) (h : 8192 ≤ s) :
    (A.grp g).dConv s l = 0 := by
  have : (A.grp g).B s l = 0 := by
    show A.zAt 0 (by omega) g s l = 0
    rw [Arrays.zAt, dif_neg (by omega)]
  rw [Grp.dConv, this, mul_zero]

end Cert.Mixer

end
-- ==== Proof.Point.lean ====
/- What one grid point's tile reads, group by group, from the blocks it is handed and the rows carried from the
   tile before. -/
module

public import proofs.«01_k».proof.Proof.Walk
public import proofs.«01_k».proof.Proof.TileAt
public import proofs.«01_k».proof.Proof.Groups
public import Idealize.ShloMosaic.Lib.Pipeline.CanonAppend

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ)

/-- The step word of a grid point, as the body computes it from the point's coordinates. -/
def stepWord (t : Fin cfg0.N) : BitVec 32 :=
  Scalar.addi (Scalar.muli (Scalar.addi (Scalar.muli (BitVec.ofNat 32 ↑(grid0.coords t 0)) 4#32)
    (BitVec.ofNat 32 ↑(grid0.coords t 1))) 4#32) (BitVec.ofNat 32 ↑(grid0.coords t 2))

/-- The columns of group `g`: a rectangle of `h` rows from row `r` of an array of `n` rows and 1024 columns. -/
def band {n : ℕ} (r h : ℕ) (hr : r + h ≤ n) (g : Fin 8) : Rect ⟨2, ![n, 1024]⟩ :=
  Rect.unit ![r, g.val * 128] ![h, 128] (by
    intro a
    match a with
    | 0 => exact hr
    | 1 => show g.val * 128 + 128 ≤ 1024; omega)

/-- What the body reads for group `g` at point `t`, the rows of the tile after being those of `p`. -/
def tin (c : Dev nD) (t : Fin cfg0.N) (p : Vec Ideal S8x1024 .f32) (g : Fin 8) : In where
  k := keep (stepWord t)
  cb := View.ld (iblk m c 3 t) (band (n := 256) 0 256 (by omega) g)
  cc := View.ld (iblk m c 4 t) (band (n := 256) 0 256 (by omega) g)
  ch := View.ld (iblk m c 5 t) (band (n := 256) 0 256 (by omega) g)
  dy := View.ld (iblk m c 2 t) (band (n := 256) 0 256 (by omega) g)
  c6 := View.ld (iblk m c 6 t) (band (n := 8) 6 1 (by omega) g)
  h6 := View.ld (iblk m c 7 t) (band (n := 8) 6 1 (by omega) g)
  c7 := View.ld (iblk m c 6 t) (band (n := 8) 7 1 (by omega) g)
  h7 := View.ld (iblk m c 7 t) (band (n := 8) 7 1 (by omega) g)
  w0 := View.ld (iblk m c 8 t) (band (n := 3) 0 1 (by omega) g)
  w1 := View.ld (iblk m c 8 t) (band (n := 3) 1 1 (by omega) g)
  w2 := View.ld (iblk m c 8 t) (band (n := 3) 2 1 (by omega) g)
  g := View.ld (iblk m c 9 t) (band (n := 1) 0 1 (by omega) g)
  n0 := View.ld p (band (n := 8) 0 1 (by omega) g)
  n1 := View.ld p (band (n := 8) 1 1 (by omega) g)

/-- The old partial sums of group `g`, rows `8 k …`, of an accumulator of `n` rows. -/
def oct {n : ℕ} (a : Vec Ideal ⟨2, ![n, 1024]⟩ .f32) (k : ℕ) (hk : k * 8 + 8 ≤ n) (g : Fin 8) : Oct :=
  View.ld a (band (k * 8) 8 hk g)

/-- A column of the 1024 named by its group, read where a store of the group's columns put it. -/
theorem pick {n : ℕ} (f : Fin 8 → FVec Ideal ⟨2, ![n, 128]⟩ .f32) (g : Fin 8) (x : Shape.Idx ⟨2, ![n, 128]⟩) (j : Fin n)
    (l d : ℕ) (hd : d < 1024) (h0 : (j : ℕ) = x 0) (h1 : d = g.val * 128 + l) (hl : l = (x 1 : ℕ)) :
    f ⟨d / 128, by omega⟩ (ix2 j ⟨d % 128, by omega⟩) = f g x := by
  have hx : (x 1 : ℕ) < 128 := (x 1).isLt
  have e1 : (⟨d / 128, by omega⟩ : Fin 8) = g := Fin.ext (by show d / 128 = g.val; omega)
  have e2 : (ix2 j ⟨d % 128, by omega⟩ : Shape.Idx ⟨2, ![n, 128]⟩) = x := by
    funext a
    match a with
    | 0 => exact Fin.ext h0
    | 1 => exact Fin.ext (by show d % 128 = (x 1 : ℕ); omega)
  rw [e1, e2]

/-- The same with the rows named by their part `k` of `n`. -/
theorem pickRow (f : Fin 3 → Fin 8 → Oct) (k : Fin 3) (g : Fin 8) (x : Shape.Idx S8x128) (j l d : ℕ) (hj : j < 24)
    (hd : d < 1024) (h0 : j = k.val * 8 + (x 0 : ℕ)) (h1 : d = g.val * 128 + l) (hl : l = (x 1 : ℕ)) :
    f ⟨j / 8, by omega⟩ ⟨d / 128, by omega⟩ (ix2 ⟨j % 8, by omega⟩ ⟨d % 128, by omega⟩) = f k g x := by
  have hx : (x 0 : ℕ) < 8 := (x 0).isLt
  have e : (⟨j / 8, by omega⟩ : Fin 3) = k := Fin.ext (by show j / 8 = k.val; omega)
  rw [e]
  exact pick (f k) g x _ l d hd (by show j % 8 = _; omega) h1 hl

/-- The same with the columns of a wide block named by their range of 1024. -/
theorem pickCol (f : Fin 3 → Fin 8 → FVec Ideal S256x128 .bf16) (k : Fin 3) (g : Fin 8) (x : Shape.Idx S256x128) (j : Fin 256)
    (l d : ℕ) (hd : d < 3072) (h0 : (j : ℕ) = (x 0 : ℕ)) (h1 : d = k.val * 1024 + g.val * 128 + l) (hl : l = (x 1 : ℕ)) :
    f ⟨d / 1024, by omega⟩ ⟨d % 1024 / 128, by omega⟩ (ix2 j ⟨d % 1024 % 128, by omega⟩) = f k g x := by
  have hx : (x 1 : ℕ) < 128 := (x 1).isLt
  have e : (⟨d / 1024, by omega⟩ : Fin 3) = k := Fin.ext (by show d / 1024 = k.val; omega)
  rw [e]
  exact pick (f k) g x j l (d % 1024) (by omega) h0 (by omega) hl

/-- Under later stores, an earlier one is not read. -/
theorem canon_over {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · have hL : ∃ q ∈ L, y ∈ q.1.set := by
        obtain ⟨q, hq, hy⟩ := h
        rcases List.mem_cons.mp hq with rfl | hq
        · exact absurd hy hm
        · exact ⟨q, hq, hy⟩
      exact (View.canon_cons_of_not_mem p (L ++ L') hm).trans
        ((canon_over L' L y hL).trans (View.canon_cons_of_not_mem p L hm).symm)

theorem canon_take {S : Shape} {e : EltTy} (n : ℕ) (L : List (View.Piece (Elt Ideal) S e)) (y : S.Idx)
    (h : ∃ p ∈ L.take n, y ∈ p.1.set) : View.canon L y = View.canon (L.take n) y := by
  conv_lhs => rw [← List.take_append_drop n L]
  exact canon_over _ _ y h

/-- The partial sums of tap `k`, added to the old ones, and column range `k` of the projections' gradient. -/
def part (i : In) (k : Fin 3) (old : Oct) : Oct :=
  match k with
  | 0 => i.a0 old
  | 1 => i.a1 old
  | 2 => i.a2 old
def range (i : In) (k : Fin 3) : FVec Ideal S256x128 .bf16 :=
  match k with
  | 0 => i.z0
  | 1 => i.z1
  | 2 => i.z2

end Cert.KernelIdeal.Walk

end
-- ==== Proof.PointA.lean ====
/- What the first point of the grid leaves in the carried buffers and in the projections' gradient, group by group. -/
module

public import proofs.«01_k».proof.Proof.Point
public import Idealize.ShloMosaic.Lib.Pipeline.ValueKit
public import Idealize.ShloMosaic.Lib.Pipeline.ReadBack

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)
  (h : conds0_A (grid0.coords t))

set_option maxHeartbeats 4000000 in
theorem carryA_at (j : Fin 8) (d : Fin 1024) : carryA m c t h (ix2 j d) =
    (tin m c t (k0_pay1 (F := Ideal)) ⟨d / 128, by omega⟩).carry (ix2 j ⟨d % 128, by omega⟩) := by
  unfold carryA runA
  frame_out
  rw [canon_take 8]
  rotate_left
  · exact View.cover_of_tiledL _ ![8, 128] (by sl_kernel_rfl) _
  simp only [List.take_succ_cons, List.take_zero]
  canon_tiles x h
  · refine (congrFun ?_ x).trans (pick (fun g => (tin m c t (k0_pay1 (F := Ideal)) g).carry) ⟨7, by omega⟩ x j (x 1) d d.isLt
      (by simpa using h0) (by simpa using h1) rfl).symm
    sl_kernel_rfl
  · refine (congrFun ?_ x).trans (pick (fun g => (tin m c t (k0_pay1 (F := Ideal)) g).carry) ⟨6, by omega⟩ x j (x 1) d d.isLt
      (by simpa using h0) (by simpa using h1) rfl).symm
    sl_kernel_rfl
  · refine (congrFun ?_ x).trans (pick (fun g => (tin m c t (k0_pay1 (F := Ideal)) g).carry) ⟨5, by omega⟩ x j (x 1) d d.isLt
      (by simpa using h0) (by simpa using h1) rfl).symm
    sl_kernel_rfl
  · refine (congrFun ?_ x).trans (pick (fun g => (tin m c t (k0_pay1 (F := Ideal)) g).carry) ⟨4, by omega⟩ x j (x 1) d d.isLt
      (by simpa using h0) (by simpa using h1) rfl).symm
    sl_kernel_rfl
  · refine (congrFun ?_ x).trans (pick (fun g => (tin m c t (k0_pay1 (F := Ideal)) g).carry) ⟨3, by omega⟩ x j (x 1) d d.isLt
      (by simpa using h0) (by simpa using h1) rfl).symm
    sl_kernel_rfl
  · refine (congrFun ?_ x).trans (pick (fun g => (tin m c t (k0_pay1 (F := Ideal)) g).carry) ⟨2, by omega⟩ x j (x 1) d d.isLt
      (by simpa using h0) (by simpa using h1) rfl).symm
    sl_kernel_rfl
  · refine (congrFun ?_ x).trans (pick (fun g => (tin m c t (k0_pay1 (F := Ideal)) g).carry) ⟨1, by omega⟩ x j (x 1) d d.isLt
      (by simpa using h0) (by simpa using h1) rfl).symm
    sl_kernel_rfl
  · refine (congrFun ?_ x).trans (pick (fun g => (tin m c t (k0_pay1 (F := Ideal)) g).carry) ⟨0, by omega⟩ x j (x 1) d d.isLt
      (by simpa using h0) (by simpa using h1) rfl).symm
    sl_kernel_rfl

set_option maxHeartbeats 4000000 in
theorem gainAccA_at (j : Fin 8) (d : Fin 1024) : gainAccA m c t h (ix2 j d) =
    (tin m c t (k0_pay1 (F := Ideal)) ⟨d / 128, by omega⟩).ag (oct (k0_pay3 (F := Ideal)) 0 (by omega) ⟨d / 128, by omega⟩) (ix2 j ⟨d % 128, by omega⟩) := by
  unfold gainAccA runA
  frame_open
  simp (disch := decide) only [↓View.readCov_skip, ↓View.readCov_fill]
  frame_out
  rw [canon_take 8]
  rotate_left
  · exact View.cover_of_tiledL _ ![8, 128] (by sl_kernel_rfl) _
  simp only [List.take_succ_cons, List.take_zero]
  canon_tiles x h
  · refine (congrFun ?_ x).trans (pick (fun g => (tin m c t (k0_pay1 (F := Ideal)) g).ag (oct (k0_pay3 (F := Ideal)) 0 (by omega) g)) ⟨7, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨6, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨5, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨4, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨3, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨2, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨1, by omega⟩ x j
      (x 1) d d.isLt (by simpa using h0) (by simpa using h1) rfl).symm
    sl_kernel_rfl
  · refine (congrFun ?_ x).trans (pick (fun g => (tin m c t (k0_pay1 (F := Ideal)) g).ag (oct (k0_pay3 (F := Ideal)) 0 (by omega) g)) ⟨0, by omega⟩ x j
      (x 1) d d.isLt (by simpa using h0) (by simpa using h1) rfl).symm
    sl_kernel_rfl

set_option maxHeartbeats 4000000 in
theorem tapsAccA_at (j : Fin 24) (d : Fin 1024) : tapsAccA m c t h (ix2 j d) =
    part (tin m c t (k0_pay1 (F := Ideal)) ⟨d / 128, by omega⟩) ⟨j / 8, by omega⟩ (oct (k0_pay2 (F := Ideal)) (j / 8) (by omega) ⟨d / 128, by omega⟩)
      (ix2 ⟨j % 8, by omega⟩ ⟨d % 128, by omega⟩) := by
  unfold tapsAccA runA
  frame_open
  simp (disch := decide) only [↓View.readCov_skip, ↓View.readCov_fill]
  frame_out
  rw [canon_take 24]
  rotate_left
  · exact View.cover_of_tiledL _ ![8, 128] (by sl_kernel_rfl) _
  simp only [List.take_succ_cons, List.take_zero]
  canon_tiles x h
  · refine (congrFun ?_ x).trans (pickRow (fun k g => part (tin m c t (k0_pay1 (F := Ideal)) g) k (oct (k0_pay2 (F := Ideal)) k (by omega) g)) ⟨2, by omega⟩
      ⟨7, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨7, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨7, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨6, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨6, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨6, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨5, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨5, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨5, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨4, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨4, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨4, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨3, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨3, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨3, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨2, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨2, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨2, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨1, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨1, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨1, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨2, by omega⟩
      ⟨0, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨1, by omega⟩
      ⟨0, by omega⟩ x j (x 1) d j.isLt d.isLt (by simpa using h0) (by simpa using h1) rfl).symm
    sl_kernel_rfl
  · refine (congrFun ?_ x).trans (pickRow (fun k g => part (tin m c t (k0_pay1 (F := Ideal)) g) k (oct (k0_pay2 (F := Ideal)) k (by omega) g)) ⟨0, by omega⟩
      ⟨0, by omega⟩ x j (x 1) d j.isLt d.isLt (by simpa using h0) (by simpa using h1) rfl).symm
    sl_kernel_rfl

set_option maxHeartbeats 4000000 in
theorem projA_at (j : Fin 256) (d : Fin 3072) : projA m c t h (ix2 j d) =
    range (tin m c t (k0_pay1 (F := Ideal)) ⟨d % 1024 / 128, by omega⟩) ⟨d / 1024, by omega⟩ (ix2 j ⟨d % 1024 % 128, by omega⟩) := by
  unfold projA runA
  frame_open
  simp (disch := decide) only [↓View.readCov_skip, ↓View.readCov_fill]
  frame_out
  canon_tiles x h
  · refine (congrFun ?_ x).trans (pickCol (fun k g => range (tin m c t (k0_pay1 (F := Ideal)) g) k) ⟨2, by omega⟩ ⟨7, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨7, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨7, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨6, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨6, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨6, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨5, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨5, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨5, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨4, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨4, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨4, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨3, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨3, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨3, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨2, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨2, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨2, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨1, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨1, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨1, by omega⟩ x j (x 1) d
      d.isLt (by simpa using h0) (by simpa using h1) rfl).symm
    sl_kernel_rfl
  · refine (congrFun ?_ x).trans (pickCol (fun k g => range (tin m c t (k0_pay1 (F := Ideal)) g) k) ⟨2, by omega⟩ ⟨0, by omega⟩ x j (x 1) d
      d.isLt (by simpa using h0) (by simpa using h1) rfl).symm
    sl_kernel_rfl
  · refine (congrFun ?_ x).trans (pickCol (fun k g => range (tin m c t (k0_pay1 (F := Ideal)) g) k) ⟨1, by omega⟩ ⟨0, by omega⟩ x j (x 1) d
      d.isLt (by simpa using h0) (by simpa using h1) rfl).symm
    sl_kernel_rfl
  · refine (congrFun ?_ x).trans (pickCol (fun k g => range (tin m c t (k0_pay1 (F := Ideal)) g) k) ⟨0, by omega⟩ ⟨0, by omega⟩ x j (x 1) d
      d.isLt (by simpa using h0) (by simpa using h1) rfl).symm
    sl_kernel_rfl

end Cert.KernelIdeal.Walk

end
-- ==== Proof.PointB.lean ====
/- What an inner point of an output tile leaves in the carried buffers and in the projections' gradient, group by group. -/
module

public import proofs.«01_k».proof.Proof.Point
public import Idealize.ShloMosaic.Lib.Pipeline.ValueKit
public import Idealize.ShloMosaic.Lib.Pipeline.ReadBack

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)
  (h : conds0_B (grid0.coords t)) (s : Scr Ideal)

set_option maxHeartbeats 4000000 in
theorem carryB_at (j : Fin 8) (d : Fin 1024) : carryB m c t h s (ix2 j d) =
    (tin m c t s.2.1 ⟨d / 128, by omega⟩).carry (ix2 j ⟨d % 128, by omega⟩) := by
  unfold carryB runB
  frame_out
  canon_tiles x h
  · refine (congrFun ?_ x).trans (pick (fun g => (tin m c t s.2.1 g).carry) ⟨7, by omega⟩ x j (x 1) d d.isLt
      (by simpa using h0) (by simpa using h1) rfl).symm
    sl_kernel_rfl
  · refine (congrFun ?_ x).trans (pick (fun g => (tin m c t s.2.1 g).carry) ⟨6, by omega⟩ x j (x 1) d d.isLt
      (by simpa using h0) (by simpa using h1) rfl).symm
    sl_kernel_rfl
  · refine (congrFun ?_ x).trans (pick (fun g => (tin m c t s.2.1 g).carry) ⟨5, by omega⟩ x j (x 1) d d.isLt
      (by simpa using h0) (by simpa using h1) rfl).symm
    sl_kernel_rfl
  · refine (congrFun ?_ x).trans (pick (fun g => (tin m c t s.2.1 g).carry) ⟨4, by omega⟩ x j (x 1) d d.isLt
      (by simpa using h0) (by simpa using h1) rfl).symm
    sl_kernel_rfl
  · refine (congrFun ?_ x).trans (pick (fun g => (tin m c t s.2.1 g).carry) ⟨3, by omega⟩ x j (x 1) d d.isLt
      (by simpa using h0) (by simpa using h1) rfl).symm
    sl_kernel_rfl
  · refine (congrFun ?_ x).trans (pick (fun g => (tin m c t s.2.1 g).carry) ⟨2, by omega⟩ x j (x 1) d d.isLt
      (by simpa using h0) (by simpa using h1) rfl).symm
    sl_kernel_rfl
  · refine (congrFun ?_ x).trans (pick (fun g => (tin m c t s.2.1 g).carry) ⟨1, by omega⟩ x j (x 1) d d.isLt
      (by simpa using h0) (by simpa using h1) rfl).symm
    sl_kernel_rfl
  · refine (congrFun ?_ x).trans (pick (fun g => (tin m c t s.2.1 g).carry) ⟨0, by omega⟩ x j (x 1) d d.isLt
      (by simpa using h0) (by simpa using h1) rfl).symm
    sl_kernel_rfl

set_option maxHeartbeats 4000000 in
theorem gainAccB_at (j : Fin 8) (d : Fin 1024) : gainAccB m c t h s (ix2 j d) =
    (tin m c t s.2.1 ⟨d / 128, by omega⟩).ag (oct s.2.2.2 0 (by omega) ⟨d / 128, by omega⟩) (ix2 j ⟨d % 128, by omega⟩) := by
  unfold gainAccB runB
  frame_out
  simp only [read_unread_whole]
  canon_tiles x h
  · refine (congrFun ?_ x).trans (pick (fun g => (tin m c t s.2.1 g).ag (oct s.2.2.2 0 (by omega) g)) ⟨7, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨6, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨5, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨4, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨3, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨2, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨1, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨0, by omega⟩ x j
      (x 1) d d.isLt (by simpa using h0) (by simpa using h1) rfl).symm
    sl_kernel_rfl

set_option maxHeartbeats 4000000 in
theorem tapsAccB_at (j : Fin 24) (d : Fin 1024) : tapsAccB m c t h s (ix2 j d) =
    part (tin m c t s.2.1 ⟨d / 128, by omega⟩) ⟨j / 8, by omega⟩ (oct s.2.2.1 (j / 8) (by omega) ⟨d / 128, by omega⟩)
      (ix2 ⟨j % 8, by omega⟩ ⟨d % 128, by omega⟩) := by
  unfold tapsAccB runB
  frame_out
  simp only [read_unread_whole]
  canon_tiles x h
  · refine (congrFun ?_ x).trans (pickRow (fun k g => part (tin m c t s.2.1 g) k (oct s.2.2.1 k (by omega) g)) ⟨2, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨0, by omega⟩ x j (x 1) d j.isLt d.isLt (by simpa using h0) (by simpa using h1) rfl).symm
    sl_kernel_rfl

set_option maxHeartbeats 4000000 in
theorem projB_at (j : Fin 256) (d : Fin 3072) : projB m c t h s (ix2 j d) =
    range (tin m c t s.2.1 ⟨d % 1024 / 128, by omega⟩) ⟨d / 1024, by omega⟩ (ix2 j ⟨d % 1024 % 128, by omega⟩) := by
  unfold projB runB
  frame_out
  simp only [read_unread_whole]
  canon_tiles x h
  · refine (congrFun ?_ x).trans (pickCol (fun k g => range (tin m c t s.2.1 g) k) ⟨2, by omega⟩ ⟨7, by omega⟩ x j (x 1) d
      d.isLt (by simpa using h0) (by simpa using h1) rfl).symm
    sl_kernel_rfl
  · refine (congrFun ?_ x).trans (pickCol (fun k g => range (tin m c t s.2.1 g) k) ⟨1, by omega⟩ ⟨7, by omega⟩ x j (x 1) d
      d.isLt (by simpa using h0) (by simpa using h1) rfl).symm
    sl_kernel_rfl
  · refine (congrFun ?_ x).trans (pickCol (fun k g => range (tin m c t s.2.1 g) k) ⟨0, by omega⟩ ⟨7, by omega⟩ x j (x 1) d
      d.isLt (by simpa using h0) (by simpa using h1) rfl).symm
    sl_kernel_rfl
  · refine (congrFun ?_ x).trans (pickCol (fun k g => range (tin m c t s.2.1 g) k) ⟨2, by omega⟩ ⟨6, by omega⟩ x j (x 1) d
      d.isLt (by simpa using h0) (by simpa using h1) rfl).symm
    sl_kernel_rfl
  · refine (congrFun ?_ x).trans (pickCol (fun k g => range (tin m c t s.2.1 g) k) ⟨1, by omega⟩ ⟨6, by omega⟩ x j (x 1) d
      d.isLt (by simpa using h0) (by simpa using h1) rfl).symm
    sl_kernel_rfl
  · refine (congrFun ?_ x).trans (pickCol (fun k g => range (tin m c t s.2.1 g) k) ⟨0, by omega⟩ ⟨6, by omega⟩ x j (x 1) d
      d.isLt (by simpa using h0) (by simpa using h1) rfl).symm
    sl_kernel_rfl
  · refine (congrFun ?_ x).trans (pickCol (fun k g => range (tin m c t s.2.1 g) k) ⟨2, by omega⟩ ⟨5, by omega⟩ x j (x 1) d
      d.isLt (by simpa using h0) (by simpa using h1) rfl).symm
    sl_kernel_rfl
  · refine (congrFun ?_ x).trans (pickCol (fun k g => range (tin m c t s.2.1 g) k) ⟨1, by omega⟩ ⟨5, by omega⟩ x j (x 1) d
      d.isLt (by simpa using h0) (by simpa using h1) rfl).symm
    sl_kernel_rfl
  · refine (congrFun ?_ x).trans (pickCol (fun k g => range (tin m c t s.2.1 g) k) ⟨0, by omega⟩ ⟨5, by omega⟩ x j (x 1) d
      d.isLt (by simpa using h0) (by simpa using h1) rfl).symm
    sl_kernel_rfl
  · refine (congrFun ?_ x).trans (pickCol (fun k g => range (tin m c t s.2.1 g) k) ⟨2, by omega⟩ ⟨4, by omega⟩ x j (x 1) d
      d.isLt (by simpa using h0) (by simpa using h1) rfl).symm
    sl_kernel_rfl
  · refine (congrFun ?_ x).trans (pickCol (fun k g => range (tin m c t s.2.1 g) k) ⟨1, by omega⟩ ⟨4, by omega⟩ x j (x 1) d
      d.isLt (by simpa using h0) (by simpa using h1) rfl).symm
    sl_kernel_rfl
  · refine (congrFun ?_ x).trans (pickCol (fun k g => range (tin m c t s.2.1 g) k) ⟨0, by omega⟩ ⟨4, by omega⟩ x j (x 1) d
      d.isLt (by simpa using h0) (by simpa using h1) rfl).symm
    sl_kernel_rfl
  · refine (congrFun ?_ x).trans (pickCol (fun k g => range (tin m c t s.2.1 g) k) ⟨2, by omega⟩ ⟨3, by omega⟩ x j (x 1) d
      d.isLt (by simpa using h0) (by simpa using h1) rfl).symm
    sl_kernel_rfl
  · refine (congrFun ?_ x).trans (pickCol (fun k g => range (tin m c t s.2.1 g) k) ⟨1, by omega⟩ ⟨3, by omega⟩ x j (x 1) d
      d.isLt (by simpa using h0) (by simpa using h1) rfl).symm
    sl_kernel_rfl
  · refine (congrFun ?_ x).trans (pickCol (fun k g => range (tin m c t s.2.1 g) k) ⟨0, by omega⟩ ⟨3, by omega⟩ x j (x 1) d
      d.isLt (by simpa using h0) (by simpa using h1) rfl).symm
    sl_kernel_rfl
  · refine (congrFun ?_ x).trans (pickCol (fun k g => range (tin m c t s.2.1 g) k) ⟨2, by omega⟩ ⟨2, by omega⟩ x j (x 1) d
      d.isLt (by simpa using h0) (by simpa using h1) rfl).symm
    sl_kernel_rfl
  · refine (congrFun ?_ x).trans (pickCol (fun k g => range (tin m c t s.2.1 g) k) ⟨1, by omega⟩ ⟨2, by omega⟩ x j (x 1) d
      d.isLt (by simpa using h0) (by simpa using h1) rfl).symm
    sl_kernel_rfl
  · refine (congrFun ?_ x).trans (pickCol (fun k g => range (tin m c t s.2.1 g) k) ⟨0, by omega⟩ ⟨2, by omega⟩ x j (x 1) d
      d.isLt (by simpa using h0) (by simpa using h1) rfl).symm
    sl_kernel_rfl
  · refine (congrFun ?_ x).trans (pickCol (fun k g => range (tin m c t s.2.1 g) k) ⟨2, by omega⟩ ⟨1, by omega⟩ x j (x 1) d
      d.isLt (by simpa using h0) (by simpa using h1) rfl).symm
    sl_kernel_rfl
  · refine (congrFun ?_ x).trans (pickCol (fun k g => range (tin m c t s.2.1 g) k) ⟨1, by omega⟩ ⟨1, by omega⟩ x j (x 1) d
      d.isLt (by simpa using h0) (by simpa using h1) rfl).symm
    sl_kernel_rfl
  · refine (congrFun ?_ x).trans (pickCol (fun k g => range (tin m c t s.2.1 g) k) ⟨0, by omega⟩ ⟨1, by omega⟩ x j (x 1) d
      d.isLt (by simpa using h0) (by simpa using h1) rfl).symm
    sl_kernel_rfl
  · refine (congrFun ?_ x).trans (pickCol (fun k g => range (tin m c t s.2.1 g) k) ⟨2, by omega⟩ ⟨0, by omega⟩ x j (x 1) d
      d.isLt (by simpa using h0) (by simpa using h1) rfl).symm
    sl_kernel_rfl
  · refine (congrFun ?_ x).trans (pickCol (fun k g => range (tin m c t s.2.1 g) k) ⟨1, by omega⟩ ⟨0, by omega⟩ x j (x 1) d
      d.isLt (by simpa using h0) (by simpa using h1) rfl).symm
    sl_kernel_rfl
  · refine (congrFun ?_ x).trans (pickCol (fun k g => range (tin m c t s.2.1 g) k) ⟨0, by omega⟩ ⟨0, by omega⟩ x j (x 1) d
      d.isLt (by simpa using h0) (by simpa using h1) rfl).symm
    sl_kernel_rfl

end Cert.KernelIdeal.Walk

end
-- ==== Proof.PointC.lean ====
/- What the last point of an output tile leaves in the carried buffers and in the projections' gradient, group by group. -/
module

public import proofs.«01_k».proof.Proof.Point
public import Idealize.ShloMosaic.Lib.Pipeline.ValueKit
public import Idealize.ShloMosaic.Lib.Pipeline.ReadBack

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)
  (h : conds0_C (grid0.coords t)) (s : Scr Ideal)

set_option maxHeartbeats 4000000 in
theorem carryC_at (j : Fin 8) (d : Fin 1024) : carryC m c t h s (ix2 j d) =
    (tin m c t s.2.1 ⟨d / 128, by omega⟩).carry (ix2 j ⟨d % 128, by omega⟩) := by
  unfold carryC runC
  frame_out
  canon_tiles x h
  · refine (congrFun ?_ x).trans (pick (fun g => (tin m c t s.2.1 g).carry) ⟨7, by omega⟩ x j (x 1) d d.isLt
      (by simpa using h0) (by simpa using h1) rfl).symm
    sl_kernel_rfl
  · refine (congrFun ?_ x).trans (pick (fun g => (tin m c t s.2.1 g).carry) ⟨6, by omega⟩ x j (x 1) d d.isLt
      (by simpa using h0) (by simpa using h1) rfl).symm
    sl_kernel_rfl
  · refine (congrFun ?_ x).trans (pick (fun g => (tin m c t s.2.1 g).carry) ⟨5, by omega⟩ x j (x 1) d d.isLt
      (by simpa using h0) (by simpa using h1) rfl).symm
    sl_kernel_rfl
  · refine (congrFun ?_ x).trans (pick (fun g => (tin m c t s.2.1 g).carry) ⟨4, by omega⟩ x j (x 1) d d.isLt
      (by simpa using h0) (by simpa using h1) rfl).symm
    sl_kernel_rfl
  · refine (congrFun ?_ x).trans (pick (fun g => (tin m c t s.2.1 g).carry) ⟨3, by omega⟩ x j (x 1) d d.isLt
      (by simpa using h0) (by simpa using h1) rfl).symm
    sl_kernel_rfl
  · refine (congrFun ?_ x).trans (pick (fun g => (tin m c t s.2.1 g).carry) ⟨2, by omega⟩ x j (x 1) d d.isLt
      (by simpa using h0) (by simpa using h1) rfl).symm
    sl_kernel_rfl
  · refine (congrFun ?_ x).trans (pick (fun g => (tin m c t s.2.1 g).carry) ⟨1, by omega⟩ x j (x 1) d d.isLt
      (by simpa using h0) (by simpa using h1) rfl).symm
    sl_kernel_rfl
  · refine (congrFun ?_ x).trans (pick (fun g => (tin m c t s.2.1 g).carry) ⟨0, by omega⟩ x j (x 1) d d.isLt
      (by simpa using h0) (by simpa using h1) rfl).symm
    sl_kernel_rfl

set_option maxHeartbeats 4000000 in
theorem gainAccC_at (j : Fin 8) (d : Fin 1024) : gainAccC m c t h s (ix2 j d) =
    (tin m c t s.2.1 ⟨d / 128, by omega⟩).ag (oct s.2.2.2 0 (by omega) ⟨d / 128, by omega⟩) (ix2 j ⟨d % 128, by omega⟩) := by
  unfold gainAccC runC
  frame_out
  simp only [read_unread_whole]
  canon_tiles x h
  · refine (congrFun ?_ x).trans (pick (fun g => (tin m c t s.2.1 g).ag (oct s.2.2.2 0 (by omega) g)) ⟨7, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨6, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨5, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨4, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨3, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨2, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨1, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨0, by omega⟩ x j
      (x 1) d d.isLt (by simpa using h0) (by simpa using h1) rfl).symm
    sl_kernel_rfl

set_option maxHeartbeats 4000000 in
theorem tapsAccC_at (j : Fin 24) (d : Fin 1024) : tapsAccC m c t h s (ix2 j d) =
    part (tin m c t s.2.1 ⟨d / 128, by omega⟩) ⟨j / 8, by omega⟩ (oct s.2.2.1 (j / 8) (by omega) ⟨d / 128, by omega⟩)
      (ix2 ⟨j % 8, by omega⟩ ⟨d % 128, by omega⟩) := by
  unfold tapsAccC runC
  frame_out
  simp only [read_unread_whole]
  canon_tiles x h
  · refine (congrFun ?_ x).trans (pickRow (fun k g => part (tin m c t s.2.1 g) k (oct s.2.2.1 k (by omega) g)) ⟨2, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨0, by omega⟩ x j (x 1) d j.isLt d.isLt (by simpa using h0) (by simpa using h1) rfl).symm
    sl_kernel_rfl

set_option maxHeartbeats 4000000 in
theorem projC_at (j : Fin 256) (d : Fin 3072) : projC m c t h s (ix2 j d) =
    range (tin m c t s.2.1 ⟨d % 1024 / 128, by omega⟩) ⟨d / 1024, by omega⟩ (ix2 j ⟨d % 1024 % 128, by omega⟩) := by
  unfold projC runC
  frame_out
  simp only [read_unread_whole]
  canon_tiles x h
  · refine (congrFun ?_ x).trans (pickCol (fun k g => range (tin m c t s.2.1 g) k) ⟨2, by omega⟩ ⟨7, by omega⟩ x j (x 1) d
      d.isLt (by simpa using h0) (by simpa using h1) rfl).symm
    sl_kernel_rfl
  · refine (congrFun ?_ x).trans (pickCol (fun k g => range (tin m c t s.2.1 g) k) ⟨1, by omega⟩ ⟨7, by omega⟩ x j (x 1) d
      d.isLt (by simpa using h0) (by simpa using h1) rfl).symm
    sl_kernel_rfl
  · refine (congrFun ?_ x).trans (pickCol (fun k g => range (tin m c t s.2.1 g) k) ⟨0, by omega⟩ ⟨7, by omega⟩ x j (x 1) d
      d.isLt (by simpa using h0) (by simpa using h1) rfl).symm
    sl_kernel_rfl
  · refine (congrFun ?_ x).trans (pickCol (fun k g => range (tin m c t s.2.1 g) k) ⟨2, by omega⟩ ⟨6, by omega⟩ x j (x 1) d
      d.isLt (by simpa using h0) (by simpa using h1) rfl).symm
    sl_kernel_rfl
  · refine (congrFun ?_ x).trans (pickCol (fun k g => range (tin m c t s.2.1 g) k) ⟨1, by omega⟩ ⟨6, by omega⟩ x j (x 1) d
      d.isLt (by simpa using h0) (by simpa using h1) rfl).symm
    sl_kernel_rfl
  · refine (congrFun ?_ x).trans (pickCol (fun k g => range (tin m c t s.2.1 g) k) ⟨0, by omega⟩ ⟨6, by omega⟩ x j (x 1) d
      d.isLt (by simpa using h0) (by simpa using h1) rfl).symm
    sl_kernel_rfl
  · refine (congrFun ?_ x).trans (pickCol (fun k g => range (tin m c t s.2.1 g) k) ⟨2, by omega⟩ ⟨5, by omega⟩ x j (x 1) d
      d.isLt (by simpa using h0) (by simpa using h1) rfl).symm
    sl_kernel_rfl
  · refine (congrFun ?_ x).trans (pickCol (fun k g => range (tin m c t s.2.1 g) k) ⟨1, by omega⟩ ⟨5, by omega⟩ x j (x 1) d
      d.isLt (by simpa using h0) (by simpa using h1) rfl).symm
    sl_kernel_rfl
  · refine (congrFun ?_ x).trans (pickCol (fun k g => range (tin m c t s.2.1 g) k) ⟨0, by omega⟩ ⟨5, by omega⟩ x j (x 1) d
      d.isLt (by simpa using h0) (by simpa using h1) rfl).symm
    sl_kernel_rfl
  · refine (congrFun ?_ x).trans (pickCol (fun k g => range (tin m c t s.2.1 g) k) ⟨2, by omega⟩ ⟨4, by omega⟩ x j (x 1) d
      d.isLt (by simpa using h0) (by simpa using h1) rfl).symm
    sl_kernel_rfl
  · refine (congrFun ?_ x).trans (pickCol (fun k g => range (tin m c t s.2.1 g) k) ⟨1, by omega⟩ ⟨4, by omega⟩ x j (x 1) d
      d.isLt (by simpa using h0) (by simpa using h1) rfl).symm
    sl_kernel_rfl
  · refine (congrFun ?_ x).trans (pickCol (fun k g => range (tin m c t s.2.1 g) k) ⟨0, by omega⟩ ⟨4, by omega⟩ x j (x 1) d
      d.isLt (by simpa using h0) (by simpa using h1) rfl).symm
    sl_kernel_rfl
  · refine (congrFun ?_ x).trans (pickCol (fun k g => range (tin m c t s.2.1 g) k) ⟨2, by omega⟩ ⟨3, by omega⟩ x j (x 1) d
      d.isLt (by simpa using h0) (by simpa using h1) rfl).symm
    sl_kernel_rfl
  · refine (congrFun ?_ x).trans (pickCol (fun k g => range (tin m c t s.2.1 g) k) ⟨1, by omega⟩ ⟨3, by omega⟩ x j (x 1) d
      d.isLt (by simpa using h0) (by simpa using h1) rfl).symm
    sl_kernel_rfl
  · refine (congrFun ?_ x).trans (pickCol (fun k g => range (tin m c t s.2.1 g) k) ⟨0, by omega⟩ ⟨3, by omega⟩ x j (x 1) d
      d.isLt (by simpa using h0) (by simpa using h1) rfl).symm
    sl_kernel_rfl
  · refine (congrFun ?_ x).trans (pickCol (fun k g => range (tin m c t s.2.1 g) k) ⟨2, by omega⟩ ⟨2, by omega⟩ x j (x 1) d
      d.isLt (by simpa using h0) (by simpa using h1) rfl).symm
    sl_kernel_rfl
  · refine (congrFun ?_ x).trans (pickCol (fun k g => range (tin m c t s.2.1 g) k) ⟨1, by omega⟩ ⟨2, by omega⟩ x j (x 1) d
      d.isLt (by simpa using h0) (by simpa using h1) rfl).symm
    sl_kernel_rfl
  · refine (congrFun ?_ x).trans (pickCol (fun k g => range (tin m c t s.2.1 g) k) ⟨0, by omega⟩ ⟨2, by omega⟩ x j (x 1) d
      d.isLt (by simpa using h0) (by simpa using h1) rfl).symm
    sl_kernel_rfl
  · refine (congrFun ?_ x).trans (pickCol (fun k g => range (tin m c t s.2.1 g) k) ⟨2, by omega⟩ ⟨1, by omega⟩ x j (x 1) d
      d.isLt (by simpa using h0) (by simpa using h1) rfl).symm
    sl_kernel_rfl
  · refine (congrFun ?_ x).trans (pickCol (fun k g => range (tin m c t s.2.1 g) k) ⟨1, by omega⟩ ⟨1, by omega⟩ x j (x 1) d
      d.isLt (by simpa using h0) (by simpa using h1) rfl).symm
    sl_kernel_rfl
  · refine (congrFun ?_ x).trans (pickCol (fun k g => range (tin m c t s.2.1 g) k) ⟨0, by omega⟩ ⟨1, by omega⟩ x j (x 1) d
      d.isLt (by simpa using h0) (by simpa using h1) rfl).symm
    sl_kernel_rfl
  · refine (congrFun ?_ x).trans (pickCol (fun k g => range (tin m c t s.2.1 g) k) ⟨2, by omega⟩ ⟨0, by omega⟩ x j (x 1) d
      d.isLt (by simpa using h0) (by simpa using h1) rfl).symm
    sl_kernel_rfl
  · refine (congrFun ?_ x).trans (pickCol (fun k g => range (tin m c t s.2.1 g) k) ⟨1, by omega⟩ ⟨0, by omega⟩ x j (x 1) d
      d.isLt (by simpa using h0) (by simpa using h1) rfl).symm
    sl_kernel_rfl
  · refine (congrFun ?_ x).trans (pickCol (fun k g => range (tin m c t s.2.1 g) k) ⟨0, by omega⟩ ⟨0, by omega⟩ x j (x 1) d
      d.isLt (by simpa using h0) (by simpa using h1) rfl).symm
    sl_kernel_rfl

end Cert.KernelIdeal.Walk

end
-- ==== Proof.PointD.lean ====
/- What the first point of a later output tile leaves in the carried buffers and in the projections' gradient, group by group. -/
module

public import proofs.«01_k».proof.Proof.Point
public import Idealize.ShloMosaic.Lib.Pipeline.ValueKit
public import Idealize.ShloMosaic.Lib.Pipeline.ReadBack

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)
  (h : conds0_D (grid0.coords t)) (s : Scr Ideal)

set_option maxHeartbeats 4000000 in
theorem carryD_at (j : Fin 8) (d : Fin 1024) : carryD m c t h s (ix2 j d) =
    (tin m c t s.2.1 ⟨d / 128, by omega⟩).carry (ix2 j ⟨d % 128, by omega⟩) := by
  unfold carryD runD
  frame_out
  canon_tiles x h
  · refine (congrFun ?_ x).trans (pick (fun g => (tin m c t s.2.1 g).carry) ⟨7, by omega⟩ x j (x 1) d d.isLt
      (by simpa using h0) (by simpa using h1) rfl).symm
    sl_kernel_rfl
  · refine (congrFun ?_ x).trans (pick (fun g => (tin m c t s.2.1 g).carry) ⟨6, by omega⟩ x j (x 1) d d.isLt
      (by simpa using h0) (by simpa using h1) rfl).symm
    sl_kernel_rfl
  · refine (congrFun ?_ x).trans (pick (fun g => (tin m c t s.2.1 g).carry) ⟨5, by omega⟩ x j (x 1) d d.isLt
      (by simpa using h0) (by simpa using h1) rfl).symm
    sl_kernel_rfl
  · refine (congrFun ?_ x).trans (pick (fun g => (tin m c t s.2.1 g).carry) ⟨4, by omega⟩ x j (x 1) d d.isLt
      (by simpa using h0) (by simpa using h1) rfl).symm
    sl_kernel_rfl
  · refine (congrFun ?_ x).trans (pick (fun g => (tin m c t s.2.1 g).carry) ⟨3, by omega⟩ x j (x 1) d d.isLt
      (by simpa using h0) (by simpa using h1) rfl).symm
    sl_kernel_rfl
  · refine (congrFun ?_ x).trans (pick (fun g => (tin m c t s.2.1 g).carry) ⟨2, by omega⟩ x j (x 1) d d.isLt
      (by simpa using h0) (by simpa using h1) rfl).symm
    sl_kernel_rfl
  · refine (congrFun ?_ x).trans (pick (fun g => (tin m c t s.2.1 g).carry) ⟨1, by omega⟩ x j (x 1) d d.isLt
      (by simpa using h0) (by simpa using h1) rfl).symm
    sl_kernel_rfl
  · refine (congrFun ?_ x).trans (pick (fun g => (tin m c t s.2.1 g).carry) ⟨0, by omega⟩ x j (x 1) d d.isLt
      (by simpa using h0) (by simpa using h1) rfl).symm
    sl_kernel_rfl

set_option maxHeartbeats 4000000 in
theorem gainAccD_at (j : Fin 8) (d : Fin 1024) : gainAccD m c t h s (ix2 j d) =
    (tin m c t s.2.1 ⟨d / 128, by omega⟩).ag (oct s.2.2.2 0 (by omega) ⟨d / 128, by omega⟩) (ix2 j ⟨d % 128, by omega⟩) := by
  unfold gainAccD runD
  frame_out
  simp only [read_unread_whole]
  canon_tiles x h
  · refine (congrFun ?_ x).trans (pick (fun g => (tin m c t s.2.1 g).ag (oct s.2.2.2 0 (by omega) g)) ⟨7, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨6, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨5, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨4, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨3, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨2, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨1, by omega⟩ x j
      (x 1) d d.isLt (by simpa using h0) (by simpa using h1) rfl).symm
    sl_kernel_rfl
  · refine (congrFun ?_ x).trans (pick (fun g => (tin m c t s.2.1 g).ag (oct s.2.2.2 0 (by omega) g)) ⟨0, by omega⟩ x j
      (x 1) d d.isLt (by simpa using h0) (by simpa using h1) rfl).symm
    sl_kernel_rfl

set_option maxHeartbeats 4000000 in
theorem tapsAccD_at (j : Fin 24) (d : Fin 1024) : tapsAccD m c t h s (ix2 j d) =
    part (tin m c t s.2.1 ⟨d / 128, by omega⟩) ⟨j / 8, by omega⟩ (oct s.2.2.1 (j / 8) (by omega) ⟨d / 128, by omega⟩)
      (ix2 ⟨j % 8, by omega⟩ ⟨d % 128, by omega⟩) := by
  unfold tapsAccD runD
  frame_out
  simp only [read_unread_whole]
  canon_tiles x h
  · refine (congrFun ?_ x).trans (pickRow (fun k g => part (tin m c t s.2.1 g) k (oct s.2.2.1 k (by omega) g)) ⟨2, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨7, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨6, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨5, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨4, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨3, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨2, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨1, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨2, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨1, by omega⟩
      ⟨0, by omega⟩ x j (x 1) d j.isLt d.isLt (by simpa using h0) (by simpa using h1) rfl).symm
    sl_kernel_rfl
  · refine (congrFun ?_ x).trans (pickRow (fun k g => part (tin m c t s.2.1 g) k (oct s.2.2.1 k (by omega) g)) ⟨0, by omega⟩
      ⟨0, by omega⟩ x j (x 1) d j.isLt d.isLt (by simpa using h0) (by simpa using h1) rfl).symm
    sl_kernel_rfl

set_option maxHeartbeats 4000000 in
theorem projD_at (j : Fin 256) (d : Fin 3072) : projD m c t h s (ix2 j d) =
    range (tin m c t s.2.1 ⟨d % 1024 / 128, by omega⟩) ⟨d / 1024, by omega⟩ (ix2 j ⟨d % 1024 % 128, by omega⟩) := by
  unfold projD runD
  frame_out
  simp only [read_unread_whole]
  canon_tiles x h
  · refine (congrFun ?_ x).trans (pickCol (fun k g => range (tin m c t s.2.1 g) k) ⟨2, by omega⟩ ⟨7, by omega⟩ x j (x 1) d
      d.isLt (by simpa using h0) (by simpa using h1) rfl).symm
    sl_kernel_rfl
  · refine (congrFun ?_ x).trans (pickCol (fun k g => range (tin m c t s.2.1 g) k) ⟨1, by omega⟩ ⟨7, by omega⟩ x j (x 1) d
      d.isLt (by simpa using h0) (by simpa using h1) rfl).symm
    sl_kernel_rfl
  · refine (congrFun ?_ x).trans (pickCol (fun k g => range (tin m c t s.2.1 g) k) ⟨0, by omega⟩ ⟨7, by omega⟩ x j (x 1) d
      d.isLt (by simpa using h0) (by simpa using h1) rfl).symm
    sl_kernel_rfl
  · refine (congrFun ?_ x).trans (pickCol (fun k g => range (tin m c t s.2.1 g) k) ⟨2, by omega⟩ ⟨6, by omega⟩ x j (x 1) d
      d.isLt (by simpa using h0) (by simpa using h1) rfl).symm
    sl_kernel_rfl
  · refine (congrFun ?_ x).trans (pickCol (fun k g => range (tin m c t s.2.1 g) k) ⟨1, by omega⟩ ⟨6, by omega⟩ x j (x 1) d
      d.isLt (by simpa using h0) (by simpa using h1) rfl).symm
    sl_kernel_rfl
  · refine (congrFun ?_ x).trans (pickCol (fun k g => range (tin m c t s.2.1 g) k) ⟨0, by omega⟩ ⟨6, by omega⟩ x j (x 1) d
      d.isLt (by simpa using h0) (by simpa using h1) rfl).symm
    sl_kernel_rfl
  · refine (congrFun ?_ x).trans (pickCol (fun k g => range (tin m c t s.2.1 g) k) ⟨2, by omega⟩ ⟨5, by omega⟩ x j (x 1) d
      d.isLt (by simpa using h0) (by simpa using h1) rfl).symm
    sl_kernel_rfl
  · refine (congrFun ?_ x).trans (pickCol (fun k g => range (tin m c t s.2.1 g) k) ⟨1, by omega⟩ ⟨5, by omega⟩ x j (x 1) d
      d.isLt (by simpa using h0) (by simpa using h1) rfl).symm
    sl_kernel_rfl
  · refine (congrFun ?_ x).trans (pickCol (fun k g => range (tin m c t s.2.1 g) k) ⟨0, by omega⟩ ⟨5, by omega⟩ x j (x 1) d
      d.isLt (by simpa using h0) (by simpa using h1) rfl).symm
    sl_kernel_rfl
  · refine (congrFun ?_ x).trans (pickCol (fun k g => range (tin m c t s.2.1 g) k) ⟨2, by omega⟩ ⟨4, by omega⟩ x j (x 1) d
      d.isLt (by simpa using h0) (by simpa using h1) rfl).symm
    sl_kernel_rfl
  · refine (congrFun ?_ x).trans (pickCol (fun k g => range (tin m c t s.2.1 g) k) ⟨1, by omega⟩ ⟨4, by omega⟩ x j (x 1) d
      d.isLt (by simpa using h0) (by simpa using h1) rfl).symm
    sl_kernel_rfl
  · refine (congrFun ?_ x).trans (pickCol (fun k g => range (tin m c t s.2.1 g) k) ⟨0, by omega⟩ ⟨4, by omega⟩ x j (x 1) d
      d.isLt (by simpa using h0) (by simpa using h1) rfl).symm
    sl_kernel_rfl
  · refine (congrFun ?_ x).trans (pickCol (fun k g => range (tin m c t s.2.1 g) k) ⟨2, by omega⟩ ⟨3, by omega⟩ x j (x 1) d
      d.isLt (by simpa using h0) (by simpa using h1) rfl).symm
    sl_kernel_rfl
  · refine (congrFun ?_ x).trans (pickCol (fun k g => range (tin m c t s.2.1 g) k) ⟨1, by omega⟩ ⟨3, by omega⟩ x j (x 1) d
      d.isLt (by simpa using h0) (by simpa using h1) rfl).symm
    sl_kernel_rfl
  · refine (congrFun ?_ x).trans (pickCol (fun k g => range (tin m c t s.2.1 g) k) ⟨0, by omega⟩ ⟨3, by omega⟩ x j (x 1) d
      d.isLt (by simpa using h0) (by simpa using h1) rfl).symm
    sl_kernel_rfl
  · refine (congrFun ?_ x).trans (pickCol (fun k g => range (tin m c t s.2.1 g) k) ⟨2, by omega⟩ ⟨2, by omega⟩ x j (x 1) d
      d.isLt (by simpa using h0) (by simpa using h1) rfl).symm
    sl_kernel_rfl
  · refine (congrFun ?_ x).trans (pickCol (fun k g => range (tin m c t s.2.1 g) k) ⟨1, by omega⟩ ⟨2, by omega⟩ x j (x 1) d
      d.isLt (by simpa using h0) (by simpa using h1) rfl).symm
    sl_kernel_rfl
  · refine (congrFun ?_ x).trans (pickCol (fun k g => range (tin m c t s.2.1 g) k) ⟨0, by omega⟩ ⟨2, by omega⟩ x j (x 1) d
      d.isLt (by simpa using h0) (by simpa using h1) rfl).symm
    sl_kernel_rfl
  · refine (congrFun ?_ x).trans (pickCol (fun k g => range (tin m c t s.2.1 g) k) ⟨2, by omega⟩ ⟨1, by omega⟩ x j (x 1) d
      d.isLt (by simpa using h0) (by simpa using h1) rfl).symm
    sl_kernel_rfl
  · refine (congrFun ?_ x).trans (pickCol (fun k g => range (tin m c t s.2.1 g) k) ⟨1, by omega⟩ ⟨1, by omega⟩ x j (x 1) d
      d.isLt (by simpa using h0) (by simpa using h1) rfl).symm
    sl_kernel_rfl
  · refine (congrFun ?_ x).trans (pickCol (fun k g => range (tin m c t s.2.1 g) k) ⟨0, by omega⟩ ⟨1, by omega⟩ x j (x 1) d
      d.isLt (by simpa using h0) (by simpa using h1) rfl).symm
    sl_kernel_rfl
  · refine (congrFun ?_ x).trans (pickCol (fun k g => range (tin m c t s.2.1 g) k) ⟨2, by omega⟩ ⟨0, by omega⟩ x j (x 1) d
      d.isLt (by simpa using h0) (by simpa using h1) rfl).symm
    sl_kernel_rfl
  · refine (congrFun ?_ x).trans (pickCol (fun k g => range (tin m c t s.2.1 g) k) ⟨1, by omega⟩ ⟨0, by omega⟩ x j (x 1) d
      d.isLt (by simpa using h0) (by simpa using h1) rfl).symm
    sl_kernel_rfl
  · refine (congrFun ?_ x).trans (pickCol (fun k g => range (tin m c t s.2.1 g) k) ⟨0, by omega⟩ ⟨0, by omega⟩ x j (x 1) d
      d.isLt (by simpa using h0) (by simpa using h1) rfl).symm
    sl_kernel_rfl

end Cert.KernelIdeal.Walk

end
-- ==== Proof.PointSums.lean ====
/- What a grid point leaves of the two matrix results: the product's accumulator and its finished tile, and the
   sums over the partial sums of the taps' and of the gain's gradients. -/
module

public import proofs.«01_k».proof.Proof.Point
public import Idealize.ShloMosaic.Lib.Pipeline.ValueKit
public import Idealize.ShloMosaic.Lib.Pipeline.ReadBack

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)

/-- The product of the two blocks of a point, at an element of the tile. -/
def dot (i : Fin 1024) (f : Fin 2048) : EReal :=
  ∑ x : Fin 2048, (show EReal from iblk m c 0 t (ix2 x i)) * (show EReal from iblk m c 1 t (ix2 x f))

theorem accA_at (h : conds0_A (grid0.coords t)) (i : Fin 1024) (f : Fin 2048) :
    accA m c t h (ix2 i f) = dot m c t i f := by
  unfold accA runA dot
  frame_out
  pointwise [k0_pay4]

theorem accD_at (h : conds0_D (grid0.coords t)) (s : Scr Ideal) (i : Fin 1024) (f : Fin 2048) :
    accD m c t h s (ix2 i f) = dot m c t i f := by
  unfold accD runD dot
  frame_out
  pointwise [k0_pay4]

theorem accB_at (h : conds0_B (grid0.coords t)) (s : Scr Ideal) (i : Fin 1024) (f : Fin 2048) :
    accB m c t h s (ix2 i f) = s.1 (ix2 i f) + dot m c t i f := by
  unfold accB runB dot
  frame_out
  simp only [read_unread_whole]
  pointwise [k0_pay6]

theorem productC_at (h : conds0_C (grid0.coords t)) (s : Scr Ideal) (b : Fin 1) (i : Fin 1024) (f : Fin 2048) :
    productC m c t h s (ix3 b i f) = s.1 (ix2 i f) + dot m c t i f := by
  unfold productC runC dot
  frame_out
  simp only [read_unread_whole]
  pointwise [k0_pay8]

/-- The sums of the columns of eight rows. -/
theorem colSum_at (X : Vec Ideal S8x1024 .f32) (b : Fin 1) (d : Fin 1024) :
    k0_pay680 (F := Ideal) X (ix2 b d) = ∑ j : Fin 8, X (ix2 j d) := by
  pointwise [k0_pay680]

/-- Eight rows of the taps' accumulator, loaded after the stores `L` and summed. -/
theorem rows_at (P : Vec Ideal S8x1024 .f32 → FVec Ideal S1x1024 .f32)
    (hP : ∀ X (b : Fin 1) (d : Fin 1024), P X (ix2 b d) = ∑ j : Fin 8, X (ix2 j d)) (v : View sig .tc .vmem S24x1024 .f32)
    (L : List (View.Piece (Elt Ideal) S24x1024 .f32)) (k : ℕ) (hk : k < 3) (i : Fin 3) (d : Fin 1024) (x : S1x1024.Idx)
    (inb : ∀ a, (![k * 8, 0] : Fin 2 → ℕ) a + (![8, 1024] : Fin 2 → ℕ) a ≤ S24x1024.size a)
    (h0 : (i : ℕ) = k + (x 0 : ℕ)) (h1 : (d : ℕ) = (x 1 : ℕ)) :
    P (v.readCov L (Rect.unit (s := S24x1024) ![k * 8, 0] ![8, 1024] inb).toLoadRect) x =
      Finset.univ.sum (M := EReal) fun j : Fin 8 => View.canon L (ix2 ⟨i * 8 + j, by omega⟩ d) := by
  have hx0 : (x 0 : ℕ) < 1 := (x 0).isLt
  have e : x = ix2 (0 : Fin 1) d := by
    funext a
    match a with
    | 0 => exact Fin.ext (by show (x 0 : ℕ) = 0; omega)
    | 1 => exact Fin.ext h1.symm
  rw [e, View.readCov_eq_canon']
  refine (hP _ 0 d).trans (Finset.sum_congr rfl fun j _ => ?_)
  refine congrArg (View.canon L) ?_
  funext a
  match a with
  | 0 => exact Fin.ext (by show k * 8 + 1 * (j : ℕ) = (i : ℕ) * 8 + (j : ℕ); omega)
  | 1 => exact Fin.ext (by show 0 + 1 * (d : ℕ) = (d : ℕ); omega)

/-- The eight rows of the gain's accumulator, loaded after the stores `L` and summed. -/
theorem allRows_at (v : View sig .tc .vmem S8x1024 .f32)
    (L : List (View.Piece (Elt Ideal) S8x1024 .f32)) (b : Fin 1) (d : Fin 1024) :
    k0_pay7 (F := Ideal) (k0_pay681 (v.readCov L (Rect.unit (s := S8x1024) ![0, 0] ![8, 1024] inb_S8x1024_S8x1024_0_0).toLoadRect)) (ix2 b d) =
      Finset.univ.sum (M := EReal) fun j : Fin 8 => View.canon L (ix2 j d) := by
  rw [View.readCov_eq_canon']
  refine (colSum_at _ b d).trans (Finset.sum_congr rfl fun j _ => ?_)
  refine congrArg (View.canon L) ?_
  funext a
  match a with
  | 0 => exact Fin.ext (by show 0 + 1 * (j : ℕ) = (j : ℕ); omega)
  | 1 => exact Fin.ext (by show 0 + 1 * (d : ℕ) = (d : ℕ); omega)

set_option maxHeartbeats 4000000 in
theorem gainC_at (h : conds0_C (grid0.coords t)) (s : Scr Ideal) (k : Fin 1) (d : Fin 1024) :
    gainC m c t h s (ix2 k d) = ∑ j : Fin 8, gainAccC m c t h s (ix2 j d) := by
  unfold gainC gainAccC runC
  frame_out
  exact allRows_at _ _ k d

set_option maxHeartbeats 4000000 in
theorem tapsC_at (h : conds0_C (grid0.coords t)) (s : Scr Ideal) (k : Fin 3) (d : Fin 1024) :
    tapsC m c t h s (ix2 k d) = ∑ j : Fin 8, tapsAccC m c t h s (ix2 ⟨k * 8 + j, by omega⟩ d) := by
  unfold tapsC tapsAccC runC
  frame_out
  canon_tiles x h
  · exact rows_at k0_pay680 colSum_at _ _ 2 (by omega) k d x _ (by simpa using h0) (by simpa using h1)
  · exact rows_at k0_pay679 colSum_at _ _ 1 (by omega) k d x _ (by simpa using h0) (by simpa using h1)
  · exact rows_at (fun X => k0_pay678 (k0_pay677 X)) colSum_at _ _ 0 (by omega) k d x _ (by simpa using h0) (by simpa using h1)

end Cert.KernelIdeal.Walk

end
-- ==== Proof.Blocks.lean ====
/- The blocks a grid point is handed, element by element, from the arrays of the launch: point `t` takes the
   mixer's tile `31 - t` and the product's tile and depth of its three coordinates. -/
module

public import proofs.«01_k».proof.Proof.Walk
public import Idealize.ShloMosaic.Lib.Pipeline.ValueKit

@[expose] public section

set_option maxRecDepth 16384

noncomputable section

namespace Cert.KernelIdeal.Walk

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## Where the blocks lie -/

theorem at_0 : ∀ t : Fin cfg0.N, win0_0.index t = ![t.val % 4, t.val / 16] :=
  (by decide +kernel : ∀ t : Fin grid0.N, _)
theorem at_1 : ∀ t : Fin cfg0.N, win0_1.index t = ![t.val % 4, t.val / 4 % 4] :=
  (by decide +kernel : ∀ t : Fin grid0.N, _)
theorem at_2 : ∀ t : Fin cfg0.N, win0_2.index t = ![31 - t.val, 0] :=
  (by decide +kernel : ∀ t : Fin grid0.N, _)
theorem at_3 : ∀ t : Fin cfg0.N, win0_3.index t = ![31 - t.val, 0] :=
  (by decide +kernel : ∀ t : Fin grid0.N, _)
theorem at_4 : ∀ t : Fin cfg0.N, win0_4.index t = ![31 - t.val, 1] :=
  (by decide +kernel : ∀ t : Fin grid0.N, _)
theorem at_5 : ∀ t : Fin cfg0.N, win0_5.index t = ![31 - t.val, 2] :=
  (by decide +kernel : ∀ t : Fin grid0.N, _)
theorem at_6 : ∀ t : Fin cfg0.N, win0_6.index t = ![(31 - t.val) * 32 - 1, 1] :=
  (by decide +kernel : ∀ t : Fin grid0.N, _)
theorem at_7 : ∀ t : Fin cfg0.N, win0_7.index t = ![(31 - t.val) * 32 - 1, 2] :=
  (by decide +kernel : ∀ t : Fin grid0.N, _)
theorem at_8 : ∀ t : Fin cfg0.N, win0_8.index t = ![0, 0] :=
  (by decide +kernel : ∀ t : Fin grid0.N, _)
theorem at_9 : ∀ t : Fin cfg0.N, win0_9.index t = ![0, 0] :=
  (by decide +kernel : ∀ t : Fin grid0.N, _)
theorem at_10 : ∀ t : Fin cfg0.N, win0_10.index t = ![t.val / 4 % 4, t.val / 16, 0] :=
  (by decide +kernel : ∀ t : Fin grid0.N, _)
theorem at_11 : ∀ t : Fin cfg0.N, win0_11.index t = ![31 - t.val, 0] :=
  (by decide +kernel : ∀ t : Fin grid0.N, _)
theorem at_12 : ∀ t : Fin cfg0.N, win0_12.index t = ![0, 0] :=
  (by decide +kernel : ∀ t : Fin grid0.N, _)
theorem at_13 : ∀ t : Fin cfg0.N, win0_13.index t = ![0, 0] :=
  (by decide +kernel : ∀ t : Fin grid0.N, _)

theorem points (t : Fin cfg0.N) : t.val < 32 := lt_of_lt_of_eq t.isLt (show cfg0.N = 32 from N_0)

/-! ## The arrays of the launch -/

/-- The product's two factors, the incoming gradient, the projections, the taps and the gain, as launched. -/
abbrev argH : Vec Ideal S8192x2048 .bf16 := m ((c : Thread nD τ).loc main_arg0)
abbrev argA : Vec Ideal S8192x8192 .bf16 := m ((c : Thread nD τ).loc main_arg1)
abbrev argD : Vec Ideal S8192x2048 .bf16 := m ((c : Thread nD τ).loc main_arg2)
abbrev argZ : Vec Ideal S8192x6144 .f32 := m ((c : Thread nD τ).loc main_arg3)
abbrev argW : Vec Ideal S1x1024x3 .f32 := m ((c : Thread nD τ).loc main_arg4)
abbrev argG : Vec Ideal S1x1024 .f32 := m ((c : Thread nD τ).loc main_arg5)

theorem turned (w : Vec Ideal S1x1024x3 .f32) (k : Fin 3) (d : Fin 1024) :
    transpose S3x1024 [1, 0] (shapeCast S1024x3 w shapeCasts_S1x1024x3_S1024x3) transposes_S1024x3_S3x1024_1_0 (ix2 k d) =
      w (ix3 0 d k) := by
  pointwise

/-- The transposed taps the region is entered with. -/
theorem taps_entry (k : Fin 3) (d : Fin 1024) : V m c main_v1 (ix2 k d) = (argW m c (ix3 0 d k) : EReal) := by
  have e : V m c main_v1 = transpose S3x1024 [1, 0] (shapeCast S1024x3 (argW m c) shapeCasts_S1x1024x3_S1024x3)
      transposes_S1024x3_S3x1024_1_0 := by
    unfold V hostOps0
    after_results
    rfl
  rw [e]
  exact turned (argW m c) k d

variable (t : Fin cfg0.N)

theorem blk_0 (r : Fin 2048) (d : Fin 1024) : iblk m c 0 t (ix2 r d) =
    (argH m c (ix2 ⟨t.val % 4 * 2048 + r, by have := points t; omega⟩ ⟨t.val / 16 * 1024 + d, by have := points t; omega⟩) : EReal) := by
  rw [argH, ← V_main_arg0 m c]
  blk_point [iblk, V, at_0 t]

theorem blk_1 (r : Fin 2048) (d : Fin 2048) : iblk m c 1 t (ix2 r d) =
    (argA m c (ix2 ⟨t.val % 4 * 2048 + r, by have := points t; omega⟩ ⟨t.val / 4 % 4 * 2048 + d, by have := points t; omega⟩) : EReal) := by
  rw [argA, ← V_main_arg1 m c]
  blk_point [iblk, V, at_1 t]

theorem blk_2 (r : Fin 256) (d : Fin 1024) : iblk m c 2 t (ix2 r d) =
    (argD m c (ix2 ⟨(31 - t.val) * 256 + r, by have := points t; omega⟩ ⟨d, by omega⟩) : EReal) := by
  rw [argD, ← V_main_arg2 m c]
  blk_point [iblk, V, at_2 t]

theorem blk_3 (r : Fin 256) (d : Fin 1024) : iblk m c 3 t (ix2 r d) =
    (argZ m c (ix2 ⟨(31 - t.val) * 256 + r, by have := points t; omega⟩ ⟨d, by omega⟩) : EReal) := by
  rw [argZ, ← V_main_arg3 m c]
  blk_point [iblk, V, at_3 t]

theorem blk_4 (r : Fin 256) (d : Fin 1024) : iblk m c 4 t (ix2 r d) =
    (argZ m c (ix2 ⟨(31 - t.val) * 256 + r, by have := points t; omega⟩ ⟨1024 + d, by omega⟩) : EReal) := by
  rw [argZ, ← V_main_arg3 m c]
  blk_point [iblk, V, at_4 t]

theorem blk_5 (r : Fin 256) (d : Fin 1024) : iblk m c 5 t (ix2 r d) =
    (argZ m c (ix2 ⟨(31 - t.val) * 256 + r, by have := points t; omega⟩ ⟨2048 + d, by omega⟩) : EReal) := by
  rw [argZ, ← V_main_arg3 m c]
  blk_point [iblk, V, at_5 t]

theorem blk_6 (r : Fin 8) (d : Fin 1024) : iblk m c 6 t (ix2 r d) =
    (argZ m c (ix2 ⟨((31 - t.val) * 32 - 1) * 8 + r, by have := points t; omega⟩ ⟨1024 + d, by omega⟩) : EReal) := by
  rw [argZ, ← V_main_arg3 m c]
  blk_point [iblk, V, at_6 t]

theorem blk_7 (r : Fin 8) (d : Fin 1024) : iblk m c 7 t (ix2 r d) =
    (argZ m c (ix2 ⟨((31 - t.val) * 32 - 1) * 8 + r, by have := points t; omega⟩ ⟨2048 + d, by omega⟩) : EReal) := by
  rw [argZ, ← V_main_arg3 m c]
  blk_point [iblk, V, at_7 t]

theorem blk_8 (k : Fin 3) (d : Fin 1024) : iblk m c 8 t (ix2 k d) = (argW m c (ix3 0 d k) : EReal) := by
  rw [← taps_entry m c]
  blk_point [iblk, at_8 t]

theorem blk_9 (b : Fin 1) (d : Fin 1024) : iblk m c 9 t (ix2 b d) = (argG m c (ix2 b d) : EReal) := by
  rw [argG, ← V_main_arg5 m c]
  blk_point [iblk, V, at_9 t]

end Cert.KernelIdeal.Walk

end
-- ==== Proof.Steps.lean ====
/- What the grid's points leave, whatever their kind: the recursion that the mixer's tile and the product's
   accumulator follow from point to point. -/
module

public import proofs.«01_k».proof.Proof.PointA
public import proofs.«01_k».proof.Proof.PointB
public import proofs.«01_k».proof.Proof.PointC
public import proofs.«01_k».proof.Proof.PointD
public import proofs.«01_k».proof.Proof.PointSums
public import proofs.«01_k».proof.Proof.Blocks

@[expose] public section

set_option maxRecDepth 16384

noncomputable section

namespace Cert.KernelIdeal.Walk

open Cert.KernelIdeal Cert.KernelIdeal.Gen Cert.Tile
open Idealize.ShloMosaic Idealize.ShloMosaic.TcCoe Idealize.SL.Sem

variable (m : (ℓ : Loc nD τ sig) → Buf (Elt Ideal) ℓ) (c : Dev nD) (t : Fin cfg0.N)

/-- The carried buffers a point reads: those the point before left, and at the first point the zeros it stores first. -/
def before : Scr Ideal :=
  if t.val = 0 then (start (F := Ideal).1, k0_pay1 (F := Ideal), k0_pay2 (F := Ideal), k0_pay3 (F := Ideal))
  else (left m c (t.val - 1) (Nat.lt_of_le_of_lt (Nat.sub_le _ _) t.isLt)).2

theorem before_zero (h : t.val = 0) :
    before m c t = (start (F := Ideal).1, k0_pay1 (F := Ideal), k0_pay2 (F := Ideal), k0_pay3 (F := Ideal)) := if_pos h
theorem before_succ (h : t.val ≠ 0) :
    before m c t = (left m c (t.val - 1) (Nat.lt_of_le_of_lt (Nat.sub_le _ _) t.isLt)).2 := if_neg h

/-- What a point leaves, by its kind, from the buffers it reads. -/
theorem left_A (h : conds0_A (grid0.coords t)) : left m c t.val t.isLt = pointA m c t h := by
  rw [left_first m c t ((first_iff t).mp h), point_A m c t h]
theorem left_B (h : conds0_B (grid0.coords t)) : left m c t.val t.isLt = pointB m c t h (before m c t) := by
  have h0 : t.val ≠ 0 := fun e => h.1 ((first_iff t).mpr e).1
  rw [left_next m c t h0, point_B m c t h, before_succ m c t h0]
theorem left_C (h : conds0_C (grid0.coords t)) : left m c t.val t.isLt = pointC m c t h (before m c t) := by
  have h0 : t.val ≠ 0 := fun e => h.1 ((first_iff t).mpr e).1
  rw [left_next m c t h0, point_C m c t h, before_succ m c t h0]
theorem left_D (h : conds0_D (grid0.coords t)) : left m c t.val t.isLt = pointD m c t h (before m c t) := by
  have h0 : t.val ≠ 0 := fun e => h.1 ((first_iff t).mpr e).1
  rw [left_next m c t h0, point_D m c t h, before_succ m c t h0]

/-- The tile a point reads, group by group. -/
abbrev tile (g : Fin 8) : In := tin m c t (before m c t).2.1 g

/-- The rows kept for the next point. -/
theorem left_carry (j : Fin 8) (d : Fin 1024) : (left m c t.val t.isLt).2.2.1 (ix2 j d) =
    (tile m c t ⟨d / 128, by omega⟩).carry (ix2 j ⟨d % 128, by omega⟩) := by
  rcases kinds t with h | h | h | h
  · rw [left_A m c t h, pointA, tile, before_zero m c t ((first_iff t).mp h)]
    dsimp only
    exact carryA_at m c t h j d
  · rw [left_B m c t h, pointB]
    dsimp only
    exact carryB_at m c t h (before m c t) j d
  · rw [left_C m c t h, pointC]
    dsimp only
    exact carryC_at m c t h (before m c t) j d
  · rw [left_D m c t h, pointD]
    dsimp only
    exact carryD_at m c t h (before m c t) j d

/-- The partial sums of the gain's gradient. -/
theorem left_gainAcc (j : Fin 8) (d : Fin 1024) : (left m c t.val t.isLt).2.2.2.2 (ix2 j d) =
    (tile m c t ⟨d / 128, by omega⟩).ag (oct (before m c t).2.2.2 0 (by omega) ⟨d / 128, by omega⟩)
      (ix2 j ⟨d % 128, by omega⟩) := by
  rcases kinds t with h | h | h | h
  · rw [left_A m c t h, pointA, tile, before_zero m c t ((first_iff t).mp h)]
    dsimp only
    exact gainAccA_at m c t h j d
  · rw [left_B m c t h, pointB]
    dsimp only
    exact gainAccB_at m c t h (before m c t) j d
  · rw [left_C m c t h, pointC]
    dsimp only
    exact gainAccC_at m c t h (before m c t) j d
  · rw [left_D m c t h, pointD]
    dsimp only
    exact gainAccD_at m c t h (before m c t) j d

/-- The partial sums of the taps' gradients. -/
theorem left_tapsAcc (j : Fin 24) (d : Fin 1024) : (left m c t.val t.isLt).2.2.2.1 (ix2 j d) =
    part (tile m c t ⟨d / 128, by omega⟩) ⟨j / 8, by omega⟩
      (oct (before m c t).2.2.1 (j / 8) (by omega) ⟨d / 128, by omega⟩) (ix2 ⟨j % 8, by omega⟩ ⟨d % 128, by omega⟩) := by
  rcases kinds t with h | h | h | h
  · rw [left_A m c t h, pointA, tile, before_zero m c t ((first_iff t).mp h)]
    dsimp only
    exact tapsAccA_at m c t h j d
  · rw [left_B m c t h, pointB]
    dsimp only
    exact tapsAccB_at m c t h (before m c t) j d
  · rw [left_C m c t h, pointC]
    dsimp only
    exact tapsAccC_at m c t h (before m c t) j d
  · rw [left_D m c t h, pointD]
    dsimp only
    exact tapsAccD_at m c t h (before m c t) j d

/-- The block of the projections' gradient. -/
theorem left_proj (j : Fin 256) (d : Fin 3072) : (left m c t.val t.isLt).1.2.1 (ix2 j d) =
    range (tile m c t ⟨d % 1024 / 128, by omega⟩) ⟨d / 1024, by omega⟩ (ix2 j ⟨d % 1024 % 128, by omega⟩) := by
  rcases kinds t with h | h | h | h
  · rw [left_A m c t h, pointA, tile, before_zero m c t ((first_iff t).mp h)]
    dsimp only
    exact projA_at m c t h j d
  · rw [left_B m c t h, pointB]
    dsimp only
    exact projB_at m c t h (before m c t) j d
  · rw [left_C m c t h, pointC]
    dsimp only
    exact projC_at m c t h (before m c t) j d
  · rw [left_D m c t h, pointD]
    dsimp only
    exact projD_at m c t h (before m c t) j d

/-! ## The product -/

/-- At the first point of an output tile the accumulator starts at the block's product, -/
theorem left_acc_first (h : t.val % 4 = 0) (i : Fin 1024) (f : Fin 2048) :
    (left m c t.val t.isLt).2.1 (ix2 i f) = dot m c t i f := by
  rcases kinds t with k | k | k | k
  · rw [left_A m c t k, pointA]
    dsimp only
    exact accA_at m c t k i f
  · exact absurd ((hcond0_1 t).mpr h) k.2.1
  · exact absurd ((hcond0_1 t).mpr h) k.2.1
  · rw [left_D m c t k, pointD]
    dsimp only
    exact accD_at m c t k (before m c t) i f

/-- at an inner point the block's product is added, -/
theorem left_acc_inner (h : 1 ≤ t.val % 4 ∧ t.val % 4 ≤ 2) (i : Fin 1024) (f : Fin 2048) :
    (left m c t.val t.isLt).2.1 (ix2 i f) =
      (left m c (t.val - 1) (Nat.lt_of_le_of_lt (Nat.sub_le _ _) t.isLt)).2.1 (ix2 i f) + dot m c t i f := by
  have h0 : t.val ≠ 0 := by omega
  rw [← before_succ m c t h0]
  rcases kinds t with k | k | k | k
  · exact absurd ((first_iff t).mp k) h0
  · rw [left_B m c t k, pointB]
    dsimp only
    exact accB_at m c t k (before m c t) i f
  · exact absurd ((hcond0_2 t).mpr h) k.2.2.1
  · exact absurd ((hcond0_2 t).mpr h) k.2.2.1

/-- and at the last point the sum is the finished tile. -/
theorem left_product (h : t.val % 4 = 3) (b : Fin 1) (i : Fin 1024) (f : Fin 2048) :
    (left m c t.val t.isLt).1.1 (ix3 b i f) =
      (left m c (t.val - 1) (Nat.lt_of_le_of_lt (Nat.sub_le _ _) t.isLt)).2.1 (ix2 i f) + dot m c t i f := by
  have h0 : t.val ≠ 0 := by omega
  rw [← before_succ m c t h0]
  rcases kinds t with k | k | k | k
  · exact absurd ((first_iff t).mp k) h0
  · exact absurd ((hcond0_3 t).mpr h) k.2.2.2
  · rw [left_C m c t k, pointC]
    dsimp only
    exact productC_at m c t k (before m c t) b i f
  · exact absurd ((hcond0_3 t).mpr h) k.2.2.2

/-! ## The sums at the last point -/

theorem left_taps (h : t.val % 4 = 3) (k : Fin 3) (d : Fin 1024) : (left m c t.val t.isLt).1.2.2.1 (ix2 k d) =
    Finset.univ.sum (M := EReal) fun j : Fin 8 => (left m c t.val t.isLt).2.2.2.1 (ix2 ⟨k * 8 + j, by omega⟩ d) := by
  have k' : conds0_C (grid0.coords t) := by
    have := points t
    simp only [conds0_C, hcond0_0, hcond0_1, hcond0_2, hcond0_3]
    omega
  rw [left_C m c t k', pointC]
  dsimp only
  exact tapsC_at m c t k' (before m c t) k d

theorem left_gain (h : t.val % 4 = 3) (b : Fin 1) (d : Fin 1024) : (left m c t.val t.isLt).1.2.2.2 (ix2 b d) =
    Finset.univ.sum (M := EReal) fun j : Fin 8 => (left m c t.val t.isLt).2.2.2.2 (ix2 j d) := by
  have k' : conds0_C (grid0.coords t) := by
    have := points t
    simp only [conds0_C, hcond0_0, hcond0_1, hcond0_2, hcond0_3]
    omega
  rw [left_C m c t k', pointC]
  dsimp only
  exact gainC_at m c t k' (before m c t) b d

end Cert.KernelIdeal.Walk

end
-- ==== Proof.Tiles.lean ====
/- Every grid point reads one tile of the mixer's arrays: by induction along the grid, the rows carried from the
   point before are the first rows of the tile after. -/
module

public import proofs.«01_k».proof.Proof.Steps

@[expose] public section

set_option maxRecDepth 16384

noncomputable section

namespace Cert.KernelIdeal.Walk

open Cert.KernelIdeal Cert.KernelIdeal.Gen Cert.Tile Cert.Mixer
open Idealize.ShloMosaic Idealize.ShloMosaic.TcCoe Idealize.SL.Sem

variable (m : (ℓ : Loc nD τ sig) → Buf (Elt Ideal) ℓ) (c : Dev nD) (t : Fin cfg0.N)

/-- The mixer's arrays, as launched. -/
def arrs : Arrays := ⟨argZ m c, argD m c, argW m c, argG m c⟩

/-! ## The step -/

theorem stepWord_eq : ∀ t : Fin cfg0.N, stepWord t = BitVec.ofNat 32 t.val :=
  (by decide +kernel : ∀ t : Fin grid0.N, Scalar.addi (Scalar.muli (Scalar.addi (Scalar.muli
    (BitVec.ofNat 32 ↑(grid0.coords t 0)) 4#32) (BitVec.ofNat 32 ↑(grid0.coords t 1))) 4#32)
    (BitVec.ofNat 32 ↑(grid0.coords t 2)) = BitVec.ofNat 32 t.val)

theorem lastStep : ∀ t : Fin 32, Scalar.cmpi .eq (Scalar.subi 31#32 (BitVec.ofNat 32 t.val)) 0#32 =
    if 31 - t.val = 0 then 1#1 else 0#1 := by decide +kernel

theorem keep_eq : keep (stepWord t) = if 31 - t.val = 0 then 0 else 1 := by
  rw [stepWord_eq, keep, lastStep ⟨t.val, points t⟩]
  by_cases h : 31 - t.val = 0
  · rw [if_pos h, if_pos h]
    pointwise
  · rw [if_neg h, if_neg h]
    pointwise

/-! ## Reading a band of columns -/

theorem ld_band {n : ℕ} {e : EltTy} (X : Vec Ideal ⟨2, ![n, 1024]⟩ e) (r h : ℕ) (hr : r + h ≤ n) (g : Fin 8) (j : Fin h)
    (l : Fin 128) : View.ld X (band r h hr g) (ix2 j l) = X (ix2 ⟨r + j, by omega⟩ (col g l)) := by
  refine View.ld_unit_apply_of X _ _ _ (ix2 j l) _ ?_
  intro a
  match a with
  | 0 => rfl
  | 1 => rfl

/-- An element of the projections, by its range. -/
theorem z_at (b : ℕ) (hb : b ≤ 5120) (g : Fin 8) (s : ℕ) (hs : s < 8192) (l : Fin 128) (d : Fin 6144)
    (hd : (d : ℕ) = b + (col g l : ℕ)) : argZ m c (ix2 ⟨s, hs⟩ d) = ((arrs m c).zAt b hb g s l : EReal) := by
  rw [Arrays.zAt, dif_pos hs]
  obtain ⟨d, hd'⟩ := d
  simp only at hd
  subst hd
  rfl

/-- What a point reads is its tile of the group's arrays, whenever the carried rows are those of the tile after. -/
theorem tin_of (p : Vec Ideal S8x1024 .f32) (g : Fin 8)
    (hp : ∀ (j : Fin 8) (l : Fin 128), p (ix2 j (col g l)) =
      (((arrs m c).grp g).dConv ((31 - t.val) * 256 + 256 + j) l : EReal)) :
    (tin m c t p g).Of ((arrs m c).grp g) (31 - t.val) := by
  have ht := points t
  constructor
  case k => exact keep_eq t
  case cb =>
    intro r l
    refine (ld_band (n := 256) _ 0 256 _ g r l).trans ((blk_3 m c t _ _).trans (Eq.trans ?_
      (z_at m c 0 (by omega) g ((31 - t.val) * 256 + r) (by omega) l ⟨col g l, by omega⟩ (by simp))))
    congr 3 <;> simp
  case cc =>
    intro r l
    refine (ld_band (n := 256) _ 0 256 _ g r l).trans ((blk_4 m c t _ _).trans (Eq.trans ?_
      (z_at m c 1024 (by omega) g ((31 - t.val) * 256 + r) (by omega) l ⟨1024 + col g l, by omega⟩ rfl)))
    congr 3 <;> simp
  case ch =>
    intro r l
    refine (ld_band (n := 256) _ 0 256 _ g r l).trans ((blk_5 m c t _ _).trans (Eq.trans ?_
      (z_at m c 2048 (by omega) g ((31 - t.val) * 256 + r) (by omega) l ⟨2048 + col g l, by omega⟩ rfl)))
    congr 3 <;> simp
  case dy =>
    intro r l
    refine (ld_band (n := 256) _ 0 256 _ g r l).trans ((blk_2 m c t _ _).trans ?_)
    show _ = dite _ _ _
    rw [dif_pos (show (31 - t.val) * 256 + (r : ℕ) < 8192 by omega)]
    show argD m c _ = argD m c _
    congr 3 <;> simp
  case c6 =>
    intro hn l
    refine (ld_band (n := 8) _ 6 1 _ g 0 l).trans ((blk_6 m c t _ _).trans (Eq.trans ?_
      (z_at m c 1024 (by omega) g ((31 - t.val) * 256 - 2) (by omega) l ⟨1024 + col g l, by omega⟩ rfl)))
    congr 3
    show ((31 - t.val) * 32 - 1) * 8 + 6 = (31 - t.val) * 256 - 2
    omega
  case h6 =>
    intro hn l
    refine (ld_band (n := 8) _ 6 1 _ g 0 l).trans ((blk_7 m c t _ _).trans (Eq.trans ?_
      (z_at m c 2048 (by omega) g ((31 - t.val) * 256 - 2) (by omega) l ⟨2048 + col g l, by omega⟩ rfl)))
    congr 3
    show ((31 - t.val) * 32 - 1) * 8 + 6 = (31 - t.val) * 256 - 2
    omega
  case c7 =>
    intro hn l
    refine (ld_band (n := 8) _ 7 1 _ g 0 l).trans ((blk_6 m c t _ _).trans (Eq.trans ?_
      (z_at m c 1024 (by omega) g ((31 - t.val) * 256 - 1) (by omega) l ⟨1024 + col g l, by omega⟩ rfl)))
    congr 3
    show ((31 - t.val) * 32 - 1) * 8 + 7 = (31 - t.val) * 256 - 1
    omega
  case h7 =>
    intro hn l
    refine (ld_band (n := 8) _ 7 1 _ g 0 l).trans ((blk_7 m c t _ _).trans (Eq.trans ?_
      (z_at m c 2048 (by omega) g ((31 - t.val) * 256 - 1) (by omega) l ⟨2048 + col g l, by omega⟩ rfl)))
    congr 3
    show ((31 - t.val) * 32 - 1) * 8 + 7 = (31 - t.val) * 256 - 1
    omega
  case w0 => exact fun l => (ld_band (n := 3) _ 0 1 _ g 0 l).trans (blk_8 m c t 0 (col g l))
  case w1 => exact fun l => (ld_band (n := 3) _ 1 1 _ g 0 l).trans (blk_8 m c t 1 (col g l))
  case w2 => exact fun l => (ld_band (n := 3) _ 2 1 _ g 0 l).trans (blk_8 m c t 2 (col g l))
  case g => exact fun l => (ld_band (n := 1) _ 0 1 _ g 0 l).trans (blk_9 m c t 0 (col g l))
  case n0 => exact fun l => (ld_band (n := 8) _ 0 1 _ g 0 l).trans (hp 0 l)
  case n1 => exact fun l => (ld_band (n := 8) _ 1 1 _ g 0 l).trans (hp 1 l)

/-! ## Along the grid -/

/-- A column of a group, divided by the group's width. -/
theorem of_col (f : Fin 8 → Fin 128 → EReal) (g : Fin 8) (l : Fin 128) :
    f ⟨(col g l : ℕ) / 128, by have := (col g l).isLt; omega⟩ ⟨(col g l : ℕ) % 128, by omega⟩ = f g l := by
  have h : (col g l : ℕ) = g * 128 + l := rfl
  congr 1
  · exact Fin.ext (by show (col g l : ℕ) / 128 = g; omega)
  · exact Fin.ext (by show (col g l : ℕ) % 128 = l; omega)

theorem zeros_carry (j : Fin 8) (d : Fin 1024) : k0_pay1 (F := Ideal) (ix2 j d) = (0 : EReal) := by pointwise [k0_pay1]
theorem zeros_taps (j : Fin 24) (d : Fin 1024) : k0_pay2 (F := Ideal) (ix2 j d) = (0 : EReal) := by pointwise [k0_pay2]
theorem zeros_gain (j : Fin 8) (d : Fin 1024) : k0_pay3 (F := Ideal) (ix2 j d) = (0 : EReal) := by pointwise [k0_pay3]

/-- The rows a point leaves for the next. -/
theorem carry_of (g : Fin 8) (o : (tile m c t g).Of ((arrs m c).grp g) (31 - t.val)) (j : Fin 8) (l : Fin 128) :
    (left m c t.val t.isLt).2.2.1 (ix2 j (col g l)) = (((arrs m c).grp g).dConv ((31 - t.val) * 256 + j) l : EReal) := by
  rw [left_carry]
  refine (of_col (fun g l => (tile m c t g).carry (ix2 j l)) g l).trans ?_
  exact carry_at o l j

theorem tile_of_aux (g : Fin 8) : ∀ (n : ℕ) (hn : n < cfg0.N),
    (tile m c ⟨n, hn⟩ g).Of ((arrs m c).grp g) (31 - n)
  | 0, hn => by
    refine tin_of m c ⟨0, hn⟩ _ g fun j l => ?_
    rw [before_zero m c ⟨0, hn⟩ rfl]
    dsimp only
    rw [zeros_carry, Arrays.dConv_past _ _ _ _ (by omega)]
  | n + 1, hn => by
    refine tin_of m c ⟨n + 1, hn⟩ _ g fun j l => ?_
    have hN := points ⟨n + 1, hn⟩
    have ih := tile_of_aux g n (Nat.lt_of_succ_lt hn)
    rw [before_succ m c ⟨n + 1, hn⟩ (Nat.succ_ne_zero n)]
    refine (carry_of m c ⟨n, Nat.lt_of_succ_lt hn⟩ g ih j l).trans ?_
    have e : (31 - n) * 256 = (31 - (n + 1)) * 256 + 256 := by
      simp only at hN
      omega
    show ((arrs m c).grp g).dConv ((31 - n) * 256 + j) l = ((arrs m c).grp g).dConv ((31 - (n + 1)) * 256 + 256 + j) l
    rw [e]

/-- Point `t` reads tile `31 - t`. -/
theorem tile_of (g : Fin 8) : (tile m c t g).Of ((arrs m c).grp g) (31 - t.val) := tile_of_aux m c g t.val t.isLt

end Cert.KernelIdeal.Walk

end
-- ==== Proof.Sums.lean ====
/- The sums the grid accumulates, as the sums over all the rows: the gain's and the taps' gradients at the last point,
   and a finished tile of the product. -/
module

public import proofs.«01_k».proof.Proof.Tiles

@[expose] public section

set_option maxRecDepth 16384

noncomputable section

namespace Cert.KernelIdeal.Walk

open Cert.KernelIdeal Cert.KernelIdeal.Gen Cert.Tile Cert.Mixer
open Idealize.ShloMosaic Idealize.ShloMosaic.TcCoe Idealize.SL.Sem

/-- Summing every eighth row of every tile, the tiles from last to first, and then over the eight, is summing the rows. -/
theorem sum_rows (f : ℕ → EReal) : (∑ j : Fin 8, ∑ v ∈ Finset.range 32, ∑ u : Fin 32, f ((31 - v) * 256 + (u * 8 + j))) =
    ∑ s : Fin 8192, f s := by
  rw [Finset.sum_comm]
  have e : ∀ b : ℕ, (∑ j : Fin 8, ∑ u : Fin 32, f (b + (u * 8 + j))) = ∑ r : Fin 256, f (b + r) := fun b => by
    rw [Finset.sum_comm]
    exact (Fin.sum_univ_tiles 32 8 rfl (fun r : Fin (32 * 8) => f (b + r))).symm
  calc _ = ∑ v ∈ Finset.range 32, ∑ r : Fin 256, f ((32 - 1 - v) * 256 + r) := Finset.sum_congr rfl fun v _ => e _
    _ = ∑ v ∈ Finset.range 32, ∑ r : Fin 256, f (v * 256 + r) :=
      Finset.sum_range_reflect (fun v => ∑ r : Fin 256, f (v * 256 + r)) 32
    _ = ∑ v : Fin 32, ∑ r : Fin 256, f (v * 256 + r) := Finset.sum_range _
    _ = _ := (Fin.sum_univ_tiles 32 256 rfl (fun s : Fin (32 * 256) => f s)).symm

variable (m : (ℓ : Loc nD τ sig) → Buf (Elt Ideal) ℓ) (c : Dev nD) (t : Fin cfg0.N)

theorem at_row {n : ℕ} {e : EltTy} (X : Vec Ideal ⟨2, ![n, 1024]⟩ e) (a b : Fin n) (h : (a : ℕ) = b) (d : Fin 1024) :
    X (ix2 a d) = X (ix2 b d) := by
  obtain rfl := Fin.ext h
  rfl

/-! ## The gain -/

theorem gain_step (g : Fin 8) (l : Fin 128) (j : Fin 8) : (left m c t.val t.isLt).2.2.2.2 (ix2 j (col g l)) =
    ((before m c t).2.2.2 (ix2 j (col g l)) : EReal) +
      ∑ u : Fin 32, ((arrs m c).grp g).gTerm ((31 - t.val) * 256 + (u * 8 + j)) l := by
  rw [left_gainAcc]
  refine (of_col (fun g l => (tile m c t g).ag (oct (before m c t).2.2.2 0 (by omega) g) (ix2 j l)) g l).trans ?_
  refine (ag_at (tile_of m c t g) l _ j).trans ?_
  congr 1
  refine (ld_band (n := 8) _ (0 * 8) 8 _ g j l).trans ?_
  exact at_row (n := 8) (e := .f32) _ _ _ (by show 0 * 8 + (j : ℕ) = j; omega) _

theorem gain_sum (g : Fin 8) (l : Fin 128) (j : Fin 8) : ∀ (n : ℕ) (hn : n < cfg0.N),
    (left m c n hn).2.2.2.2 (ix2 j (col g l)) =
      ∑ v ∈ Finset.range (n + 1), ∑ u : Fin 32, ((arrs m c).grp g).gTerm ((31 - v) * 256 + (u * 8 + j)) l
  | 0, hn => by
    rw [gain_step m c ⟨0, hn⟩, before_zero m c ⟨0, hn⟩ rfl, Finset.sum_range_one]
    dsimp only
    rw [zeros_gain, zero_add]
  | n + 1, hn => by
    rw [gain_step m c ⟨n + 1, hn⟩, before_succ m c ⟨n + 1, hn⟩ (Nat.succ_ne_zero n), Finset.sum_range_succ _ (n + 1)]
    congr 1
    exact gain_sum g l j n (Nat.lt_of_succ_lt hn)

/-- The finished gain gradient. -/
theorem gain_last (h : t.val = 31) (g : Fin 8) (l : Fin 128) (b : Fin 1) :
    (left m c t.val t.isLt).1.2.2.2 (ix2 b (col g l)) = ((arrs m c).dG g l : EReal) := by
  rw [left_gain m c t (by omega)]
  refine (Finset.sum_congr rfl fun j _ => gain_sum m c g l j t.val t.isLt).trans ?_
  rw [h]
  exact sum_rows fun s => ((arrs m c).grp g).gTerm s l

/-! ## The taps -/

theorem part_at (i : In) (a : Grp) (n : ℕ) (o : i.Of a n) (k : Fin 3) (old : Oct) (j : Fin 8) (l : Fin 128) :
    part i k old (ix2 j l) = (old (ix2 j l) : EReal) + ∑ u : Fin 32, a.wTerm k (n * 256 + (u * 8 + j)) l := by
  match k with
  | 0 => exact a0_at o l old j
  | 1 => exact a1_at o l old j
  | 2 => exact a2_at o l old j

theorem taps_step (g : Fin 8) (l : Fin 128) (k : Fin 3) (j : Fin 8) :
    (left m c t.val t.isLt).2.2.2.1 (ix2 ⟨k * 8 + j, by omega⟩ (col g l)) =
    ((before m c t).2.2.1 (ix2 ⟨k * 8 + j, by omega⟩ (col g l)) : EReal) +
      ∑ u : Fin 32, ((arrs m c).grp g).wTerm k ((31 - t.val) * 256 + (u * 8 + j)) l := by
  rw [left_tapsAcc]
  refine (of_col (fun g l => part (tile m c t g) ⟨(k * 8 + j : ℕ) / 8, by omega⟩
    (oct (before m c t).2.2.1 ((k * 8 + j : ℕ) / 8) (by omega) g) (ix2 ⟨(k * 8 + j : ℕ) % 8, by omega⟩ l)) g l).trans ?_
  refine (part_at _ _ _ (tile_of m c t g) _ _ _ l).trans ?_
  have e₁ : (⟨(k * 8 + j : ℕ) / 8, by omega⟩ : Fin 3) = k := Fin.ext (by show (k * 8 + j : ℕ) / 8 = k; omega)
  have e₂ : (k * 8 + j : ℕ) % 8 = j := by omega
  refine congrArg₂ (fun a b : EReal => a + b) ?_ ?_
  · refine (ld_band (n := 24) _ ((k * 8 + j : ℕ) / 8 * 8) 8 _ g _ l).trans ?_
    exact at_row (n := 24) (e := .f32) _ _ _ (by show (k * 8 + j : ℕ) / 8 * 8 + (k * 8 + j : ℕ) % 8 = k * 8 + j; omega) _
  · refine Finset.sum_congr rfl fun u _ => ?_
    rw [e₁]
    show ((arrs m c).grp g).wTerm k ((31 - t.val) * 256 + (u * 8 + (k * 8 + j : ℕ) % 8)) l = _
    rw [e₂]

theorem taps_sum (g : Fin 8) (l : Fin 128) (k : Fin 3) (j : Fin 8) : ∀ (n : ℕ) (hn : n < cfg0.N),
    (left m c n hn).2.2.2.1 (ix2 ⟨k * 8 + j, by omega⟩ (col g l)) =
      ∑ v ∈ Finset.range (n + 1), ∑ u : Fin 32, ((arrs m c).grp g).wTerm k ((31 - v) * 256 + (u * 8 + j)) l
  | 0, hn => by
    rw [taps_step m c ⟨0, hn⟩, before_zero m c ⟨0, hn⟩ rfl, Finset.sum_range_one]
    dsimp only
    rw [zeros_taps, zero_add]
  | n + 1, hn => by
    rw [taps_step m c ⟨n + 1, hn⟩, before_succ m c ⟨n + 1, hn⟩ (Nat.succ_ne_zero n), Finset.sum_range_succ _ (n + 1)]
    congr 1
    exact taps_sum g l k j n (Nat.lt_of_succ_lt hn)

/-- The finished gradients of the taps. -/
theorem taps_last (h : t.val = 31) (g : Fin 8) (l : Fin 128) (k : Fin 3) :
    (left m c t.val t.isLt).1.2.2.1 (ix2 k (col g l)) = ((arrs m c).dW k g l : EReal) := by
  rw [left_taps m c t (by omega)]
  refine (Finset.sum_congr rfl fun j _ => taps_sum m c g l k j t.val t.isLt).trans ?_
  rw [h]
  exact sum_rows fun s => ((arrs m c).grp g).wTerm k s l

/-! ## The projections -/

theorem range_congr (g g' : Fin 8) (k k' : Fin 3) (l l' : Fin 128) (j : Fin 256) (hg : g = g') (hk : k = k') (hl : l = l') :
    range (tile m c t g) k (ix2 j l) = range (tile m c t g') k' (ix2 j l') := by
  subst hg hk hl
  rfl

/-- The gradient of one of the three ranges of the projections. -/
def dRange (A : Arrays) (k : Fin 3) (g : Fin 8) (s : ℕ) (l : Fin 128) : EReal :=
  match k with
  | 0 => A.dB g s l
  | 1 => A.dC g s l
  | 2 => A.dH g s l

theorem range_at (A : Arrays) (g : Fin 8) (i : In) (n : ℕ) (o : i.Of (A.grp g) n) (k : Fin 3) (j : Fin 256) (l : Fin 128) :
    range i k (ix2 j l) = dRange A k g (n * 256 + j) l := by
  match k with
  | 0 => exact z0_at o j l
  | 1 => exact z1_at o j l
  | 2 => exact z2_at o j l

/-- The block's gradient of the projections, range by range. -/
theorem proj_at (g : Fin 8) (l : Fin 128) (k : Fin 3) (j : Fin 256) (d : Fin 3072)
    (hd : (d : ℕ) = k * 1024 + (col g l : ℕ)) : (left m c t.val t.isLt).1.2.1 (ix2 j d) =
      dRange (arrs m c) k g ((31 - t.val) * 256 + j) l := by
  have hc : (col g l : ℕ) = g * 128 + l := rfl
  have e : (left m c t.val t.isLt).1.2.1 (ix2 j d) = range (tile m c t g) k (ix2 j l) := by
    refine (left_proj m c t j d).trans ?_
    have e₁ : (⟨(d : ℕ) % 1024 / 128, by omega⟩ : Fin 8) = g := Fin.ext (by show (d : ℕ) % 1024 / 128 = g; omega)
    have e₂ : (⟨(d : ℕ) / 1024, by omega⟩ : Fin 3) = k := Fin.ext (by show (d : ℕ) / 1024 = k; omega)
    have e₃ : (⟨(d : ℕ) % 1024 % 128, by omega⟩ : Fin 128) = l := Fin.ext (by show (d : ℕ) % 1024 % 128 = l; omega)
    exact range_congr m c t _ _ _ _ _ _ j e₁ e₂ e₃
  exact e.trans (range_at (arrs m c) g _ _ (tile_of m c t g) k j l)

/-! ## The product -/

theorem dot_eq (i : Fin 1024) (f : Fin 2048) : dot m c t i f = ∑ x : Fin 2048,
    (argH m c (ix2 ⟨t.val % 4 * 2048 + x, by omega⟩ ⟨t.val / 16 * 1024 + i, by have := points t; omega⟩) : EReal) *
      argA m c (ix2 ⟨t.val % 4 * 2048 + x, by omega⟩ ⟨t.val / 4 % 4 * 2048 + f, by omega⟩) :=
  Finset.sum_congr rfl fun x _ => congrArg₂ (fun a b : EReal => a * b) (blk_0 m c t x i) (blk_1 m c t x f)

/-- The product's element at a point's tile, summed over all the rows. -/
def prod (i : Fin 2048) (f : Fin 8192) : EReal :=
  ∑ s : Fin 8192, (argH m c (ix2 s i) : EReal) * argA m c (ix2 s f)

/-- The dot of a point, with the tile's place given. -/
theorem dot_place (a : Fin 4) (p : Fin 2048) (q : Fin 8192) (i : Fin 1024) (f : Fin 2048) (ha : t.val % 4 = a)
    (hp : (p : ℕ) = t.val / 16 * 1024 + i) (hq : (q : ℕ) = t.val / 4 % 4 * 2048 + f) :
    dot m c t i f = ∑ x : Fin 2048,
      (argH m c (ix2 ⟨a * 2048 + x, by omega⟩ p) : EReal) * argA m c (ix2 ⟨a * 2048 + x, by omega⟩ q) := by
  rw [dot_eq]
  obtain ⟨p, hp'⟩ := p
  obtain ⟨q, hq'⟩ := q
  obtain ⟨a, ha'⟩ := a
  simp only at ha hp hq
  subst ha hp hq
  rfl

theorem product_at (h : t.val % 4 = 3) (b : Fin 1) (i : Fin 1024) (f : Fin 2048) (p : Fin 2048) (q : Fin 8192)
    (hp : (p : ℕ) = t.val / 16 * 1024 + i) (hq : (q : ℕ) = t.val / 4 % 4 * 2048 + f) :
    (left m c t.val t.isLt).1.1 (ix3 b i f) = prod m c p q := by
  have ht := points t
  have l3 := Nat.lt_of_le_of_lt (Nat.sub_le t.val 3) t.isLt
  have l2 := Nat.lt_of_le_of_lt (Nat.sub_le t.val 2) t.isLt
  have l1 := Nat.lt_of_le_of_lt (Nat.sub_le t.val 1) t.isLt
  have s3 := left_acc_first m c ⟨t.val - 3, l3⟩ (by show (t.val - 3) % 4 = 0; omega) i f
  have s2 := left_acc_inner m c ⟨t.val - 2, l2⟩ (by show 1 ≤ (t.val - 2) % 4 ∧ (t.val - 2) % 4 ≤ 2; omega) i f
  have s1 := left_acc_inner m c ⟨t.val - 1, l1⟩ (by show 1 ≤ (t.val - 1) % 4 ∧ (t.val - 1) % 4 ≤ 2; omega) i f
  rw [dot_place m c ⟨t.val - 3, l3⟩ 0 p q i f (by show (t.val - 3) % 4 = 0; omega)
    (by show (p : ℕ) = (t.val - 3) / 16 * 1024 + i; omega) (by show (q : ℕ) = (t.val - 3) / 4 % 4 * 2048 + f; omega)] at s3
  rw [dot_place m c ⟨t.val - 2, l2⟩ 1 p q i f (by show (t.val - 2) % 4 = 1; omega)
    (by show (p : ℕ) = (t.val - 2) / 16 * 1024 + i; omega) (by show (q : ℕ) = (t.val - 2) / 4 % 4 * 2048 + f; omega)] at s2
  rw [dot_place m c ⟨t.val - 1, l1⟩ 2 p q i f (by show (t.val - 1) % 4 = 2; omega)
    (by show (p : ℕ) = (t.val - 1) / 16 * 1024 + i; omega) (by show (q : ℕ) = (t.val - 1) / 4 % 4 * 2048 + f; omega)] at s1
  rw [left_product m c t h, dot_place m c t 3 p q i f h hp hq, s1]
  have e2 : ∀ (n : ℕ) (hn : n < cfg0.N), n = t.val - 2 → (left m c n hn).2.1 (ix2 i f) =
      (left m c (t.val - 2) l2).2.1 (ix2 i f) := fun n hn e => by subst e; rfl
  have e3 : ∀ (n : ℕ) (hn : n < cfg0.N), n = t.val - 3 → (left m c n hn).2.1 (ix2 i f) =
      (left m c (t.val - 3) l3).2.1 (ix2 i f) := fun n hn e => by subst e; rfl
  rw [e2 (t.val - 1 - 1) _ (by omega), s2, e3 (t.val - 2 - 1) _ (by omega), s3]
  refine Eq.symm ?_
  refine (Fin.sum_univ_tiles 4 2048 rfl (fun s : Fin (4 * 2048) =>
    (argH m c (ix2 s p) : EReal) * argA m c (ix2 s q))).trans ?_
  rw [Fin.sum_univ_four]

end Cert.KernelIdeal.Walk

end
-- ==== Proof.Finals.lean ====
/- The four result arrays after the run. -/
module

public import proofs.«01_k».proof.Proof.Sums

@[expose] public section

set_option maxRecDepth 16384

noncomputable section

namespace Cert.KernelIdeal.Walk

open Cert.KernelIdeal Cert.KernelIdeal.Gen Cert.Tile Cert.Mixer
open Idealize.ShloMosaic Idealize.ShloMosaic.TcCoe Idealize.SL.Sem

variable (m : (ℓ : Loc nD τ sig) → Buf (Elt Ideal) ℓ) (c : Dev nD)

/-! ## When a window writes back -/

theorem flush_10 : ∀ t : Fin cfg0.N, (cfg0.win 10).flush t = true → t.val % 4 = 3 :=
  (by decide +kernel : ∀ t : Fin grid0.N, (cfg0.win 10).flush t = true → t.val % 4 = 3)
theorem flush_12 : ∀ t : Fin cfg0.N, (cfg0.win 12).flush t = true → t.val = 31 :=
  (by decide +kernel : ∀ t : Fin grid0.N, (cfg0.win 12).flush t = true → t.val = 31)
theorem flush_13 : ∀ t : Fin cfg0.N, (cfg0.win 13).flush t = true → t.val = 31 :=
  (by decide +kernel : ∀ t : Fin grid0.N, (cfg0.win 13).flush t = true → t.val = 31)

/-! ## The gradient of the weight -/

/-- The product, in four column blocks. -/
def outW1 : Vec Ideal S4x2048x2048 .bf16 :=
  fun i => prod m c (i 1) ⟨(i 0 : ℕ) * 2048 + (i 2 : ℕ), by
    have h0 : (i 0 : ℕ) < 4 := (i 0).isLt
    have h2 : (i 2 : ℕ) < 2048 := (i 2).isLt
    omega⟩

theorem point_10 (t : Fin cfg0.N) (h : t.val % 4 = 3) (y : S1x1024x2048.Idx) (j : S4x2048x2048.Idx)
    (h0 : (j 0 : ℕ) = t.val / 4 % 4) (h1 : (j 1 : ℕ) = t.val / 16 * 1024 + y 1) (h2 : (j 2 : ℕ) = y 2) :
    (left m c t.val t.isLt).1.1 y = outW1 m c j := by
  idx_vars y
  exact product_at m c t h y0 y1 y2 _ _ h1 (by show (j 0 : ℕ) * 2048 + (j 2 : ℕ) = _; rw [h0, h2])

theorem final_10 : (dats m 0 c).arrAt 10 cfg0.N = outW1 m c := by
  refine (dats m 0 c).arrAt_eq_of_covers 10 _ (by decide +kernel) fun t hf y => ?_
  blk_simp
  rw [after_10]
  have hi := at_10 t
  have hy : (y 0 : ℕ) < 1 := lt_of_lt_of_le (y 0).isLt (by decide +revert)
  refine point_10 m c t (flush_10 t hf) y _ ?_ ?_ ?_
  all_goals (blk_simp [hi] <;> try omega)

/-! ## The gradient of the projections -/

/-- The three ranges, side by side. -/
def outZ : Vec Ideal S8192x6144 .bf16 := fun i =>
  if h : (i 1 : ℕ) < 3072 then
    dRange (arrs m c) ⟨(i 1 : ℕ) / 1024, by omega⟩ ⟨(i 1 : ℕ) % 1024 / 128, by omega⟩ (i 0) ⟨(i 1 : ℕ) % 128, by omega⟩
  else 0

theorem point_11 (t : Fin cfg0.N) (y : S256x3072.Idx) (j : S8192x6144.Idx)
    (h0 : (j 0 : ℕ) = (31 - t.val) * 256 + y 0) (h1 : (j 1 : ℕ) = y 1) :
    (left m c t.val t.isLt).1.2.1 y = outZ m c j := by
  idx_vars y
  have h0' : (j 0 : ℕ) = (31 - t.val) * 256 + y0 := h0
  have h1' : (j 1 : ℕ) = y1 := h1
  have hy : (y1 : ℕ) < 3072 := y1.isLt
  rw [outZ, dif_pos (by omega), h0']
  refine proj_at m c t _ _ _ y0 y1 ?_
  show (y1 : ℕ) = (j 1 : ℕ) / 1024 * 1024 + ((j 1 : ℕ) % 1024 / 128 * 128 + (j 1 : ℕ) % 128)
  omega

theorem final_11 (s : Fin 8192) (d : Fin 6144) (h : (d : ℕ) < 3072) :
    (dats m 0 c).arrAt 11 cfg0.N (ix2 s d) = outZ m c (ix2 s d) := by
  refine ((dats m 0 c).arrAt_apply_of_coversWhere 11 (outZ m c) (P := fun j : S8192x6144.Idx => (j 1 : ℕ) / 3072 = 0)
    (fun β => β (1 : Fin 2) = 0) (by decide +kernel) (fun t hf y => ?_) (fun j => Iff.rfl) (ix2 s d)).trans ?_
  · blk_simp
    rw [after_11]
    have hi := at_11 t
    refine point_11 m c t y _ ?_ ?_
    all_goals (blk_simp [hi] <;> try omega)
  · exact if_pos (by show (d : ℕ) / 3072 = 0; omega)

/-! ## The gradients of the taps and of the gain -/

def outTaps : Vec Ideal S3x1024 .f32 := fun i =>
  (arrs m c).dW (i 0) ⟨(i 1 : ℕ) / 128, by have h : (i 1 : ℕ) < 1024 := (i 1).isLt; omega⟩ ⟨(i 1 : ℕ) % 128, by omega⟩

def outGain : Vec Ideal S1x1024 .f32 := fun i =>
  (arrs m c).dG ⟨(i 1 : ℕ) / 128, by have h : (i 1 : ℕ) < 1024 := (i 1).isLt; omega⟩ ⟨(i 1 : ℕ) % 128, by omega⟩

theorem outTaps_at (k : Fin 3) (g : Fin 8) (l : Fin 128) : outTaps m c (ix2 k (col g l)) = ((arrs m c).dW k g l : EReal) :=
  of_col (fun g l => (arrs m c).dW k g l) g l
theorem outGain_at (b : Fin 1) (g : Fin 8) (l : Fin 128) : outGain m c (ix2 b (col g l)) = ((arrs m c).dG g l : EReal) :=
  of_col (fun g l => (arrs m c).dG g l) g l

theorem point_12 (t : Fin cfg0.N) (h : t.val = 31) (y j : S3x1024.Idx)
    (h0 : (j 0 : ℕ) = y 0) (h1 : (j 1 : ℕ) = y 1) : (left m c t.val t.isLt).1.2.2.1 y = outTaps m c j := by
  obtain rfl : j = y := by
    funext a
    match a with
    | 0 => exact Fin.ext h0
    | 1 => exact Fin.ext h1
  idx_vars j
  obtain ⟨g, l, rfl⟩ := col_surj j1
  rw [outTaps_at]
  exact taps_last m c t h g l j0

theorem point_13 (t : Fin cfg0.N) (h : t.val = 31) (y j : S1x1024.Idx)
    (h0 : (j 0 : ℕ) = y 0) (h1 : (j 1 : ℕ) = y 1) : (left m c t.val t.isLt).1.2.2.2 y = outGain m c j := by
  obtain rfl : j = y := by
    funext a
    match a with
    | 0 => exact Fin.ext h0
    | 1 => exact Fin.ext h1
  idx_vars j
  obtain ⟨g, l, rfl⟩ := col_surj j1
  rw [outGain_at]
  exact gain_last m c t h g l j0

theorem final_12 : (dats m 0 c).arrAt 12 cfg0.N = outTaps m c := by
  refine (dats m 0 c).arrAt_eq_of_covers 12 _ (by decide +kernel) fun t hf y => ?_
  blk_simp
  rw [after_12]
  have hi := at_12 t
  refine point_12 m c t (flush_12 t hf) y _ ?_ ?_
  all_goals (blk_simp [hi] <;> try omega)

theorem final_13 : (dats m 0 c).arrAt 13 cfg0.N = outGain m c := by
  refine (dats m 0 c).arrAt_eq_of_covers 13 _ (by decide +kernel) fun t hf y => ?_
  blk_simp
  rw [after_13]
  have hi := at_13 t
  refine point_13 m c t (flush_13 t hf) y _ ?_ ?_
  all_goals (blk_simp [hi] <;> try omega)

end Cert.KernelIdeal.Walk

end
-- ==== Proof.Results.lean ====
/- The run of the kernel, its four results and its arguments read off the final memory. -/
module

public import proofs.«01_k».proof.Proof.Finals

@[expose] public section

set_option maxRecDepth 16384

noncomputable section

namespace Cert.KernelIdeal.Walk

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The results after the run, the arguments as they were. -/
theorem results : θ_run defs (onTc (τ := τ) (main (F := Ideal))) ⟨m, fun _ => 0, ρ⟩ (fun r => ∀ c : Dev nD,
      r.2.mem ((c.tc : Thread nD τ).loc main_v2_0) = outW1 m c
      ∧ r.2.mem ((c.tc : Thread nD τ).loc main_v2_1) = (dats m 0 c).arrAt 11 cfg0.N
      ∧ r.2.mem ((c.tc : Thread nD τ).loc main_v2_2) = outTaps m c
      ∧ r.2.mem ((c.tc : Thread nD τ).loc main_v2_3) = outGain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from ((θ_run defs _ _).mono (fun _ h => h.1) (runs m ρ)) & unchanged m ρ
  · exact final_10 m c
  · exact final_12 m c
  · exact final_13 m c

end Cert.KernelIdeal.Walk

end
-- ==== Proof.NormRow.lean ====
/- One row of a root-mean-square norm's gradient: the form that differentiates the reciprocal root and the form that
   subtracts the projection on the normalised row are equal on finite rows. -/
module

public import proofs.«01_k».proof.Proof.Mixer

@[expose] public section

set_option maxRecDepth 16384

noncomputable section

namespace Cert.Mixer

open Idealize.ShloMosaic

theorem len_eq : len = ((128 : ℝ) : EReal) := by
  simp [len, Ideal.ofBits, Ideal.ieee, -EReal.coe_mul]
  norm_num

theorem half_eq : Ideal.ofBits .f32 0xBF000000#32 = ((-1 / 2 : ℝ) : EReal) := by
  simp [Ideal.ofBits, Ideal.ieee, -EReal.coe_mul]
  norm_num

/-- The small constant is a positive real. -/
theorem eps_pos : ∃ e : ℝ, 0 < e ∧ eps = (e : EReal) := by
  refine ⟨_, ?_, by simp only [eps, Ideal.ofBits, Ideal.ieee]; rfl⟩
  rw [if_neg (by decide)]
  positivity

/-- A finite sum of reals, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s h ih => rw [Finset.sum_insert h, Finset.sum_insert h, ih, EReal.coe_add]

theorem norm_row {ι : Type} [Fintype ι] (y d : ι → ℝ) (l : ι) {n : ℝ} (hn : 0 < n) {L V R q : EReal} (hL : L = (n : EReal))
    (hV : V = Ideal.div (∑ l, (y l : EReal) * (y l : EReal)) L + eps) (hR : R = Ideal.rsqrt V)
    (hq : q = Ideal.div ((∑ l, (y l : EReal) * (d l : EReal)) *
      (Ideal.ofBits .f32 0xBF000000#32 * Ideal.div R V)) L) :
    (d l : EReal) * R + (y l : EReal) * q + q * (y l : EReal) =
      R * ((d l : EReal) - (y l : EReal) * R * Ideal.div (∑ l, (d l : EReal) * ((y l : EReal) * R)) L) := by
  obtain ⟨e, he, hE⟩ := eps_pos
  have hn' : n ≠ 0 := hn.ne'
  simp only [← EReal.coe_mul, sum_coe, hL, hE, Ideal.div_coe hn', ← EReal.coe_add] at hV
  set v : ℝ := (∑ l, y l * y l) * (1 / n) + e with hv
  have vpos : 0 < v := by
    have : 0 ≤ ∑ l, y l * y l := Finset.sum_nonneg fun l _ => mul_self_nonneg _
    positivity
  have hR' : R = (((Real.sqrt v)⁻¹ : ℝ) : EReal) := by
    rw [hR, hV, Ideal.rsqrt_coe, if_neg (not_lt.2 vpos.le), if_neg vpos.ne']
  set ρ : ℝ := (Real.sqrt v)⁻¹ with hρ
  have hρv : ρ * ρ = 1 / v := by
    rw [hρ, ← mul_inv, Real.mul_self_sqrt vpos.le, one_div]
  rw [hV, hR', half_eq, hL, Ideal.div_coe vpos.ne', Ideal.div_coe hn'] at hq
  simp only [← EReal.coe_mul, sum_coe] at hq
  rw [hq, hR', hL, Ideal.div_coe hn']
  simp only [← EReal.coe_mul, sum_coe, ← EReal.coe_add, ← EReal.coe_sub]
  rw [EReal.coe_eq_coe_iff]
  have e₁ : ∑ l, d l * (y l * ρ) = ρ * ∑ l, y l * d l := by
    rw [Finset.mul_sum]
    exact Finset.sum_congr rfl fun l _ => by ring
  rw [e₁, ← hρv]
  ring

end Cert.Mixer

end
-- ==== Proof.NormGrad.lean ====
/- The gradient of the gated value on a group of finite arrays, in the form that differentiates the reciprocal
   root. -/
module

public import proofs.«01_k».proof.Proof.NormRow

@[expose] public section

set_option maxRecDepth 16384

noncomputable section

namespace Cert.Mixer

open Idealize.ShloMosaic

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul _ _).symm⟩
theorem IsReal.add {x y : EReal} (hx : IsReal x) (hy : IsReal y) : IsReal (x + y) := by
  obtain ⟨a, rfl⟩ := hx; obtain ⟨b, rfl⟩ := hy; exact ⟨a + b, (EReal.coe_add _ _).symm⟩
theorem IsReal.zero : IsReal 0 := ⟨0, rfl⟩

/-- Every array of the group holds reals. -/
structure Grp.Finite (a : Grp) : Prop where
  B : ∀ s l, IsReal (a.B s l)
  C : ∀ s l, IsReal (a.C s l)
  H : ∀ s l, IsReal (a.H s l)
  D : ∀ s l, IsReal (a.D s l)
  W : ∀ k l, IsReal (a.W k l)
  G : ∀ l, IsReal (a.G l)

variable {a : Grp} (h : a.Finite) (s : ℕ) (l : Fin 128)
include h

theorem Grp.Finite.U : IsReal (a.U s l) := (h.C s l).mul (h.H s l)
theorem Grp.Finite.U1 : IsReal (a.U1 s l) := by
  unfold Grp.U1
  split
  · exact .zero
  · exact h.U _ l
theorem Grp.Finite.U2 : IsReal (a.U2 s l) := by
  unfold Grp.U2
  split
  · exact .zero
  split
  · exact .zero
  · exact h.U _ l
theorem Grp.Finite.Y : IsReal (a.Y s l) :=
  (h.B s l).mul ((((h.W 0 l).mul (h.U2 s l)).add ((h.W 1 l).mul (h.U1 s l))).add ((h.W 2 l).mul (h.U s l)))
theorem Grp.Finite.dN : IsReal (a.dN s l) := (h.D s l).mul (h.G l)

/-- The factor of the row in the gradient that reaches it through the reciprocal root, once for each of the
    two factors of the square. -/
def _root_.Cert.Mixer.Grp.half (a : Grp) (s : ℕ) : EReal :=
  Ideal.div ((∑ l : Fin 128, a.Y s l * a.dN s l) * (Ideal.ofBits .f32 0xBF000000#32 * Ideal.div (a.R s) (a.V s))) len

/-- The gradient of the gated value: through the scaled row, and twice through the square. -/
theorem Grp.Finite.dY_eq : a.dN s l * a.R s + a.Y s l * a.half s + a.half s * a.Y s l = a.dY s l := by
  choose y hy using fun l => h.Y s l
  choose d hd using fun l => h.dN s l
  have := norm_row y d l (by norm_num) len_eq (V := a.V s) (R := a.R s) (q := a.half s)
    (by simp only [Grp.V, hy]) rfl (by simp only [Grp.half, hy, hd])
  rw [Grp.dY, Grp.mean, Grp.N]
  simp only [hd, hy, Grp.N]
  exact this

end Cert.Mixer

end
-- ==== Proof.RefAt.lean ====
/- What the reference's named intermediate arrays hold at an index. -/
module

public import proofs.«01_k».proof.Proof.Gen.ReferenceIdeal.Run
public import proofs.«01_k».proof.Proof.Groups
public import proofs.«01_k».proof.Proof.NormGrad

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value Cert.Mixer

/-! ## Padding with zeros -/

theorem pad2 (x : FVec Ideal S8192x1024 .f32) (t : Fin 8194) (d : Fin 1024) :
    pad S8194x1024 ![2, 0] ![0, 0] ![0, 0] x (constant (F := Ideal) S_ .f32 0x00000000#32)
      pads_S8192x1024_S8194x1024_200_000 h_S_ (ix2 t d) =
    if h : 2 ≤ (t : ℕ) ∧ (t : ℕ) - 2 < 8192 then x (ix2 ⟨t - 2, h.2⟩ d) else 0 := by
  pointwise

theorem pad1 (x : FVec Ideal S8192x1024 .f32) (t : Fin 8194) (d : Fin 1024) :
    pad S8194x1024 ![1, 0] ![1, 0] ![0, 0] x (constant (F := Ideal) S_ .f32 0x00000000#32)
      pads_S8192x1024_S8194x1024_110_000 h_S_ (ix2 t d) =
    if h : 1 ≤ (t : ℕ) ∧ (t : ℕ) - 1 < 8192 then x (ix2 ⟨t - 1, h.2⟩ d) else 0 := by
  pointwise

theorem pad0 (x : FVec Ideal S8192x1024 .f32) (t : Fin 8194) (d : Fin 1024) :
    pad S8194x1024 ![0, 0] ![2, 0] ![0, 0] x (constant (F := Ideal) S_ .f32 0x00000000#32)
      pads_S8192x1024_S8194x1024_020_000 h_S_ (ix2 t d) =
    if h : (t : ℕ) < 8192 then x (ix2 ⟨t, h⟩ d) else 0 := by
  pointwise

variable (V : Valuation τ sig (Elt Ideal))

/-- The step's arrays, read from the reference's arguments. -/
def arrays : Arrays := ⟨V (Proc.devRef .tc main_arg3), V (Proc.devRef .tc main_arg2), V (Proc.devRef .tc main_arg4),
  V (Proc.devRef .tc main_arg5)⟩

abbrev gr (g : Fin 8) : Grp := (arrays V).grp g

/-! ## The forward pass -/

section
variable (s : Fin 8192) (g : Fin 8) (l : Fin 128)

theorem v8_at : res_main_v8 V (ix2 s (col g l)) = ((gr V g).B s l : EReal) := by
  pointwise [res_main_v8]
  show _ = (arrays V).zAt 0 (by omega) g s l
  rw [Arrays.zAt, dif_pos s.isLt]
  simp only [Nat.zero_add]
  rfl
theorem v9_at : res_main_v9 V (ix2 s (col g l)) = ((gr V g).C s l : EReal) := by
  pointwise [res_main_v9]
  show _ = (arrays V).zAt 1024 (by omega) g s l
  rw [Arrays.zAt, dif_pos s.isLt]
  rfl
theorem v10_at : res_main_v10 V (ix2 s (col g l)) = ((gr V g).H s l : EReal) := by
  pointwise [res_main_v10]
  show _ = (arrays V).zAt 2048 (by omega) g s l
  rw [Arrays.zAt, dif_pos s.isLt]
  rfl
theorem v7_at : res_main_v7 V (ix2 s (col g l)) = ((gr V g).D s l : EReal) := by
  pointwise [res_main_v7]
  show _ = dite _ _ _
  rw [dif_pos s.isLt]
  rfl
theorem v20_at : res_main_v20 V (ix2 0 (col g l)) = ((gr V g).W 0 l : EReal) := by
  pointwise [res_main_v20, res_main_v11]
  rfl
theorem v28_at : res_main_v28 V (ix2 0 (col g l)) = ((gr V g).W 1 l : EReal) := by
  pointwise [res_main_v28, res_main_v11]
  rfl
theorem v35_at : res_main_v35 V (ix2 0 (col g l)) = ((gr V g).W 2 l : EReal) := by
  pointwise [res_main_v35, res_main_v11]
  rfl
theorem v55_at : res_main_v55 V (ix2 0 (col g l)) = ((gr V g).G l : EReal) := by
  pointwise [res_main_v55]
  rfl

theorem v15_at (t : Fin 8194) (d : Fin 1024) :
    res_main_v15 V (ix2 t d) = (if h : (t : ℕ) < 2 then (0 : EReal) else
      (show EReal from res_main_v9 V (ix2 ⟨t - 2, by omega⟩ d)) * res_main_v10 V (ix2 ⟨t - 2, by omega⟩ d)) := by
  pointwise [res_main_v15]

/-- The padded input at row `t` is the input two rows earlier. -/
theorem up_at (t : Fin 8194) :
    res_main_v15 V (ix2 t (col g l)) = (if (t : ℕ) < 2 then (0 : EReal) else (gr V g).U (t - 2) l) := by
  rw [v15_at]
  split
  · rfl
  · rw [v9_at, v10_at]
    rfl

theorem v32_at : res_main_v32 V (ix2 s (col g l)) = ((gr V g).U s l : EReal) := by
  pointwise [res_main_v32]
  rw [up_at, if_neg (by show ¬ (2 + (s : ℕ)) < 2; omega)]
  congr 1
  show 2 + (s : ℕ) - 2 = s
  omega

theorem v25_at : res_main_v25 V (ix2 s (col g l)) = ((gr V g).U1 s l : EReal) := by
  pointwise [res_main_v25]
  rw [up_at, Grp.U1]
  by_cases h : (s : ℕ) = 0
  · rw [if_pos (by show (1 + (s : ℕ)) < 2; omega), if_pos h]
  · rw [if_neg (by show ¬ (1 + (s : ℕ)) < 2; omega), if_neg h]
    congr 1
    show 1 + (s : ℕ) - 2 = s - 1
    omega

theorem v17_at : res_main_v17 V (ix2 s (col g l)) = ((gr V g).U2 s l : EReal) := by
  pointwise [res_main_v17]
  rw [up_at, Grp.U2]
  by_cases h : (s : ℕ) < 2
  · rw [if_pos h]
    by_cases e : (s : ℕ) = 0
    · rw [if_pos e]
    · rw [if_neg e, if_pos (by omega)]
  · rw [if_neg h, if_neg (by omega), if_neg (by omega)]

theorem v38_at : res_main_v38 V (ix2 s (col g l)) = ((gr V g).conv s l : EReal) := by
  have h0 := v17_at V s g l
  have h1 := v25_at V s g l
  have h2 := v32_at V s g l
  have w0 := v20_at V g l
  have w1 := v28_at V g l
  have w2 := v35_at V g l
  pointwise [res_main_v38, h0, h1, h2, w0, w1, w2]
  rw [Grp.conv, mul_comm ((gr V g).U2 _ _), mul_comm ((gr V g).U1 _ _), mul_comm ((gr V g).U _ _)]

theorem v40_at : res_main_v40 V (ix3 s g l) = ((gr V g).Y s l : EReal) := by
  have h0 := v38_at V s g l
  have h1 := v8_at V s g l
  unfold col at h0 h1
  pointwise [res_main_v40, h0, h1]
  rfl

theorem v47_at : res_main_v47 V (ix3 s g 0) = ((gr V g).V s : EReal) := by
  pointwise [res_main_v47]
  simp only [v40_at]
  rfl

theorem v48_at : res_main_v48 V (ix3 s g 0) = ((gr V g).R s : EReal) := by
  have h := v47_at V s g
  pointwise [res_main_v48, h]
  rfl

/-- The group and the lane of a column. -/
theorem col_div (h : (col g l : ℕ) / 128 < 8) : (⟨(col g l : ℕ) / 128, h⟩ : Fin 8) = g := by
  apply Fin.ext
  show ((g : ℕ) * 128 + l) / 128 = g
  omega
theorem col_mod (h : (col g l : ℕ) % 128 < 128) : (⟨(col g l : ℕ) % 128, h⟩ : Fin 128) = l := by
  apply Fin.ext
  show ((g : ℕ) * 128 + l) % 128 = l
  omega

theorem v54_at : res_main_v54 V (ix2 s (col g l)) = ((gr V g).N s l : EReal) := by
  pointwise [res_main_v54]
  simp only [col_div, col_mod, v40_at, v48_at]
  rfl

/-! ## The gradients -/

theorem v64_at : res_main_v64 V (ix3 s g l) = ((gr V g).dN s l : EReal) := by
  have h0 := v7_at V s g l
  have h1 := v55_at V g l
  unfold col at h0 h1
  pointwise [res_main_v64, h0, h1]
  rfl

theorem v74_at : res_main_v74 V (ix3 s g l) = ((gr V g).half s : EReal) := by
  pointwise [res_main_v74]
  rw [Fin.sum_univ_one]
  simp only [v40_at, v64_at, v47_at, v48_at]
  rfl
end

section
variable (s : Fin 8192) (g : Fin 8) (l : Fin 128) (hf : (gr V g).Finite)
include hf

theorem v79_at : res_main_v79 V (ix2 s (col g l)) = ((gr V g).dY s l : EReal) := by
  pointwise [res_main_v79]
  simp only [col_div, col_mod, v40_at, v48_at, v64_at, v74_at]
  exact hf.dY_eq s l

theorem v80_at : res_main_v80 V (ix2 s (col g l)) = ((gr V g).dConv s l : EReal) := by
  have h0 := v79_at V s g l hf
  have h1 := v8_at V s g l
  pointwise [res_main_v80, h0, h1]
  exact mul_comm (G := EReal) _ _

omit hf in
/-- A tap's part of the gradient of the padded input: the gradient of the convolution's result `n` rows on
    (zero past the last row) times the tap. -/
theorem part_at (n : ℕ) (x : FVec Ideal S8192x1024 .f32) (w : EReal) (hx : ∀ t : Fin 8192, x (ix2 t (col g l)) = (gr V g).dConv t l * w)
    (P : Prop) [Decidable P] (hP : P ↔ (s : ℕ) + n < 8192) (q : ℕ) (hq : q = s + n) (lt : P → q < 8192) :
    (if h : P then x (ix2 ⟨q, lt h⟩ (col g l)) else 0) = w * (gr V g).dConv (s + n) l := by
  subst hq
  by_cases h : P
  · rw [dif_pos h, hx, mul_comm]
  · rw [dif_neg h, Arrays.dConv_past (arrays V) g _ l (by rw [hP] at h; omega), mul_zero]

/-- The gradient of the padded input, two rows down: each tap's part lies as many rows down as the tap. -/
theorem v114_at : res_main_v114 V (ix2 s (col g l)) = ((gr V g).dU s l : EReal) := by
  have w0 := v20_at V g l
  have w1 := v28_at V g l
  have w2 := v35_at V g l
  pointwise [res_main_v114]
  unfold res_main_v112
  rw [addf_apply, addf_apply, pad2, pad1, pad0]
  refine congrArg₂ (fun x y : EReal => x + y) (congrArg₂ (fun x y : EReal => x + y)
    (part_at V s g l 0 _ ((gr V g).W 2 l) ?_ _ ?_ _ ?_ _) (part_at V s g l 1 _ ((gr V g).W 1 l) ?_ _ ?_ _ ?_ _))
    (part_at V s g l 2 _ ((gr V g).W 0 l) ?_ _ ?_ _ ?_ _)
  · intro t
    have h := v80_at V t g l hf
    pointwise [h, w2]
  · simp only [Fin.val_mk]; omega
  · simp only [Fin.val_mk]; omega
  · intro t
    have h := v80_at V t g l hf
    pointwise [h, w1]
  · simp only [Fin.val_mk]; omega
  · simp only [Fin.val_mk]; omega
  · intro t
    have h := v80_at V t g l hf
    pointwise [h, w0]
  · simp only [Fin.val_mk]; omega
  · simp only [Fin.val_mk]; omega
end

end Cert.Ref

end
-- ==== Proof.RefResult.lean ====
/- The reference's four results at an index. -/
module

public import proofs.«01_k».proof.Proof.RefAt

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value Cert.Mixer

variable (V : Valuation τ sig (Elt Ideal))

/-- The product's gradient: slab `j` of columns, row `i`, column `f` of the slab. -/
def refW1 : FVec Ideal S4x2048x2048 .bf16 :=
  truncf .bf16 (transpose S4x2048x2048 [1, 0, 2] (shapeCast _ (Host.dotGeneral dot_S8192x2048_S8192x8192_S2048x8192_0_0_1_1_n_n none (extf .f32 (V (Proc.devRef .tc main_arg0)) bitsLt_bf16_f32) (extf .f32 (V (Proc.devRef .tc main_arg1)) bitsLt_bf16_f32)) shapeCasts_S2048x8192_S2048x4x2048) transposes_S2048x4x2048_S4x2048x2048_1_0_2) bitsLt_bf16_f32

/-- The gradient of `z`. -/
def refZ : FVec Ideal S8192x6144 .bf16 :=
  truncf .bf16 (addf (addf (pad S8192x6144 ![0, 2048] ![0, 3072] ![0, 0] (mulf (res_main_v9 V) (res_main_v114 V)) (constant S_ .f32 0x00000000#32) pads_S8192x1024_S8192x6144_000_204830720 h_S_) (pad S8192x6144 ![0, 1024] ![0, 4096] ![0, 0] (mulf (res_main_v114 V) (res_main_v10 V)) (constant S_ .f32 0x00000000#32) pads_S8192x1024_S8192x6144_000_102440960 h_S_)) (pad S8192x6144 ![0, 0] ![0, 5120] ![0, 0] (mulf (res_main_v79 V) (res_main_v38 V)) (constant S_ .f32 0x00000000#32) pads_S8192x1024_S8192x6144_000_051200 h_S_)) bitsLt_bf16_f32

/-- The gradient of the taps, and of the gain. -/
def refTaps : FVec Ideal S3x1024 .f32 :=
  transpose S3x1024 [1, 0] (shapeCast _ (broadcastInDim S1x1024x3 ![1, 2] bcast_S1024x3_S1x1024x3_1_2 (addf (addf (pad S1024x3 ![0, 2] ![0, 0] ![0, 0] (broadcastInDim S1024x1 ![0] bcast_S1024_S1024x1_0 (Host.reduceAdd (shapeCast _ (Host.reduceAdd (mulf (res_main_v32 V) (res_main_v80 V)) (constant S_ .f32 0x00000000#32) reducesTo_S8192x1024_S1024_d0 h_S_) shapeCasts_S1024_S1x1024) (constant S_ .f32 0x00000000#32) reducesTo_S1x1024_S1024_d0 h_S_)) (constant S_ .f32 0x00000000#32) pads_S1024x1_S1024x3_000_200 h_S_) (pad S1024x3 ![0, 1] ![0, 1] ![0, 0] (broadcastInDim S1024x1 ![0] bcast_S1024_S1024x1_0 (Host.reduceAdd (shapeCast _ (Host.reduceAdd (mulf (res_main_v25 V) (res_main_v80 V)) (constant S_ .f32 0x00000000#32) reducesTo_S8192x1024_S1024_d0 h_S_) shapeCasts_S1024_S1x1024) (constant S_ .f32 0x00000000#32) reducesTo_S1x1024_S1024_d0 h_S_)) (constant S_ .f32 0x00000000#32) pads_S1024x1_S1024x3_000_110 h_S_)) (pad S1024x3 ![0, 0] ![0, 2] ![0, 0] (broadcastInDim S1024x1 ![0] bcast_S1024_S1024x1_0 (Host.reduceAdd (shapeCast _ (Host.reduceAdd (mulf (res_main_v17 V) (res_main_v80 V)) (constant S_ .f32 0x00000000#32) reducesTo_S8192x1024_S1024_d0 h_S_) shapeCasts_S1024_S1x1024) (constant S_ .f32 0x00000000#32) reducesTo_S1x1024_S1024_d0 h_S_)) (constant S_ .f32 0x00000000#32) pads_S1024x1_S1024x3_000_020 h_S_))) shapeCasts_S1x1024x3_S1024x3) transposes_S1024x3_S3x1024_1_0
def refGain : FVec Ideal S1x1024 .f32 :=
  broadcastInDim S1x1024 ![1] bcast_S1024_S1x1024_1 (Host.reduceAdd (shapeCast _ (Host.reduceAdd (mulf (res_main_v54 V) (res_main_v7 V)) (constant S_ .f32 0x00000000#32) reducesTo_S8192x1024_S1024_d0 h_S_) shapeCasts_S1024_S1x1024) (constant S_ .f32 0x00000000#32) reducesTo_S1x1024_S1024_d0 h_S_)

theorem refW1_at (j : Fin 4) (i f : Fin 2048) : refW1 V (ix3 j i f) =
    ∑ t : Fin 8192, (show FVec Ideal S8192x2048 .bf16 from V (Proc.devRef .tc main_arg0)) (ix2 t i) *
      (show FVec Ideal S8192x8192 .bf16 from V (Proc.devRef .tc main_arg1)) (ix2 t ⟨j * 2048 + f, by omega⟩) := by
  pointwise [refW1]

theorem refGain_at (g : Fin 8) (l : Fin 128) : refGain V (ix2 0 (col g l)) = (arrays V).dG g l := by
  pointwise [refGain]
  rw [Fin.sum_univ_one]
  simp only [v54_at, v7_at]
  exact Finset.sum_congr rfl fun s _ => mul_comm _ _

section
variable (g : Fin 8) (hf : (gr V g).Finite) (s : Fin 8192) (l : Fin 128)
include hf

theorem refTaps_at (k : Fin 3) : refTaps V (ix2 k (col g l)) = (arrays V).dW k g l := by
  have e : ∀ k : Fin 3, (arrays V).dW k g l = ∑ s : Fin 8192, (gr V g).wTerm k s l := fun _ => rfl
  have h0 : ∀ s : Fin 8192, (show EReal from res_main_v17 V (ix2 s (col g l))) * res_main_v80 V (ix2 s (col g l)) = (gr V g).wTerm 0 s l :=
    fun s => (mul_comm _ _).trans (by rw [v17_at, v80_at _ _ _ _ hf]; rfl)
  have h1 : ∀ s : Fin 8192, (show EReal from res_main_v25 V (ix2 s (col g l))) * res_main_v80 V (ix2 s (col g l)) = (gr V g).wTerm 1 s l :=
    fun s => (mul_comm _ _).trans (by rw [v25_at, v80_at _ _ _ _ hf]; rfl)
  have h2 : ∀ s : Fin 8192, (show EReal from res_main_v32 V (ix2 s (col g l))) * res_main_v80 V (ix2 s (col g l)) = (gr V g).wTerm 2 s l :=
    fun s => (mul_comm _ _).trans (by rw [v32_at, v80_at _ _ _ _ hf]; rfl)
  rw [e]
  pointwise [refTaps]
  match k with
  | 0 =>
    rw [dif_neg (by decide), dif_neg (by decide), dif_pos (by decide), zero_add, zero_add, Fin.sum_univ_one]
    exact Finset.sum_congr rfl fun s _ => h0 s
  | 1 =>
    rw [dif_neg (by decide), dif_pos (by decide), dif_neg (by decide), zero_add, add_zero, Fin.sum_univ_one]
    exact Finset.sum_congr rfl fun s _ => h1 s
  | 2 =>
    rw [dif_pos (by decide), dif_neg (by decide), dif_neg (by decide), add_zero, add_zero, Fin.sum_univ_one]
    exact Finset.sum_congr rfl fun s _ => h2 s

omit hf in
/-- A column range of `z` is a padded array of 1024 columns: the range read inside and outside. -/
theorem padH_at (x : FVec Ideal S8192x1024 .f32) (c : Fin 6144) :
    pad S8192x6144 ![0, 2048] ![0, 3072] ![0, 0] x (constant (F := Ideal) S_ .f32 0x00000000#32) pads_S8192x1024_S8192x6144_000_204830720 h_S_ (ix2 s c) =
    if h : 2048 ≤ (c : ℕ) ∧ (c : ℕ) - 2048 < 1024 then x (ix2 s ⟨c - 2048, h.2⟩) else 0 := by
  pointwise
omit hf in
theorem padC_at (x : FVec Ideal S8192x1024 .f32) (c : Fin 6144) :
    pad S8192x6144 ![0, 1024] ![0, 4096] ![0, 0] x (constant (F := Ideal) S_ .f32 0x00000000#32) pads_S8192x1024_S8192x6144_000_102440960 h_S_ (ix2 s c) =
    if h : 1024 ≤ (c : ℕ) ∧ (c : ℕ) - 1024 < 1024 then x (ix2 s ⟨c - 1024, h.2⟩) else 0 := by
  pointwise
omit hf in
theorem padB_at (x : FVec Ideal S8192x1024 .f32) (c : Fin 6144) :
    pad S8192x6144 ![0, 0] ![0, 5120] ![0, 0] x (constant (F := Ideal) S_ .f32 0x00000000#32) pads_S8192x1024_S8192x6144_000_051200 h_S_ (ix2 s c) =
    if h : (c : ℕ) < 1024 then x (ix2 s ⟨c, h⟩) else 0 := by
  pointwise

/-- The sum of the three ranges, of which an element lies in one. -/
theorem refZ_B (c : Fin 6144) (hc : (c : ℕ) = col g l) : refZ V (ix2 s c) = (arrays V).dB g s l := by
  have hl := (col g l).isLt
  unfold refZ
  rw [truncf_apply, addf_apply, addf_apply, padH_at, padC_at, padB_at, dif_neg (by omega), dif_neg (by omega), dif_pos (by omega)]
  show (0 + 0 + _ : EReal) = _
  rw [zero_add, zero_add]
  have e : (⟨(c : ℕ), by omega⟩ : Fin 1024) = col g l := Fin.ext hc
  rw [e]
  have h0 := v79_at V s g l hf
  have h1 := v38_at V s g l
  pointwise [h0, h1]
  rfl

theorem refZ_C (c : Fin 6144) (hc : (c : ℕ) = 1024 + col g l) : refZ V (ix2 s c) = (arrays V).dC g s l := by
  have hl := (col g l).isLt
  unfold refZ
  rw [truncf_apply, addf_apply, addf_apply, padH_at, padC_at, padB_at, dif_neg (by omega), dif_pos (by omega), dif_neg (by omega)]
  show (0 + _ + 0 : EReal) = _
  rw [zero_add, add_zero]
  have e : (⟨(c : ℕ) - 1024, by omega⟩ : Fin 1024) = col g l := Fin.ext (by show (c : ℕ) - 1024 = _; omega)
  rw [e]
  have h0 := v114_at V s g l hf
  have h1 := v10_at V s g l
  pointwise [h0, h1]
  rfl

theorem refZ_H (c : Fin 6144) (hc : (c : ℕ) = 2048 + col g l) : refZ V (ix2 s c) = (arrays V).dH g s l := by
  have hl := (col g l).isLt
  unfold refZ
  rw [truncf_apply, addf_apply, addf_apply, padH_at, padC_at, padB_at, dif_pos (by omega), dif_neg (by omega), dif_neg (by omega)]
  show (_ + 0 + 0 : EReal) = _
  rw [add_zero, add_zero]
  have e : (⟨(c : ℕ) - 2048, by omega⟩ : Fin 1024) = col g l := Fin.ext (by show (c : ℕ) - 2048 = _; omega)
  rw [e]
  have h0 := v114_at V s g l hf
  have h1 := v9_at V s g l
  pointwise [h0, h1]
  exact mul_comm _ _
end

end Cert.Ref

end
-- ==== Proof.Finite.lean ====
/- The precondition, read: the arrays of the mixer's backward pass hold reals. -/
module

public import proofs.«01_k».proof.Proof.Gen.Pre_finite
public import Idealize.ShloMosaic.Lib.ReduceAll
public import proofs.«01_k».proof.Proof.Groups
public import proofs.«01_k».proof.Proof.NormGrad

@[expose] public section

set_option maxRecDepth 16384

noncomputable section

namespace Cert.Pre

open Idealize.ShloMosaic Idealize.ShloMosaic.TcCoe Idealize.SL.Sem
open Cert.Pre_finite Cert.Pre_finite.Gen Cert.Mixer

/-- An extended real of magnitude below infinity is a real. -/
theorem isReal_of_abs (x : EReal) (h : (x : EReal) ⊔ (-x) < ⊤) : IsReal x := by
  induction x using EReal.rec with
  | bot => simp at h
  | coe r => exact ⟨r, rfl⟩
  | top => simp at h

/-- The comparison with infinity, read: the element is a real. -/
theorem isReal_of_bit (φ : FTy) (x : Ideal φ) (q : BitVec.ofBool (decide
    ((show EReal from FloatOps.absf (F := Ideal) (φ := φ) x) < Ideal.ofBits .f32 0x7F800000#32)) = 1#1) : IsReal x := by
  have top : Ideal.ofBits .f32 0x7F800000#32 = (⊤ : EReal) := by simp [Ideal.ofBits, Ideal.ieee]
  rw [top] at q
  refine isReal_of_abs x ?_
  by_contra hn
  rw [show decide ((show EReal from FloatOps.absf (F := Ideal) (φ := φ) x) < ⊤) = false from decide_eq_false hn] at q
  exact absurd q (by decide)

section
variable (h : FVec Ideal S8192x2048 .bf16) (da : FVec Ideal S8192x8192 .bf16) (dy : FVec Ideal S8192x2048 .bf16)
  (z : FVec Ideal S8192x6144 .f32) (w : FVec Ideal S1x1024x3 .f32) (gain : FVec Ideal S1x1024 .f32)

theorem parts (e : fn (F := Ideal) h da dy z w gain = fun _ => 1#1) :
    (∀ (s : Fin 8192) (c : Fin 2048), (c : ℕ) < 1024 → IsReal (dy (ix2 s c))) ∧
    (∀ (s : Fin 8192) (c : Fin 6144), (c : ℕ) < 3072 → IsReal (z (ix2 s c))) ∧
    (∀ (d : Fin 1024) (k : Fin 3), IsReal (w (ix3 0 d k))) ∧ (∀ d : Fin 1024, IsReal (gain (ix2 0 d))) := by
  have e := congrFun e (fun a => a.elim0)
  have : Subsingleton (Shape.Idx S_) := ⟨fun a b => funext fun x => x.elim0⟩
  simp only [fn, fn_part1] at e
  obtain ⟨e, e4⟩ := IntOp.andi_eq_one.1 e
  obtain ⟨e, e3⟩ := IntOp.andi_eq_one.1 e
  obtain ⟨e1, e2⟩ := IntOp.andi_eq_one.1 e
  refine ⟨fun s c hc => ?_, fun s c hc => ?_, fun d k => ?_, fun d => ?_⟩
  · have q := Host.reduce_andi_all _ _ _ _ _ e1 (ix2 s ⟨c, hc⟩)
    pointwise at q
    exact isReal_of_bit .bf16 _ q
  · have q := Host.reduce_andi_all _ _ _ _ _ e2 (ix2 s ⟨c, hc⟩)
    pointwise at q
    exact isReal_of_bit .f32 _ q
  · have q := Host.reduce_andi_all _ _ _ _ _ e3 (ix3 0 d k)
    pointwise at q
    exact isReal_of_bit .f32 _ q
  · have q := Host.reduce_andi_all _ _ _ _ _ e4 (ix2 0 d)
    pointwise at q
    exact isReal_of_bit .f32 _ q

/-- Every group of the arrays is finite. -/
theorem grp_finite (e : fn (F := Ideal) h da dy z w gain = fun _ => 1#1) (g : Fin 8) :
    ((⟨z, dy, w, gain⟩ : Arrays).grp g).Finite := by
  obtain ⟨hd, hz, hw, hg⟩ := parts h da dy z w gain e
  have lt := fun l => (col g l).isLt
  have z0 : ∀ b (hb : b ≤ 2048) s l, IsReal ((⟨z, dy, w, gain⟩ : Arrays).zAt b (by omega) g s l) := by
    intro b hb s l
    unfold Arrays.zAt
    split
    · exact hz _ _ (by have := lt l; show b + (col g l : ℕ) < 3072; omega)
    · exact .zero
  refine ⟨z0 0 (by omega), z0 1024 (by omega), z0 2048 (by omega), fun s l => ?_, fun k l => hw _ k, fun l => hg _⟩
  show IsReal (dite _ _ _)
  split
  · exact hd _ _ (lt l)
  · exact .zero
end

end Cert.Pre

end
-- ==== Proof.Compare.lean ====
/- The kernel's results are the reference's, wherever the two programs' arguments agree and the precondition holds. -/
module

public import proofs.«01_k».proof.Proof.Results
public import proofs.«01_k».proof.Proof.RefResult
public import proofs.«01_k».proof.Proof.Finite

@[expose] public section

set_option maxRecDepth 16384

noncomputable section

namespace Cert.Compare

open Idealize.ShloMosaic Idealize.ShloMosaic.TcCoe Idealize.SL.Sem
open Cert.Mixer Cert.KernelIdeal.Walk

variable (m : (ℓ : Loc Cert.KernelIdeal.nD Cert.KernelIdeal.τ Cert.KernelIdeal.sig) → Buf (Elt Ideal) ℓ)
  (c : Dev Cert.KernelIdeal.nD) (V : Valuation Cert.ReferenceIdeal.τ Cert.ReferenceIdeal.sig (Elt Ideal))

/-- The reference's arguments are the kernel's. -/
structure Agree : Prop where
  h : V (Proc.devRef .tc Cert.ReferenceIdeal.main_arg0) = argH m c
  da : V (Proc.devRef .tc Cert.ReferenceIdeal.main_arg1) = argA m c
  dy : V (Proc.devRef .tc Cert.ReferenceIdeal.main_arg2) = argD m c
  z : V (Proc.devRef .tc Cert.ReferenceIdeal.main_arg3) = argZ m c
  w : V (Proc.devRef .tc Cert.ReferenceIdeal.main_arg4) = argW m c
  gain : V (Proc.devRef .tc Cert.ReferenceIdeal.main_arg5) = argG m c

variable {m c V} (e : Agree m c V)
include e

theorem arrays_eq : Cert.Ref.arrays V = arrs m c := by
  show Arrays.mk (V (Proc.devRef .tc Cert.ReferenceIdeal.main_arg3)) (V (Proc.devRef .tc Cert.ReferenceIdeal.main_arg2))
    (V (Proc.devRef .tc Cert.ReferenceIdeal.main_arg4)) (V (Proc.devRef .tc Cert.ReferenceIdeal.main_arg5)) = _
  rw [e.z, e.dy, e.w, e.gain]
  rfl

theorem w1_at (j : Fin 4) (i f : Fin 2048) : outW1 m c (ix3 j i f) = Cert.Ref.refW1 V (ix3 j i f) := by
  rw [Cert.Ref.refW1_at, e.h, e.da]
  rfl

theorem gain_at (b : Fin 1) (d : Fin 1024) : outGain m c (ix2 b d) = Cert.Ref.refGain V (ix2 b d) := by
  obtain ⟨g, l, rfl⟩ := col_surj d
  obtain rfl : b = 0 := Subsingleton.elim _ _
  exact (outGain_at m c 0 g l).trans ((congrArg (fun A : Arrays => A.dG g l) (arrays_eq e)).symm.trans
    (Cert.Ref.refGain_at V g l).symm)

variable (hf : ∀ g : Fin 8, ((arrs m c).grp g).Finite)
include hf

theorem ref_finite (g : Fin 8) : ((Cert.Ref.arrays V).grp g).Finite := by
  rw [arrays_eq e]
  exact hf g

theorem taps_at (k : Fin 3) (d : Fin 1024) : outTaps m c (ix2 k d) = Cert.Ref.refTaps V (ix2 k d) := by
  obtain ⟨g, l, rfl⟩ := col_surj d
  exact (outTaps_at m c k g l).trans ((congrArg (fun A : Arrays => A.dW k g l) (arrays_eq e)).symm.trans
    (Cert.Ref.refTaps_at V g (ref_finite e hf g) l k).symm)

theorem z_eq (s : Fin 8192) (d : Fin 6144) (hd : (d : ℕ) < 3072) :
    outZ m c (ix2 s d) = Cert.Ref.refZ V (ix2 s d) := by
  obtain ⟨g, l, hc⟩ := col_surj ⟨(d : ℕ) % 1024, by omega⟩
  have hc' : (col g l : ℕ) = (d : ℕ) % 1024 := congrArg Fin.val hc
  have hv : (col g l : ℕ) = g * 128 + l := rfl
  have e₁ : outZ m c (ix2 s d) = (dRange (arrs m c) ⟨(d : ℕ) / 1024, by omega⟩ g s l : EReal) := by
    refine (dif_pos hd).trans ?_
    have eg : (⟨(d : ℕ) % 1024 / 128, by omega⟩ : Fin 8) = g := Fin.ext (by show (d : ℕ) % 1024 / 128 = g; omega)
    have el : (⟨(d : ℕ) % 128, by omega⟩ : Fin 128) = l := Fin.ext (by show (d : ℕ) % 128 = l; omega)
    exact congrArg₂ (fun g l => dRange (arrs m c) ⟨(d : ℕ) / 1024, by omega⟩ g s l) eg el
  refine e₁.trans ?_
  rw [← arrays_eq e]
  obtain hk | hk | hk : (d : ℕ) / 1024 = 0 ∨ (d : ℕ) / 1024 = 1 ∨ (d : ℕ) / 1024 = 2 := by omega
  · have : (⟨(d : ℕ) / 1024, by omega⟩ : Fin 3) = 0 := Fin.ext hk
    rw [this]
    exact (Cert.Ref.refZ_B V g (ref_finite e hf g) s l d (by omega)).symm
  · have : (⟨(d : ℕ) / 1024, by omega⟩ : Fin 3) = 1 := Fin.ext hk
    rw [this]
    exact (Cert.Ref.refZ_C V g (ref_finite e hf g) s l d (by omega)).symm
  · have : (⟨(d : ℕ) / 1024, by omega⟩ : Fin 3) = 2 := Fin.ext hk
    rw [this]
    exact (Cert.Ref.refZ_H V g (ref_finite e hf g) s l d (by omega)).symm

end Cert.Compare

end
-- ==== Proof.Written.lean ====
/- The mask, read: it selects the first 3072 columns of the projections' gradient. -/
module

public import proofs.«01_k».proof.Proof.Gen.On_written
public import Idealize.ShloMosaic.Lib.Pipeline.ValueKit

@[expose] public section

set_option maxRecDepth 16384

noncomputable section

namespace Cert.Mask

open Idealize.ShloMosaic Idealize.ShloMosaic.TcCoe Idealize.SL.Sem
open Cert.On_written Cert.On_written.Gen

variable (h : FVec Ideal S8192x2048 .bf16) (da : FVec Ideal S8192x8192 .bf16) (dy : FVec Ideal S8192x2048 .bf16)
  (z : FVec Ideal S8192x6144 .f32) (w : FVec Ideal S1x1024x3 .f32) (gain : FVec Ideal S1x1024 .f32)

theorem column_lt (s : Fin 8192) (d : Fin 6144) (e : (fn (F := Ideal) h da dy z w gain).2.1 (ix2 s d) = 1#1) :
    (d : ℕ) < 3072 := by
  unfold fn at e
  pointwise at e
  by_contra hd
  have hs : (BitVec.ofNat 32 (d : ℕ)).slt 3072#32 = false := by
    rw [BitVec.slt, decide_eq_false_iff_not, BitVec.toInt_eq_toNat_of_lt (by rw [BitVec.toNat_ofNat]; omega),
      BitVec.toInt_eq_toNat_of_lt (by decide), BitVec.toNat_ofNat]
    have : (3072#32).toNat = 3072 := rfl
    omega
  have : IntOp.cmpi .slt (BitVec.ofNat 32 (d : ℕ)) 3072#32 = BitVec.ofBool ((BitVec.ofNat 32 (d : ℕ)).slt 3072#32) := rfl
  rw [this, hs] at e
  exact absurd e (by decide)

end Cert.Mask

end
-- ==== Proof.ReluGrad.lean ====
/- The gradient of the squared ReLU of the MLP (`ff2_dx`): the incoming gradient times the transposed weight, and in
   the same pass the factor `2 max(a, 0)` of the activation. The kernel's array after the run, and the equation with
   the derivative of the forward line. -/
module

public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Pipeline.ReadBack

@[expose] public section

set_option maxRecDepth 16384

noncomputable section

namespace Cert.ReluGrad

open Idealize.ShloMosaic Idealize.ShloMosaic.TcCoe Idealize.SL.Sem

/-- The literal two. -/
abbrev two : EReal := Scalar.ofBits (F := Ideal) .bf16 0x4000#16

theorem two_eq : Ideal.ofBits .f32 0x40000000#32 = two := by
  simp [two, Scalar.ofBits, Ideal.ofBits, Ideal.ieee, -EReal.coe_mul]
  norm_cast
  norm_num

/-- An element of the gradient. -/
def grad (X W : Fin 8192 → Fin 2048 → EReal) (a : EReal) (s f : Fin 8192) : EReal :=
  (∑ d : Fin 2048, X s d * W f d) * (two * max a 0)

section
open Cert.Reference2Ideal Cert.Reference2Ideal.Gen

/-! ## The derivative of the forward line -/

/-- The reference's result, from its three arguments. -/
def ref (X W : FVec Ideal S8192x2048 .bf16) (A : FVec Ideal S8192x8192 .bf16) : FVec Ideal S8192x8192 .bf16 :=
  truncf .bf16 (select (cmpf .ogt (extf .f32 A bitsLt_bf16_f32) (broadcastInDim S8192x8192 ![] bcast_S_S8192x8192 (constant S_ .f32 0x00000000#32))) (mulf (Host.dotGeneral dot_S8192x2048_S8192x2048_S8192x8192_1_1_0_0_n_n none (extf .f32 X bitsLt_bf16_f32) (extf .f32 W bitsLt_bf16_f32)) (mulf (broadcastInDim S8192x8192 ![] bcast_S_S8192x8192 (constant S_ .f32 0x40000000#32)) (maximumf (extf .f32 A bitsLt_bf16_f32) (broadcastInDim S8192x8192 ![] bcast_S_S8192x8192 (constant S_ .f32 0x00000000#32))))) (broadcastInDim S8192x8192 ![] bcast_S_S8192x8192 (constant S_ .f32 0x00000000#32))) bitsLt_bf16_f32

/-- Where the activation is not positive the kernel's factor is zero, as the derivative is. -/
theorem ref_at (X W : FVec Ideal S8192x2048 .bf16) (A : FVec Ideal S8192x8192 .bf16) (s f : Fin 8192) :
    ref X W A (ix2 s f) = grad (fun s d => X (ix2 s d)) (fun s d => W (ix2 s d)) (A (ix2 s f)) s f := by
  pointwise [ref]
  unfold grad
  split
  · rw [two_eq]
  · rw [max_eq_right (not_lt.mp ‹_›), mul_zero, mul_zero]

end

/-! ## The kernel -/

open Cert.Kernel2Ideal Cert.Kernel2Ideal.Gen

variable (m : (ℓ : Loc nD τ sig) → Buf (Elt Ideal) ℓ) (c : Dev nD) (t : Fin cfg0.N)

theorem points : t.val < 32 := lt_of_lt_of_eq t.isLt (show cfg0.N = 32 from N_0)

theorem at_0 : ∀ t : Fin cfg0.N, win0_0.index t = ![t.val / 8, 0] := (by decide +kernel : ∀ t : Fin grid0.N, _)
theorem at_1 : ∀ t : Fin cfg0.N, win0_1.index t = ![t.val % 8, 0] := (by decide +kernel : ∀ t : Fin grid0.N, _)
theorem at_2 : ∀ t : Fin cfg0.N, win0_2.index t = ![t.val / 8, t.val % 8] := (by decide +kernel : ∀ t : Fin grid0.N, _)
theorem at_3 : ∀ t : Fin cfg0.N, win0_3.index t = ![t.val / 8, t.val % 8] := (by decide +kernel : ∀ t : Fin grid0.N, _)

/-- The incoming gradient, the weight and the activation before the ReLU, as launched. -/
abbrev argX : Vec Ideal S8192x2048 .bf16 := m ((c : Thread nD τ).loc main_arg0)
abbrev argW : Vec Ideal S8192x2048 .bf16 := m ((c : Thread nD τ).loc main_arg1)
abbrev argA : Vec Ideal S8192x8192 .bf16 := m ((c : Thread nD τ).loc main_arg2)

theorem blk_0 (r d : Fin 2048) : iblk m c 0 t (ix2 r d) =
    (argX m c (ix2 ⟨t.val / 8 * 2048 + r, by have := points t; omega⟩ d) : EReal) := by
  rw [argX, ← V_main_arg0 m c]
  blk_point [iblk, V, at_0 t]

theorem blk_1 (f : Fin 1024) (d : Fin 2048) : iblk m c 1 t (ix2 f d) =
    (argW m c (ix2 ⟨t.val % 8 * 1024 + f, by omega⟩ d) : EReal) := by
  rw [argW, ← V_main_arg1 m c]
  blk_point [iblk, V, at_1 t]

theorem blk_2 (r : Fin 2048) (f : Fin 1024) : iblk m c 2 t (ix2 r f) =
    (argA m c (ix2 ⟨t.val / 8 * 2048 + r, by have := points t; omega⟩ ⟨t.val % 8 * 1024 + f, by omega⟩) : EReal) := by
  rw [argA, ← V_main_arg2 m c]
  blk_point [iblk, V, at_2 t]

/-- What a point computes of its three blocks. -/
theorem pay_at (x : Vec Ideal S2048x2048 .bf16) (w : Vec Ideal S1024x2048 .bf16) (a : Vec Ideal S2048x1024 .bf16)
    (r : Fin 2048) (f : Fin 1024) : k0_pay1 (F := Ideal) x w a (ix2 r f) =
      (∑ d : Fin 2048, (show EReal from x (ix2 r d)) * w (ix2 f d)) * (two * max (a (ix2 r f)) 0) := by
  pointwise [k0_pay1]

def out : Vec Ideal S8192x8192 .bf16 := fun i =>
  grad (fun s d => argX m c (ix2 s d)) (fun s d => argW m c (ix2 s d)) (argA m c (ix2 (i 0) (i 1))) (i 0) (i 1)

theorem block_at (r : Fin 2048) (f : Fin 1024) :
    out0_3 (iblk m c 0 t) (iblk m c 1 t) (iblk m c 2 t) (ix2 r f) =
      out m c (ix2 ⟨t.val / 8 * 2048 + r, by have := points t; omega⟩ ⟨t.val % 8 * 1024 + f, by omega⟩) := by
  unfold out0_3
  frame_out
  refine (pay_at _ _ _ r f).trans ?_
  rw [blk_2 m c t r f]
  exact congrArg (fun x : EReal => x * _) (Finset.sum_congr rfl fun d _ =>
    congrArg₂ (fun a b : EReal => a * b) (blk_0 m c t r d) (blk_1 m c t f d))

theorem point_3 (y : S2048x1024.Idx) (j : S8192x8192.Idx) (h0 : (j 0 : ℕ) = t.val / 8 * 2048 + y 0)
    (h1 : (j 1 : ℕ) = t.val % 8 * 1024 + y 1) :
    out0_3 (iblk m c 0 t) (iblk m c 1 t) (iblk m c 2 t) y = out m c j := by
  idx_vars y
  refine (block_at m c t y0 y1).trans ?_
  rw [eq_ix2 j]
  exact congrArg₂ (fun p q : Fin 8192 => out m c (ix2 p q)) (Fin.ext h0.symm) (Fin.ext h1.symm)

/-- The array after the run. -/
theorem final : (dats m 0 c).arrAt 3 cfg0.N = out m c := by
  refine (dats m 0 c).arrAt_eq_of_covers 3 _ (by decide +kernel) fun t hf y => ?_
  blk_simp
  rw [after0_3]
  have hi := at_3 t
  refine point_3 m c t y _ ?_ ?_
  all_goals (blk_simp [hi] <;> try omega)

/-! ## The equation -/

theorem equal : Cert.algebraic_Kernel2Ideal_Reference2Ideal := by
  intro m g m' g' _ hagree
  refine ⟨fun c => out m c, ?_, ?_⟩
  · exact (θ_run Cert.Kernel2Ideal.defs _ _).mono (fun r h c => ⟨(h c).1.trans (final m c), (h c).2⟩)
      (Cert.Kernel2Ideal.Value.run_blocks m g)
  · refine (θ_run Cert.Reference2Ideal.defs _ _).mono (fun r h c => ⟨(h c).1.trans ?_, (h c).2⟩)
      (Cert.Reference2Ideal.Value.run m' g')
    rw [(hagree c).1, (hagree c).2.1, (hagree c).2.2]
    funext i
    rw [eq_ix2 i]
    exact ref_at _ _ _ _ _

end Cert.ReluGrad

end
-- ==== Proof.HiddenGrad.lean ====
/- The gradient that reaches the MLP's input (`ff1_dx`): the gradient of the first weight's product times the transposed
   weight, which is stored as four blocks of columns. The grid adds one block of columns after the other in the scratch. -/
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Pipeline.ReadBack

@[expose] public section

set_option maxRecDepth 16384

noncomputable section

namespace Cert.HiddenGrad

open Idealize.ShloMosaic Idealize.ShloMosaic.TcCoe Idealize.SL.Sem

/-- What a block of columns contributes to an element. -/
def part (A : Fin 8192 → Fin 8192 → EReal) (W : Fin 4 → Fin 2048 → Fin 2048 → EReal) (s : Fin 8192) (d : Fin 2048) (n : ℕ) : EReal :=
  ∑ x : Fin 2048, A s ⟨n % 4 * 2048 + x, by omega⟩ * W ⟨n % 4, by omega⟩ d x

/-- An element of the gradient. -/
def grad (A : Fin 8192 → Fin 8192 → EReal) (W : Fin 4 → Fin 2048 → Fin 2048 → EReal) (s : Fin 8192) (d : Fin 2048) : EReal :=
  ∑ v ∈ Finset.range 4, part A W s d v

section
open Cert.Reference3Ideal Cert.Reference3Ideal.Gen

/-- The reference's result, from its two arguments. -/
def ref (A : FVec Ideal S8192x8192 .bf16) (W : FVec Ideal S4x2048x2048 .bf16) : FVec Ideal S8192x2048 .bf16 :=
  truncf .bf16 (Host.dotGeneral dot_S8192x8192_S2048x8192_S8192x2048_1_1_0_0_n_n none (extf .f32 A bitsLt_bf16_f32) (shapeCast _ (transpose S2048x4x2048 [1, 0, 2] (extf .f32 W bitsLt_bf16_f32) transposes_S4x2048x2048_S2048x4x2048_1_0_2) shapeCasts_S2048x4x2048_S2048x8192)) bitsLt_bf16_f32

theorem ref_at (A : FVec Ideal S8192x8192 .bf16) (W : FVec Ideal S4x2048x2048 .bf16) (s : Fin 8192) (d : Fin 2048) :
    ref A W (ix2 s d) = grad (fun s f => A (ix2 s f)) (fun k d f => W (ix3 k d f)) s d := by
  pointwise [ref]
  unfold grad
  rw [Finset.sum_range]
  refine (Fin.sum_univ_tiles 4 2048 rfl (fun f : Fin (4 * 2048) =>
    (A (ix2 s f) : EReal) * W (ix3 ⟨f / 2048, by omega⟩ d ⟨f % 2048, by omega⟩))).trans ?_
  refine Finset.sum_congr rfl fun v _ => Finset.sum_congr rfl fun x _ => ?_
  refine congrArg₂ (fun a b : EReal => a * b) (congrArg (fun f => A (ix2 s f)) (Fin.ext ?_))
    (congrArg₂ (fun k f => W (ix3 k d f)) (Fin.ext ?_) (Fin.ext ?_))
  · show (v : ℕ) * 2048 + x = v % 4 * 2048 + x
    omega
  · show ((v : ℕ) * 2048 + x) / 2048 = v % 4
    omega
  · show ((v : ℕ) * 2048 + x) % 2048 = x
    omega

end

/-! ## The kernel -/

open Cert.Kernel3Ideal Cert.Kernel3Ideal.Gen

variable (m : (ℓ : Loc nD τ sig) → Buf (Elt Ideal) ℓ) (c : Dev nD) (t : Fin cfg0.N)

theorem points : t.val < 32 := lt_of_lt_of_eq t.isLt (show cfg0.N = 32 from N_0)

theorem at_0 : ∀ t : Fin cfg0.N, win0_0.index t = ![t.val / 8, t.val % 4] := (by decide +kernel : ∀ t : Fin grid0.N, _)
theorem at_1 : ∀ t : Fin cfg0.N, win0_1.index t = ![t.val % 4, t.val / 4 % 2, 0] := (by decide +kernel : ∀ t : Fin grid0.N, _)
theorem at_2 : ∀ t : Fin cfg0.N, win0_2.index t = ![t.val / 8, t.val / 4 % 2] := (by decide +kernel : ∀ t : Fin grid0.N, _)
theorem flush_2 : ∀ t : Fin cfg0.N, (cfg0.win 2).flush t = true → t.val % 4 = 3 :=
  (by decide +kernel : ∀ t : Fin grid0.N, (cfg0.win 2).flush t = true → t.val % 4 = 3)

/-- The incoming gradient and the weight, as launched. -/
abbrev argA : Vec Ideal S8192x8192 .bf16 := m ((c : Thread nD τ).loc main_arg0)
abbrev argW : Vec Ideal S4x2048x2048 .bf16 := m ((c : Thread nD τ).loc main_arg1)

theorem blk_0 (r x : Fin 2048) : iblk m c 0 t (ix2 r x) =
    (argA m c (ix2 ⟨t.val / 8 * 2048 + r, by have := points t; omega⟩ ⟨t.val % 4 * 2048 + x, by omega⟩) : EReal) := by
  rw [argA, ← V_main_arg0 m c]
  blk_point [iblk, V, at_0 t]

theorem blk_1 (b : Fin 1) (d : Fin 1024) (x : Fin 2048) : iblk m c 1 t (ix3 b d x) =
    (argW m c (ix3 ⟨t.val % 4, by omega⟩ ⟨t.val / 4 % 2 * 1024 + d, by omega⟩ x) : EReal) := by
  rw [argW, ← V_main_arg1 m c]
  blk_point [iblk, V, at_1 t]

/-- The product of two blocks, at an element of the tile. -/
def dot (a : Vec Ideal S2048x2048 .bf16) (w : Vec Ideal S1x1024x2048 .bf16) (r : Fin 2048) (d : Fin 1024) : EReal :=
  ∑ x : Fin 2048, (show EReal from a (ix2 r x)) * (show EReal from w (ix3 (0 : Fin 1) d x))

variable (a : Vec Ideal S2048x2048 .bf16) (w : Vec Ideal S1x1024x2048 .bf16) (acc : Vec Ideal S2048x1024 .f32) (r : Fin 2048) (d : Fin 1024)

theorem first_at : k0_pay1 (F := Ideal) a w (ix2 r d) = dot a w r d := by
  unfold dot
  pointwise [k0_pay1]

theorem next_at : k0_pay2 (F := Ideal) acc a w (ix2 r d) = acc (ix2 r d) + dot a w r d := by
  unfold dot
  pointwise [k0_pay2]

theorem last_at : k0_pay3 (F := Ideal) acc a w (ix2 r d) = acc (ix2 r d) + dot a w r d := by
  unfold dot
  pointwise [k0_pay3]

/-- Where a point's tile lies. -/
structure Tile (t : Fin cfg0.N) (r : Fin 2048) (d : Fin 1024) (s : Fin 8192) (e : Fin 2048) : Prop where
  row : (s : ℕ) = t.val / 8 * 2048 + r
  col : (e : ℕ) = t.val / 4 % 2 * 1024 + d

/-- What a block of columns contributes to an element of the result. -/
abbrev contrib (s : Fin 8192) (e : Fin 2048) (n : ℕ) : EReal :=
  part (fun s f => argA m c (ix2 s f)) (fun k d f => argW m c (ix3 k d f)) s e n

variable {t r d} {s : Fin 8192} {e : Fin 2048}

theorem dot_point (h : Tile t r d s e) : dot (iblk m c 0 t) (iblk m c 1 t) r d = contrib m c s e t.val := by
  obtain rfl : s = ⟨t.val / 8 * 2048 + r, by have := points t; omega⟩ := Fin.ext h.row
  obtain rfl : e = ⟨t.val / 4 % 2 * 1024 + d, by omega⟩ := Fin.ext h.col
  exact Finset.sum_congr rfl fun x _ => congrArg₂ (fun a b : EReal => a * b) (blk_0 m c t r x) (blk_1 m c t 0 d x)

theorem scratch_first (h : Tile t r d s e) (h0 : t.val % 4 = 0) : (outsAt0 m c t.val t.isLt).2 (ix2 r d) = contrib m c s e t.val := by
  rw [outsAt0_A m c t h0 (by omega) (by omega)]
  unfold sout0_A_0
  frame_out
  exact (first_at _ _ r d).trans (dot_point m c h)

theorem scratch_next (h : Tile t r d s e) (h0 : ¬t.val % 4 = 0) (h1 : 1 ≤ t.val % 4 ∧ t.val % 4 ≤ 2) :
    (outsAt0 m c t.val t.isLt).2 (ix2 r d) =
      (outsAt0 m c (t.val - 1) (Nat.lt_of_le_of_lt (Nat.sub_le _ _) t.isLt)).2 (ix2 r d) + contrib m c s e t.val := by
  rw [outsAt0_B m c t h0 h1 (by omega)]
  unfold sout0_B_0
  frame_out
  simp only [read_unread_whole]
  exact (next_at _ _ _ r d).trans (congrArg (fun x : EReal => _ + x) (dot_point m c h))

theorem out_last (h : Tile t r d s e) (h0 : ¬t.val % 4 = 0) (h1 : ¬(1 ≤ t.val % 4 ∧ t.val % 4 ≤ 2)) (h2 : t.val % 4 = 3) :
    (outsAt0 m c t.val t.isLt).1 (ix2 r d) =
      (outsAt0 m c (t.val - 1) (Nat.lt_of_le_of_lt (Nat.sub_le _ _) t.isLt)).2 (ix2 r d) + contrib m c s e t.val := by
  rw [outsAt0_C m c t h0 h1 h2]
  unfold out0_C_2
  frame_out
  simp only [read_unread_whole]
  exact (last_at _ _ _ r d).trans (congrArg (fun x : EReal => _ + x) (dot_point m c h))

theorem contrib_mod {n k : ℕ} (h : n % 4 = k % 4) : contrib m c s e n = contrib m c s e k := by
  simp only [contrib, part, h]

theorem scratch_at (q : ℕ) : ∀ (k : ℕ) (_ : k < 3) (hn : q * 4 + k < cfg0.N) (_ : Tile ⟨q * 4 + k, hn⟩ r d s e),
    (outsAt0 m c (q * 4 + k) hn).2 (ix2 r d) = ∑ v ∈ Finset.range (k + 1), contrib m c s e v
  | 0, _, hn, h => by
    rw [Finset.sum_range_one]
    exact (scratch_first m c h (by show (q * 4 + 0) % 4 = 0; omega)).trans (contrib_mod m c (by show (q * 4 + 0) % 4 = 0 % 4; omega))
  | k + 1, hk, hn, h => by
    rw [Finset.sum_range_succ]
    refine (scratch_next m c h (by show ¬(q * 4 + (k + 1)) % 4 = 0; omega)
      (by show 1 ≤ (q * 4 + (k + 1)) % 4 ∧ (q * 4 + (k + 1)) % 4 ≤ 2; omega)).trans ?_
    refine congrArg₂ (fun a b : EReal => a + b) (scratch_at q k (by omega) (Nat.lt_of_succ_lt hn) ⟨?_, ?_⟩)
      (contrib_mod m c (by show (q * 4 + (k + 1)) % 4 = (k + 1) % 4; omega))
    · refine h.row.trans ?_
      show (q * 4 + (k + 1)) / 8 * 2048 + _ = (q * 4 + k) / 8 * 2048 + _
      omega
    · refine h.col.trans ?_
      show (q * 4 + (k + 1)) / 4 % 2 * 1024 + _ = (q * 4 + k) / 4 % 2 * 1024 + _
      omega

def out : Vec Ideal S8192x2048 .bf16 := fun i =>
  grad (fun s f => argA m c (ix2 s f)) (fun k d f => argW m c (ix3 k d f)) (i 0) (i 1)

/-- A finished tile. -/
theorem block_at (h : Tile t r d s e) (h2 : t.val % 4 = 3) : (outsAt0 m c t.val t.isLt).1 (ix2 r d) = out m c (ix2 s e) := by
  obtain ⟨n, hn⟩ := t
  have h2' : n % 4 = 3 := h2
  obtain ⟨q, rfl⟩ : ∃ q, n = q * 4 + 2 + 1 := ⟨n / 4, by omega⟩
  refine (out_last m c h (by omega) (by omega) h2).trans ?_
  refine Eq.trans ?_ (Finset.sum_range_succ _ 3).symm
  refine congrArg₂ (fun a b : EReal => a + b) (scratch_at m c q 2 (by omega) (Nat.lt_of_succ_lt hn) ⟨?_, ?_⟩)
    (contrib_mod m c h2)
  · refine h.row.trans ?_
    show (q * 4 + 2 + 1) / 8 * 2048 + _ = (q * 4 + 2) / 8 * 2048 + _
    omega
  · refine h.col.trans ?_
    show (q * 4 + 2 + 1) / 4 % 2 * 1024 + _ = (q * 4 + 2) / 4 % 2 * 1024 + _
    omega

theorem point_2 (t : Fin cfg0.N) (h2 : t.val % 4 = 3) (y : S2048x1024.Idx) (j : S8192x2048.Idx)
    (h0 : (j 0 : ℕ) = t.val / 8 * 2048 + y 0) (h1 : (j 1 : ℕ) = t.val / 4 % 2 * 1024 + y 1) :
    (outsAt0 m c t.val t.isLt).1 y = out m c j := by
  idx_vars y
  refine (block_at m c (s := j 0) (e := j 1) ⟨h0, h1⟩ h2).trans ?_
  exact congrArg (out m c) (eq_ix2 j).symm

/-- The array after the run. -/
theorem final : (dats m 0 c).arrAt 2 cfg0.N = out m c := by
  refine (dats m 0 c).arrAt_eq_of_covers 2 _ (by decide +kernel) fun t hf y => ?_
  blk_simp
  rw [after0_2]
  have hi := at_2 t
  refine point_2 m c t (flush_2 t hf) y _ ?_ ?_
  all_goals (blk_simp [hi] <;> try omega)

/-! ## The equation -/

theorem equal : Cert.algebraic_Kernel3Ideal_Reference3Ideal := by
  intro m g m' g' _ hagree
  refine ⟨fun c => out m c, ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨(h c).1.trans ?_, (h c).2⟩)
      (Cert.Reference3Ideal.Value.run m' g')
    rw [(hagree c).1, (hagree c).2]
    funext i
    rw [eq_ix2 i]
    exact ref_at _ _ _ _

end Cert.HiddenGrad

end
-- ==== Proof.MlpOut.lean ====
/- The end of the MLP (`ff2`): the squared activations times the second weight, and the residual added at the last step of
   the contraction. The grid adds the product of one range of the contracted axis after the other in the scratch. -/
module

public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Lib.Pipeline.ReadBack

@[expose] public section

set_option maxRecDepth 16384

noncomputable section

namespace Cert.MlpOut

open Idealize.ShloMosaic Idealize.ShloMosaic.TcCoe Idealize.SL.Sem

/-- What a range of the contracted axis contributes to an element. -/
def part (P : Fin 8192 → Fin 8192 → EReal) (W : Fin 8192 → Fin 2048 → EReal) (s : Fin 8192) (d : Fin 2048) (n : ℕ) : EReal :=
  ∑ x : Fin 2048, P s ⟨n % 4 * 2048 + x, by omega⟩ * W ⟨n % 4 * 2048 + x, by omega⟩ d

/-- An element of the product. -/
def prod (P : Fin 8192 → Fin 8192 → EReal) (W : Fin 8192 → Fin 2048 → EReal) (s : Fin 8192) (d : Fin 2048) : EReal :=
  ∑ v ∈ Finset.range 4, part P W s d v

section
open Cert.Reference4Ideal Cert.Reference4Ideal.Gen

/-- The reference's result, from its three arguments. -/
def ref (P : FVec Ideal S8192x8192 .bf16) (W : FVec Ideal S8192x2048 .bf16) (X : FVec Ideal S8192x2048 .f32) : FVec Ideal S8192x2048 .f32 :=
  addf X (Host.dotGeneral dot_S8192x8192_S8192x2048_S8192x2048_1_0_0_1_n_n none (extf .f32 P bitsLt_bf16_f32) (extf .f32 W bitsLt_bf16_f32))

theorem ref_at (P : FVec Ideal S8192x8192 .bf16) (W : FVec Ideal S8192x2048 .bf16) (X : FVec Ideal S8192x2048 .f32) (s : Fin 8192) (d : Fin 2048) :
    ref P W X (ix2 s d) = (X (ix2 s d) : EReal) + prod (fun s f => P (ix2 s f)) (fun f d => W (ix2 f d)) s d := by
  pointwise [ref]
  unfold prod
  rw [Finset.sum_range]
  refine congrArg (fun a : EReal => _ + a) ((Fin.sum_univ_tiles 4 2048 rfl (fun f : Fin (4 * 2048) =>
    (P (ix2 s f) : EReal) * W (ix2 f d))).trans ?_)
  refine Finset.sum_congr rfl fun v _ => Finset.sum_congr rfl fun x _ => ?_
  exact congrArg (fun f => (P (ix2 s f) : EReal) * W (ix2 f d)) (Fin.ext (by show (v : ℕ) * 2048 + x = v % 4 * 2048 + x; omega))

end

/-! ## The kernel -/

open Cert.Kernel4Ideal Cert.Kernel4Ideal.Gen

variable (m : (ℓ : Loc nD τ sig) → Buf (Elt Ideal) ℓ) (c : Dev nD) (t : Fin cfg0.N)

theorem points : t.val < 64 := lt_of_lt_of_eq t.isLt (show cfg0.N = 64 from N_0)

theorem at_0 : ∀ t : Fin cfg0.N, win0_0.index t = ![t.val / 8, t.val % 4] := (by decide +kernel : ∀ t : Fin grid0.N, _)
theorem at_1 : ∀ t : Fin cfg0.N, win0_1.index t = ![t.val % 4, t.val / 4 % 2] := (by decide +kernel : ∀ t : Fin grid0.N, _)
theorem at_2 : ∀ t : Fin cfg0.N, win0_2.index t = ![t.val / 8, t.val / 4 % 2] := (by decide +kernel : ∀ t : Fin grid0.N, _)
theorem at_3 : ∀ t : Fin cfg0.N, win0_3.index t = ![t.val / 8, t.val / 4 % 2] := (by decide +kernel : ∀ t : Fin grid0.N, _)
theorem flush_3 : ∀ t : Fin cfg0.N, (cfg0.win 3).flush t = true → t.val % 4 = 3 :=
  (by decide +kernel : ∀ t : Fin grid0.N, (cfg0.win 3).flush t = true → t.val % 4 = 3)

/-- The squared activations, the weight and the residual, as launched. -/
abbrev argP : Vec Ideal S8192x8192 .bf16 := m ((c : Thread nD τ).loc main_arg0)
abbrev argW : Vec Ideal S8192x2048 .bf16 := m ((c : Thread nD τ).loc main_arg1)
abbrev argX : Vec Ideal S8192x2048 .f32 := m ((c : Thread nD τ).loc main_arg2)

theorem blk_0 (r : Fin 1024) (x : Fin 2048) : iblk m c 0 t (ix2 r x) =
    (argP m c (ix2 ⟨t.val / 8 * 1024 + r, by have := points t; omega⟩ ⟨t.val % 4 * 2048 + x, by omega⟩) : EReal) := by
  rw [argP, ← V_main_arg0 m c]
  blk_point [iblk, V, at_0 t]

theorem blk_1 (x : Fin 2048) (d : Fin 1024) : iblk m c 1 t (ix2 x d) =
    (argW m c (ix2 ⟨t.val % 4 * 2048 + x, by omega⟩ ⟨t.val / 4 % 2 * 1024 + d, by omega⟩) : EReal) := by
  rw [argW, ← V_main_arg1 m c]
  blk_point [iblk, V, at_1 t]

theorem blk_2 (r d : Fin 1024) : iblk m c 2 t (ix2 r d) =
    (argX m c (ix2 ⟨t.val / 8 * 1024 + r, by have := points t; omega⟩ ⟨t.val / 4 % 2 * 1024 + d, by omega⟩) : EReal) := by
  rw [argX, ← V_main_arg2 m c]
  blk_point [iblk, V, at_2 t]

/-- The product of two blocks, at an element of the tile. -/
def dot (p : Vec Ideal S1024x2048 .bf16) (w : Vec Ideal S2048x1024 .bf16) (r d : Fin 1024) : EReal :=
  ∑ x : Fin 2048, (show EReal from p (ix2 r x)) * (show EReal from w (ix2 x d))

variable (p : Vec Ideal S1024x2048 .bf16) (w : Vec Ideal S2048x1024 .bf16) (acc xs : Vec Ideal S1024x1024 .f32) (r d : Fin 1024)

theorem first_at : k0_pay1 (F := Ideal) p w (ix2 r d) = dot p w r d := by
  unfold dot
  pointwise [k0_pay1]

theorem next_at : k0_pay2 (F := Ideal) acc p w (ix2 r d) = acc (ix2 r d) + dot p w r d := by
  unfold dot
  pointwise [k0_pay2]

theorem last_at : k0_pay3 (F := Ideal) acc p w xs (ix2 r d) = acc (ix2 r d) + dot p w r d + xs (ix2 r d) := by
  unfold dot
  pointwise [k0_pay3]

/-- Where a point's tile lies. -/
structure Tile (t : Fin cfg0.N) (r d : Fin 1024) (s : Fin 8192) (e : Fin 2048) : Prop where
  row : (s : ℕ) = t.val / 8 * 1024 + r
  col : (e : ℕ) = t.val / 4 % 2 * 1024 + d

/-- What a range of the contracted axis contributes to an element of the result. -/
abbrev contrib (s : Fin 8192) (e : Fin 2048) (n : ℕ) : EReal :=
  part (fun s f => argP m c (ix2 s f)) (fun f d => argW m c (ix2 f d)) s e n

variable {t r d} {s : Fin 8192} {e : Fin 2048}

theorem dot_point (h : Tile t r d s e) : dot (iblk m c 0 t) (iblk m c 1 t) r d = contrib m c s e t.val := by
  obtain rfl : s = ⟨t.val / 8 * 1024 + r, by have := points t; omega⟩ := Fin.ext h.row
  obtain rfl : e = ⟨t.val / 4 % 2 * 1024 + d, by omega⟩ := Fin.ext h.col
  exact Finset.sum_congr rfl fun x _ => congrArg₂ (fun a b : EReal => a * b) (blk_0 m c t r x) (blk_1 m c t x d)

theorem scratch_first (h : Tile t r d s e) (h0 : t.val % 4 = 0) : (outsAt0 m c t.val t.isLt).2 (ix2 r d) = contrib m c s e t.val := by
  rw [outsAt0_A m c t h0 (by omega) (by omega)]
  unfold sout0_A_0
  frame_out
  exact (first_at _ _ r d).trans (dot_point m c h)

theorem scratch_next (h : Tile t r d s e) (h0 : ¬t.val % 4 = 0) (h1 : 1 ≤ t.val % 4 ∧ t.val % 4 ≤ 2) :
    (outsAt0 m c t.val t.isLt).2 (ix2 r d) =
      (outsAt0 m c (t.val - 1) (Nat.lt_of_le_of_lt (Nat.sub_le _ _) t.isLt)).2 (ix2 r d) + contrib m c s e t.val := by
  rw [outsAt0_B m c t h0 h1 (by omega)]
  unfold sout0_B_0
  frame_out
  simp only [read_unread_whole]
  exact (next_at _ _ _ r d).trans (congrArg (fun x : EReal => _ + x) (dot_point m c h))

theorem residual_point (h : Tile t r d s e) : iblk m c 2 t (ix2 r d) = (argX m c (ix2 s e) : EReal) := by
  obtain rfl : s = ⟨t.val / 8 * 1024 + r, by have := points t; omega⟩ := Fin.ext h.row
  obtain rfl : e = ⟨t.val / 4 % 2 * 1024 + d, by omega⟩ := Fin.ext h.col
  exact blk_2 m c t r d

theorem out_last (h : Tile t r d s e) (h0 : ¬t.val % 4 = 0) (h1 : ¬(1 ≤ t.val % 4 ∧ t.val % 4 ≤ 2)) (h2 : t.val % 4 = 3) :
    (outsAt0 m c t.val t.isLt).1 (ix2 r d) =
      (outsAt0 m c (t.val - 1) (Nat.lt_of_le_of_lt (Nat.sub_le _ _) t.isLt)).2 (ix2 r d) + contrib m c s e t.val + argX m c (ix2 s e) := by
  rw [outsAt0_C m c t h0 h1 h2]
  unfold out0_C_3
  frame_out
  simp only [read_unread_whole]
  exact (last_at _ _ _ _ r d).trans (congrArg₂ (fun x y : EReal => _ + x + y) (dot_point m c h) (residual_point m c h))

theorem contrib_mod {n k : ℕ} (h : n % 4 = k % 4) : contrib m c s e n = contrib m c s e k := by
  simp only [contrib, part, h]

theorem scratch_at (q : ℕ) : ∀ (k : ℕ) (_ : k < 3) (hn : q * 4 + k < cfg0.N) (_ : Tile ⟨q * 4 + k, hn⟩ r d s e),
    (outsAt0 m c (q * 4 + k) hn).2 (ix2 r d) = ∑ v ∈ Finset.range (k + 1), contrib m c s e v
  | 0, _, hn, h => by
    rw [Finset.sum_range_one]
    exact (scratch_first m c h (by show (q * 4 + 0) % 4 = 0; omega)).trans (contrib_mod m c (by show (q * 4 + 0) % 4 = 0 % 4; omega))
  | k + 1, hk, hn, h => by
    rw [Finset.sum_range_succ]
    refine (scratch_next m c h (by show ¬(q * 4 + (k + 1)) % 4 = 0; omega)
      (by show 1 ≤ (q * 4 + (k + 1)) % 4 ∧ (q * 4 + (k + 1)) % 4 ≤ 2; omega)).trans ?_
    refine congrArg₂ (fun a b : EReal => a + b) (scratch_at q k (by omega) (Nat.lt_of_succ_lt hn) ⟨?_, ?_⟩)
      (contrib_mod m c (by show (q * 4 + (k + 1)) % 4 = (k + 1) % 4; omega))
    · refine h.row.trans ?_
      show (q * 4 + (k + 1)) / 8 * 1024 + _ = (q * 4 + k) / 8 * 1024 + _
      omega
    · refine h.col.trans ?_
      show (q * 4 + (k + 1)) / 4 % 2 * 1024 + _ = (q * 4 + k) / 4 % 2 * 1024 + _
      omega

def out : Vec Ideal S8192x2048 .f32 := fun i =>
  (argX m c (ix2 (i 0) (i 1)) : EReal) + prod (fun s f => argP m c (ix2 s f)) (fun f d => argW m c (ix2 f d)) (i 0) (i 1)

/-- A finished tile. -/
theorem block_at (h : Tile t r d s e) (h2 : t.val % 4 = 3) : (outsAt0 m c t.val t.isLt).1 (ix2 r d) = out m c (ix2 s e) := by
  obtain ⟨n, hn⟩ := t
  have h2' : n % 4 = 3 := h2
  obtain ⟨q, rfl⟩ : ∃ q, n = q * 4 + 2 + 1 := ⟨n / 4, by omega⟩
  refine (out_last m c h (by omega) (by omega) h2).trans ?_
  refine Eq.trans ?_ (add_comm _ _)
  refine congrArg (fun x : EReal => x + argX m c (ix2 s e)) (Eq.trans ?_ (Finset.sum_range_succ _ 3).symm)
  refine congrArg₂ (fun a b : EReal => a + b) (scratch_at m c q 2 (by omega) (Nat.lt_of_succ_lt hn) ⟨?_, ?_⟩)
    (contrib_mod m c h2)
  · refine h.row.trans ?_
    show (q * 4 + 2 + 1) / 8 * 1024 + _ = (q * 4 + 2) / 8 * 1024 + _
    omega
  · refine h.col.trans ?_
    show (q * 4 + 2 + 1) / 4 % 2 * 1024 + _ = (q * 4 + 2) / 4 % 2 * 1024 + _
    omega

theorem point_3 (t : Fin cfg0.N) (h2 : t.val % 4 = 3) (y : S1024x1024.Idx) (j : S8192x2048.Idx)
    (h0 : (j 0 : ℕ) = t.val / 8 * 1024 + y 0) (h1 : (j 1 : ℕ) = t.val / 4 % 2 * 1024 + y 1) :
    (outsAt0 m c t.val t.isLt).1 y = out m c j := by
  idx_vars y
  refine (block_at m c (s := j 0) (e := j 1) ⟨h0, h1⟩ h2).trans ?_
  exact congrArg (out m c) (eq_ix2 j).symm

/-- The array after the run. -/
theorem final : (dats m 0 c).arrAt 3 cfg0.N = out m c := by
  refine (dats m 0 c).arrAt_eq_of_covers 3 _ (by decide +kernel) fun t hf y => ?_
  blk_simp
  rw [after0_3]
  have hi := at_3 t
  refine point_3 m c t (flush_3 t hf) y _ ?_ ?_
  all_goals (blk_simp [hi] <;> try omega)

/-! ## The equation -/

theorem equal : Cert.algebraic_Kernel4Ideal_Reference4Ideal := by
  intro m g m' g' _ hagree
  refine ⟨fun c => out m c, ?_, ?_⟩
  · exact (θ_run Cert.Kernel4Ideal.defs _ _).mono (fun r h c => ⟨(h c).1.trans (final m c), (h c).2⟩)
      (Cert.Kernel4Ideal.Value.run_blocks m g)
  · refine (θ_run Cert.Reference4Ideal.defs _ _).mono (fun r h c => ⟨(h c).1.trans ?_, (h c).2⟩)
      (Cert.Reference4Ideal.Value.run m' g')
    rw [(hagree c).1, (hagree c).2.1, (hagree c).2.2]
    funext i
    rw [eq_ix2 i]
    exact ref_at _ _ _ _ _

end Cert.MlpOut

end
-- ==== Proof.OutProj.lean ====
/- The output projection (`out_proj`): the product with the weight, the residual added to it, and the root-mean-square
   norm of the sum times the gain. The kernel's two arrays after the run, and the equations with the reference. -/
module

public import proofs.«01_k».proof.Proof.Gen.Kernel5Ideal.Value
public import proofs.«01_k».proof.Proof.Gen.Reference5Ideal.Run
public import proofs.«01_k».proof.Defs
public import Idealize.ShloMosaic.Lib.Pipeline.ValueKit
public import Idealize.ShloMosaic.Lib.Pipeline.ReadBack

@[expose] public section

set_option maxRecDepth 16384

noncomputable section

namespace Cert.OutProj

open Idealize.ShloMosaic Idealize.ShloMosaic.TcCoe Idealize.SL.Sem

/-- An element of the residual stream. -/
def sum (Y : Fin 8192 → Fin 2048 → EReal) (W : Fin 2048 → Fin 2048 → EReal) (X : Fin 8192 → Fin 2048 → EReal) (s : Fin 8192) (d : Fin 2048) : EReal :=
  X s d + ∑ k : Fin 2048, Y s k * W k d

/-- An element of a normed row. -/
def norm (v g : Fin 2048 → EReal) (d : Fin 2048) : EReal :=
  v d * Ideal.rsqrt (Ideal.div (∑ e : Fin 2048, v e * v e) (Ideal.ofBits .f32 0x45000000#32) + Ideal.ofBits .f32 0x358637BD#32) * g d

section
open Cert.Reference5Ideal Cert.Reference5Ideal.Gen

/-! ## The reference -/

/-- The reference's residual stream. -/
def refSum (Y : FVec Ideal S8192x2048 .bf16) (W : FVec Ideal S2048x2048 .bf16) (X : FVec Ideal S8192x2048 .f32) : FVec Ideal S8192x2048 .f32 :=
  addf X (Host.dotGeneral dot_S8192x2048_S2048x2048_S8192x2048_1_0_0_1_n_n none (extf .f32 Y bitsLt_bf16_f32) (extf .f32 W bitsLt_bf16_f32))

/-- The norm of an array of rows. -/
def refNorm (U : FVec Ideal S8192x2048 .f32) (G : FVec Ideal S1x2048 .f32) : FVec Ideal S8192x2048 .bf16 :=
  truncf .bf16 (mulf (mulf U (broadcastInDim S8192x2048 ![0, 1] bcast_S8192x1_S8192x2048_0_1 (Host.rsqrt (addf (Host.divf (broadcastInDim S8192x1 ![0] bcast_S8192_S8192x1_0 (Host.reduceAdd (mulf U U) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ G shapeCasts_S1x2048_S2048)))) bitsLt_bf16_f32

theorem refSum_at (Y : FVec Ideal S8192x2048 .bf16) (W : FVec Ideal S2048x2048 .bf16) (X : FVec Ideal S8192x2048 .f32) (s : Fin 8192) (d : Fin 2048) :
    refSum Y W X (ix2 s d) = sum (fun s k => Y (ix2 s k)) (fun k d => W (ix2 k d)) (fun s d => X (ix2 s d)) s d := by
  pointwise [refSum]
  rfl

theorem refNorm_at (U : FVec Ideal S8192x2048 .f32) (G : FVec Ideal S1x2048 .f32) (s : Fin 8192) (d : Fin 2048) :
    refNorm U G (ix2 s d) = norm (fun d => U (ix2 s d)) (fun d => G (ix2 0 d)) d := by
  pointwise [refNorm]
  rfl

end

/-! ## The kernel -/

open Cert.Kernel5Ideal Cert.Kernel5Ideal.Gen

variable (m : (ℓ : Loc nD τ sig) → Buf (Elt Ideal) ℓ) (c : Dev nD) (t : Fin cfg0.N)

theorem points : t.val < 16 := lt_of_lt_of_eq t.isLt (show cfg0.N = 16 from N_0)

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![t.val, 0] := (by decide +kernel : ∀ t : Fin grid0.N, _)
theorem at_5 : ∀ t : Fin cfg0.N, win0_5.index t = ![t.val, 0] := (by decide +kernel : ∀ t : Fin grid0.N, _)

/-- The mixers' outputs, the weight, the residual and the gain, as launched. -/
abbrev argY : Vec Ideal S8192x2048 .bf16 := m ((c : Thread nD τ).loc main_arg0)
abbrev argW : Vec Ideal S2048x2048 .bf16 := m ((c : Thread nD τ).loc main_arg1)
abbrev argX : Vec Ideal S8192x2048 .f32 := m ((c : Thread nD τ).loc main_arg2)
abbrev argG : Vec Ideal S1x2048 .f32 := m ((c : Thread nD τ).loc main_arg3)

theorem blk_0 (r : Fin 512) (k : Fin 2048) : iblk m c 0 t (ix2 r k) =
    (argY m c (ix2 ⟨t.val * 512 + r, by have := points t; omega⟩ k) : EReal) := by
  rw [argY, ← V_main_arg0 m c]
  blk_point [iblk, V, at_0 t]

theorem blk_1 (k d : Fin 2048) : iblk m c 1 t (ix2 k d) = (argW m c (ix2 k d) : EReal) := by
  rw [argW, ← V_main_arg1 m c]
  blk_point [iblk, V, at_1 t]

theorem blk_2 (r : Fin 512) (d : Fin 2048) : iblk m c 2 t (ix2 r d) =
    (argX m c (ix2 ⟨t.val * 512 + r, by have := points t; omega⟩ d) : EReal) := by
  rw [argX, ← V_main_arg2 m c]
  blk_point [iblk, V, at_2 t]

theorem blk_3 (b : Fin 1) (d : Fin 2048) : iblk m c 3 t (ix2 b d) = (argG m c (ix2 0 d) : EReal) := by
  obtain rfl : b = 0 := Subsingleton.elim _ _
  rw [argG, ← V_main_arg3 m c]
  blk_point [iblk, V, at_3 t]

variable (y : Vec Ideal S512x2048 .bf16) (w : Vec Ideal S2048x2048 .bf16) (x : Vec Ideal S512x2048 .f32) (g : Vec Ideal S1x2048 .f32)
  (r : Fin 512) (d : Fin 2048)

/-- What a point computes of its blocks. -/
theorem sum_pay : k0_pay1 (F := Ideal) y w x (ix2 r d) =
    (∑ k : Fin 2048, (show EReal from y (ix2 r k)) * (show EReal from w (ix2 k d))) + x (ix2 r d) := by
  pointwise [k0_pay1]

theorem norm_pay : k0_pay2 (F := Ideal) y w x g (ix2 r d) =
    norm (fun d => k0_pay1 (F := Ideal) y w x (ix2 r d)) (fun d => g (ix2 0 d)) d := by
  pointwise [k0_pay2]
  rfl

/-- The residual stream of the launched arguments. -/
abbrev stream (s : Fin 8192) (d : Fin 2048) : EReal :=
  sum (fun s k => argY m c (ix2 s k)) (fun k d => argW m c (ix2 k d)) (fun s d => argX m c (ix2 s d)) s d

def outSum : Vec Ideal S8192x2048 .f32 := fun i => stream m c (i 0) (i 1)

def outNorm : Vec Ideal S8192x2048 .bf16 := fun i => norm (stream m c (i 0)) (fun d => argG m c (ix2 0 d)) (i 1)

variable {r} {s : Fin 8192} (h : (s : ℕ) = t.val * 512 + r)
include h

theorem stream_at (d : Fin 2048) : k0_pay1 (F := Ideal) (iblk m c 0 t) (iblk m c 1 t) (iblk m c 2 t) (ix2 r d) = stream m c s d := by
  have hp : t.val * 512 + r < 8192 := by have := points t; omega
  obtain rfl : s = ⟨t.val * 512 + r, hp⟩ := Fin.ext h
  refine (sum_pay _ _ _ r d).trans ((add_comm _ _).trans ?_)
  exact congrArg₂ (fun a b : EReal => a + b) (blk_2 m c t r d) (Finset.sum_congr rfl fun k _ =>
    congrArg₂ (fun a b : EReal => a * b) (blk_0 m c t r k) (blk_1 m c t k d))

theorem sum_at : out0_4 (iblk m c 0 t) (iblk m c 1 t) (iblk m c 2 t) (iblk m c 3 t) (ix2 r d) = outSum m c (ix2 s d) := by
  unfold out0_4
  frame_out
  exact stream_at m c t h d

theorem norm_at : out0_5 (iblk m c 0 t) (iblk m c 1 t) (iblk m c 2 t) (iblk m c 3 t) (ix2 r d) = outNorm m c (ix2 s d) := by
  unfold out0_5
  frame_out
  refine (norm_pay _ _ _ _ r d).trans ?_
  exact congrArg₂ (fun v g => norm v g d) (funext fun d => stream_at m c t h d) (funext fun d => blk_3 m c t 0 d)

omit h

theorem point_4 (y : S512x2048.Idx) (j : S8192x2048.Idx) (h0 : (j 0 : ℕ) = t.val * 512 + y 0) (h1 : (j 1 : ℕ) = y 1) :
    out0_4 (iblk m c 0 t) (iblk m c 1 t) (iblk m c 2 t) (iblk m c 3 t) y = outSum m c j := by
  idx_vars y
  obtain rfl : j 1 = y1 := Fin.ext h1
  exact (sum_at m c t (j 1) h0).trans (congrArg (outSum m c) (eq_ix2 j).symm)

theorem point_5 (y : S512x2048.Idx) (j : S8192x2048.Idx) (h0 : (j 0 : ℕ) = t.val * 512 + y 0) (h1 : (j 1 : ℕ) = y 1) :
    out0_5 (iblk m c 0 t) (iblk m c 1 t) (iblk m c 2 t) (iblk m c 3 t) y = outNorm m c j := by
  idx_vars y
  obtain rfl : j 1 = y1 := Fin.ext h1
  exact (norm_at m c t (j 1) h0).trans (congrArg (outNorm m c) (eq_ix2 j).symm)

/-- The arrays after the run. -/
theorem final_4 : (dats m 0 c).arrAt 4 cfg0.N = outSum m c := by
  refine (dats m 0 c).arrAt_eq_of_covers 4 _ (by decide +kernel) fun t hf y => ?_
  blk_simp
  rw [after0_4]
  have hi := at_4 t
  refine point_4 m c t y _ ?_ ?_
  all_goals (blk_simp [hi] <;> try omega)

theorem final_5 : (dats m 0 c).arrAt 5 cfg0.N = outNorm m c := by
  refine (dats m 0 c).arrAt_eq_of_covers 5 _ (by decide +kernel) fun t hf y => ?_
  blk_simp
  rw [after0_5]
  have hi := at_5 t
  refine point_5 m c t y _ ?_ ?_
  all_goals (blk_simp [hi] <;> try omega)

/-! ## The equations -/

theorem refSum_eq : refSum (argY m c) (argW m c) (argX m c) = outSum m c := by
  funext i
  rw [eq_ix2 i]
  exact refSum_at _ _ _ _ _

theorem equal : Cert.algebraic_Kernel5Ideal_Reference5Ideal := by
  intro m g m' g' _ hagree
  refine ⟨fun c => outSum m c, fun c => outNorm m c, ?_, ?_⟩
  · exact (θ_run Cert.Kernel5Ideal.defs _ _).mono
      (fun r h c => ⟨(h c).1.trans (final_4 m c), (h c).2.1.trans (final_5 m c), (h c).2.2⟩)
      (Cert.Kernel5Ideal.Value.run_blocks m g)
  · refine (θ_run Cert.Reference5Ideal.defs _ _).mono (fun r h c => ⟨(h c).1.trans ?_, (h c).2.1.trans ?_, (h c).2.2⟩)
      (Cert.Reference5Ideal.Value.run m' g')
    · rw [(hagree c).1, (hagree c).2.1, (hagree c).2.2.1]
      exact refSum_eq m c
    · rw [(hagree c).1, (hagree c).2.1, (hagree c).2.2.1, (hagree c).2.2.2]
      show refNorm (refSum (argY m c) (argW m c) (argX m c)) (argG m c) = _
      rw [refSum_eq m c]
      funext i
      rw [eq_ix2 i]
      exact refNorm_at _ _ _ _

end Cert.OutProj

end
-- ==== Proof.NormBack.lean ====
/- The backward pass of the root-mean-square norm before the MLP, at one element: what the row's entry of the gradient
   is, and that the reference, which differentiates the reciprocal root, computes it on finite rows. -/
module

public import proofs.«01_k».proof.Proof.Gen.Reference6Ideal.Run
public import proofs.«01_k».proof.Proof.NormGrad
public import Idealize.ShloMosaic.Lib.Pipeline.ValueKit

@[expose] public section

set_option maxRecDepth 16384

noncomputable section

namespace Cert.NormBack

open Idealize.ShloMosaic Idealize.ShloMosaic.TcCoe Idealize.SL.Sem
open Cert.Mixer (eps half_eq norm_row IsReal)

/-- The length of a row, 2048. -/
abbrev len : EReal := Ideal.ofBits .f32 0x45000000#32

theorem len_eq : len = ((2048 : ℝ) : EReal) := by
  simp [len, Ideal.ofBits, Ideal.ieee, -EReal.coe_mul]
  norm_cast
  norm_num

section
variable (x n g : Fin 2048 → EReal)

/-- The mean square of a row `x`, and its reciprocal root. -/
def sq : EReal := Ideal.div (∑ e : Fin 2048, x e * x e) len + eps
def inv : EReal := Ideal.rsqrt (sq x)

/-- An element of the row's gradient, from the gradient `n` of the normed row and the gain `g`. -/
def dRow (d : Fin 2048) : EReal :=
  inv x * (n d * g d - x d * inv x * Ideal.div (∑ e : Fin 2048, n e * g e * (x e * inv x)) len)

/-- What the row contributes to the gain's gradient. -/
def gTerm (d : Fin 2048) : EReal := n d * (x d * inv x)

/-- The factor of the row in the gradient that reaches it through the reciprocal root. -/
def half : EReal :=
  Ideal.div ((∑ e : Fin 2048, x e * (n e * g e)) * (Ideal.ofBits .f32 0xBF000000#32 * Ideal.div (inv x) (sq x))) len

theorem dRow_eq (hx : ∀ e, IsReal (x e)) (hn : ∀ e, IsReal (n e)) (hg : ∀ e, IsReal (g e)) (d : Fin 2048) :
    n d * g d * inv x + x d * half x n g + half x n g * x d = dRow x n g d := by
  choose y hy using hx
  choose v hv using fun e => (hn e).mul (hg e)
  have := norm_row y v d (by norm_num) len_eq (V := sq x) (R := inv x) (q := half x n g)
    (by simp only [sq, hy]) rfl (by simp only [half, hy, hv])
  simp only [dRow, hv, hy]
  exact this
end

open Cert.Reference6Ideal Cert.Reference6Ideal.Gen

/-! ## The reference -/

variable (A : FVec Ideal S8192x8192 .bf16) (B D : FVec Ideal S8192x2048 .bf16) (X : FVec Ideal S8192x2048 .f32)
  (G : FVec Ideal S1x2048 .f32)

/-- The product's gradient. -/
def refProd : FVec Ideal S8192x2048 .bf16 :=
  truncf .bf16 (Host.dotGeneral dot_S8192x8192_S8192x2048_S8192x2048_0_0_1_1_n_n none (extf .f32 A bitsLt_bf16_f32) (extf .f32 B bitsLt_bf16_f32)) bitsLt_bf16_f32

/-- The rows' mean squares. -/
def refSq : FVec Ideal S8192x1 .f32 :=
  addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

/-- The gradient of the normed rows, times the gain. -/
def refDn : FVec Ideal S8192x2048 .f32 :=
  mulf (extf .f32 D bitsLt_bf16_f32) (broadcastInDim S8192x2048 ![0, 1] bcast_S1x2048_S8192x2048_0_1 (broadcastInDim S1x2048 ![1] bcast_S2048_S1x2048_1 (shapeCast _ G shapeCasts_S1x2048_S2048)))

/-- The rows' factors that reach them through the reciprocal root. -/
def refHalf : FVec Ideal S8192 .f32 :=
  Host.reduceAdd (Host.divf (mulf (shapeCast _ (Host.reduceAdd (mulf X (refDn D G)) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (refSq X)) (refSq X)))) (broadcastInDim S8192x1 ![] bcast_S_S8192x1 (constant S_ .f32 0x45000000#32))) (constant S_ .f32 0x00000000#32) reducesTo_S8192x1_S8192_d1 h_S_

/-- The gradient of the residual stream. -/
def refDx : FVec Ideal S8192x2048 .f32 :=
  addf (extf .f32 B bitsLt_bf16_f32) (addf (addf (mulf (refDn D G) (broadcastInDim S8192x2048 ![0, 1] bcast_S8192x1_S8192x2048_0_1 (Host.rsqrt (refSq X)))) (mulf X (broadcastInDim S8192x2048 ![0] bcast_S8192_S8192x2048_0 (refHalf D X G)))) (mulf (broadcastInDim S8192x2048 ![0] bcast_S8192_S8192x2048_0 (refHalf D X G)) X))

/-- The gain's gradient. -/
def refGain : FVec Ideal S1x2048 .f32 :=
  broadcastInDim S1x2048 ![1] bcast_S2048_S1x2048_1 (Host.reduceAdd (shapeCast _ (Host.reduceAdd (mulf (mulf X (broadcastInDim S8192x2048 ![0, 1] bcast_S8192x1_S8192x2048_0_1 (Host.rsqrt (refSq X)))) (extf .f32 D bitsLt_bf16_f32)) (constant S_ .f32 0x00000000#32) reducesTo_S8192x2048_S2048_d0 h_S_) shapeCasts_S2048_S1x2048) (constant S_ .f32 0x00000000#32) reducesTo_S1x2048_S2048_d0 h_S_)

/-- A row of an array. -/
abbrev row {e : EltTy} (Y : Vec Ideal S8192x2048 e) (s : Fin 8192) (d : Fin 2048) : Elt Ideal e := Y (ix2 s d)

theorem refProd_at (f : Fin 8192) (d : Fin 2048) :
    refProd A B (ix2 f d) = ∑ s : Fin 8192, (A (ix2 s f) : EReal) * B (ix2 s d) := by
  pointwise [refProd]

theorem refSq_at (s : Fin 8192) : refSq X (ix2 s 0) = sq (row (e := .f32) X s) := by
  pointwise [refSq]
  rfl

theorem refDn_at (s : Fin 8192) (d : Fin 2048) : refDn D G (ix2 s d) = (D (ix2 s d) : EReal) * G (ix2 0 d) := by
  pointwise [refDn]

theorem refHalf_at (s : Fin 8192) :
    refHalf D X G (ix1 s) = half (row (e := .f32) X s) (row (e := .bf16) D s) (fun d => G (ix2 0 d)) := by
  have h₁ := refSq_at X s
  have h₂ := refDn_at D G s
  pointwise [refHalf, h₂]
  rw [Fin.sum_univ_one, h₁]
  rfl

theorem refDx_at (hX : ∀ s d, IsReal (X (ix2 s d))) (hD : ∀ s d, IsReal (D (ix2 s d))) (hG : ∀ d, IsReal (G (ix2 0 d)))
    (s : Fin 8192) (d : Fin 2048) : refDx B D X G (ix2 s d) =
      (B (ix2 s d) : EReal) + dRow (row (e := .f32) X s) (row (e := .bf16) D s) (fun d => G (ix2 0 d)) d := by
  have h₁ := refSq_at X s
  have h₂ := refDn_at D G s
  have h₃ := refHalf_at D X G s
  pointwise [refDx, h₁, h₂, h₃]
  exact congrArg (fun y : EReal => (B (ix2 s d) : EReal) + y)
    (dRow_eq (row (e := .f32) X s) (row (e := .bf16) D s) (fun d => G (ix2 0 d)) (hX s) (hD s) hG d)

theorem refGain_at (b : Fin 1) (d : Fin 2048) : refGain D X (ix2 b d) =
    ∑ s : Fin 8192, gTerm (row (e := .f32) X s) (row (e := .bf16) D s) d := by
  have h₁ := fun s => refSq_at X s
  pointwise [refGain, h₁]
  rw [Fin.sum_univ_one]
  exact Finset.sum_congr rfl fun s _ => mul_comm (X (ix2 s d) * inv (row (e := .f32) X s)) (D (ix2 s d) : EReal)

end Cert.NormBack

end
-- ==== Proof.NormSlab.lean ====
/- What a grid point of `ff2_dw` leaves: the norm's backward pass over eight slabs of sixteen rows, the eight partial rows
   of the gain's gradient, and the product's accumulator. -/
module

public import proofs.«01_k».proof.Proof.Gen.Kernel6Ideal.Frame
public import proofs.«01_k».proof.Proof.NormBack
public import Idealize.ShloMosaic.Lib.Pipeline.ValueKit
public import Idealize.ShloMosaic.Lib.Pipeline.ReadBack

@[expose] public section

set_option maxRecDepth 16384

noncomputable section

namespace Cert.NormTile

open Cert.Kernel6Ideal Cert.Kernel6Ideal.Gen Cert.NormBack
open Idealize.ShloMosaic Idealize.ShloMosaic.TcCoe Idealize.SL.Sem

/-! ## One slab of sixteen rows -/

section
variable (g : Vec Ideal S1x2048 .f32) (x : Vec Ideal S16x2048 .f32) (n res : Vec Ideal S16x2048 .bf16) (acc : Vec Ideal S8x2048 .f32)

theorem dx_pay (r : Fin 16) (d : Fin 2048) : k0_pay7 (F := Ideal) g x n res (ix2 r d) =
    dRow (fun d => x (ix2 r d)) (fun d => n (ix2 r d)) (fun d => g (ix2 0 d)) d + (res (ix2 r d) : EReal) := by
  pointwise [k0_pay7, k0_pay5, k0_pay4, k0_pay3]
  rfl

theorem acc_pay (j : Fin 8) (d : Fin 2048) : k0_pay6 (F := Ideal) acc x n (ix2 j d) = (acc (ix2 j d) : EReal) +
    ∑ u : Fin 2, gTerm (fun d => x (ix2 ⟨u * 8 + j, by omega⟩ d)) (fun d => n (ix2 ⟨u * 8 + j, by omega⟩ d)) d := by
  pointwise [k0_pay6, k0_pay5, k0_pay4, k0_pay3]
  rfl
end

/-- The rows of a slab. -/
def slab {e : EltTy} (X : Vec Ideal S128x2048 e) (k : Fin 8) : Vec Ideal S16x2048 e :=
  View.ld X (Rect.unit (s := S128x2048) ![k.val * 16, 0] ![16, 2048] (by
    intro a
    match a with
    | 0 => show k.val * 16 + 16 ≤ 128; omega
    | 1 => exact le_refl 2048))

theorem slab_at {e : EltTy} (X : Vec Ideal S128x2048 e) (k : Fin 8) (r : Fin 16) (d : Fin 2048) :
    slab X k (ix2 r d) = X (ix2 ⟨k * 16 + r, by omega⟩ d) := by
  refine View.ld_unit_apply_of X _ _ _ (ix2 r d) _ ?_
  intro a
  match a with
  | 0 => rfl
  | 1 => exact (Nat.zero_add _).symm

section
variable (g : Vec Ideal S1x2048 .f32) (x : Vec Ideal S128x2048 .f32) (n res : Vec Ideal S128x2048 .bf16) (acc : Vec Ideal S8x2048 .f32)

/-- The gradient of a slab's rows. -/
def dx (k : Fin 8) : Vec Ideal S16x2048 .f32 := k0_pay7 (F := Ideal) g (slab x k) (slab n k) (slab res k)

/-- The partial rows after the eight slabs. -/
def sums : Vec Ideal S8x2048 .f32 :=
  let s (k : Fin 8) (a : Vec Ideal S8x2048 .f32) := k0_pay6 (F := Ideal) a (slab x k) (slab n k)
  s 7 (s 6 (s 5 (s 4 (s 3 (s 2 (s 1 (s 0 acc)))))))

theorem dx_at (j : Fin 128) (d : Fin 2048) : dx g x n res ⟨j / 16, by omega⟩ (ix2 ⟨j % 16, by omega⟩ d) =
    dRow (fun d => x (ix2 j d)) (fun d => n (ix2 j d)) (fun d => g (ix2 0 d)) d + (res (ix2 j d) : EReal) := by
  have hj : (⟨(j : ℕ) / 16 * 16 + j % 16, by omega⟩ : Fin 128) = j := Fin.ext (by show (j : ℕ) / 16 * 16 + j % 16 = j; omega)
  unfold dx
  rw [dx_pay]
  simp only [slab_at, hj]

theorem sums_at (j : Fin 8) (d : Fin 2048) : sums x n acc (ix2 j d) = (acc (ix2 j d) : EReal) +
    ∑ u : Fin 16, gTerm (fun d => x (ix2 ⟨u * 8 + j, by omega⟩ d)) (fun d => n (ix2 ⟨u * 8 + j, by omega⟩ d)) d := by
  have e := Fin.sum_univ_tiles 8 2 rfl (fun u : Fin (8 * 2) =>
    gTerm (fun d => x (ix2 ⟨u * 8 + j, by omega⟩ d)) (fun d => n (ix2 ⟨u * 8 + j, by omega⟩ d)) d)
  have s : ∀ (k : Fin 8) (a : Vec Ideal S8x2048 .f32), k0_pay6 (F := Ideal) a (slab x k) (slab n k) (ix2 j d) = (a (ix2 j d) : EReal) +
      ∑ u : Fin 2, gTerm (fun d => x (ix2 ⟨(k * 2 + u) * 8 + j, by omega⟩ d)) (fun d => n (ix2 ⟨(k * 2 + u) * 8 + j, by omega⟩ d)) d := by
    intro k a
    rw [acc_pay]
    refine congrArg (fun y : EReal => _ + y) (Finset.sum_congr rfl fun u _ => ?_)
    have h : (⟨(k : ℕ) * 16 + (u * 8 + j), by omega⟩ : Fin 128) = ⟨(k * 2 + u) * 8 + j, by omega⟩ :=
      Fin.ext (by show (k : ℕ) * 16 + (u * 8 + j) = (k * 2 + u) * 8 + j; omega)
    simp only [slab_at, h]
  refine Eq.trans ?_ (congrArg (fun y : EReal => _ + y) e.symm)
  rw [Fin.sum_univ_eight]
  unfold sums
  dsimp only
  rw [s, s, s, s, s, s, s, s]
  simp only [add_assoc]
end

/-- A row of the 128 named by its slab, read where a store of the slab put it. -/
theorem pick (f : Fin 8 → Vec Ideal S16x2048 .f32) (k : Fin 8) (y : Shape.Idx S16x2048) (j : Fin 128) (d : Fin 2048)
    (h0 : (j : ℕ) = k * 16 + (y 0 : ℕ)) (h1 : (d : ℕ) = y 1) : f ⟨j / 16, by omega⟩ (ix2 ⟨j % 16, by omega⟩ d) = f k y := by
  have hy : (y 0 : ℕ) < 16 := (y 0).isLt
  have e1 : (⟨j / 16, by omega⟩ : Fin 8) = k := Fin.ext (by show (j : ℕ) / 16 = k; omega)
  have e2 : (ix2 ⟨j % 16, by omega⟩ d : Shape.Idx S16x2048) = y := by
    funext a
    match a with
    | 0 => exact Fin.ext (by show (j : ℕ) % 16 = (y 0 : ℕ); omega)
    | 1 => exact Fin.ext h1
  rw [e1, e2]

end Cert.NormTile

end
-- ==== Proof.NormPoint.lean ====
/- What a grid point of `ff2_dw` leaves: the slabs' gradients, the eight partial rows of the gain's gradient, and the
   product's accumulator. -/
module

public import proofs.«01_k».proof.Proof.Gen.Kernel6Ideal.Frame
public import proofs.«01_k».proof.Proof.NormSlab
public import Idealize.ShloMosaic.Lib.Pipeline.ValueKit
public import Idealize.ShloMosaic.Lib.Pipeline.ReadBack

@[expose] public section

set_option maxRecDepth 16384

noncomputable section

namespace Cert.NormTile

open Cert.Kernel6Ideal Cert.Kernel6Ideal.Gen Cert.NormBack
open Idealize.ShloMosaic Idealize.ShloMosaic.TcCoe Idealize.SL.Sem

/-! ## The stored values, by name -/

section
variable (a : FVec Ideal S8x2048 .f32) (x y : Vec Ideal S16x2048 .f32) (n o : Vec Ideal S16x2048 .bf16)

/-- The small constant under the root. -/
abbrev small : Ideal .f32 := FloatOps.ofBits FTy.f32 897988541#32

theorem step_11 : k0_pay11 (F := Ideal) a x n = k0_pay6 a x n := rfl
theorem step_20 : k0_pay20 (F := Ideal) a x (k0_pay13 n) (k0_pay14 x) y o = k0_pay6 (k0_pay6 a x n) y o := rfl
theorem step_27 : k0_pay27 (F := Ideal) a x n = k0_pay6 a x n := rfl
theorem step_33 : k0_pay33 (F := Ideal) a x n = k0_pay6 a x n := rfl
theorem step_38 : k0_pay38 (F := Ideal) a x n = k0_pay6 a x n := rfl
theorem step_45 : k0_pay45 (F := Ideal) a x (k0_pay40 n) (k0_pay41 x) = k0_pay6 a x n :=
  shapeCast_self (k0_pay43 (F := Ideal) a x (k0_pay40 n) (k0_pay41 x)) shapeCasts_S8x2048_S8x2048

theorem step_51 : k0_pay51 (F := Ideal) a x n = k0_pay6 a x n := rfl
theorem step_56 : k0_pay56 (F := Ideal) a x n = k0_pay6 a x n := rfl
theorem step_66 : k0_pay66 (F := Ideal) a x (k0_pay58 n) (k0_pay59 x) small y o = k0_pay6 (k0_pay6 a x n) y o := rfl
theorem step_72 : k0_pay72 (F := Ideal) a x n = k0_pay6 a x n := rfl
theorem step_78 : k0_pay78 (F := Ideal) a x n = k0_pay6 a x n := rfl
theorem step_83 : k0_pay83 (F := Ideal) a x n = k0_pay6 a x n := rfl
theorem step_91 : k0_pay91 (F := Ideal) a x (k0_pay85 n) (k0_pay86 x) small = k0_pay6 a x n :=
  shapeCast_self (k0_pay89 (F := Ideal) a x (k0_pay85 n) (k0_pay86 x) small) shapeCasts_S8x2048_S8x2048

theorem step_97 : k0_pay97 (F := Ideal) a x n = k0_pay6 a x n := rfl
theorem step_102 : k0_pay102 (F := Ideal) a x n = k0_pay6 a x n := rfl
theorem step_112 : k0_pay112 (F := Ideal) a x (k0_pay104 n) (k0_pay105 x) small y o = k0_pay6 (k0_pay6 a x n) y o := rfl
theorem step_118 : k0_pay118 (F := Ideal) a x n = k0_pay6 a x n := rfl
theorem step_124 : k0_pay124 (F := Ideal) a x n = k0_pay6 a x n := rfl
theorem step_129 : k0_pay129 (F := Ideal) a x n = k0_pay6 a x n := rfl
theorem step_137 : k0_pay137 (F := Ideal) a x (k0_pay131 n) (k0_pay132 x) small = k0_pay6 a x n :=
  shapeCast_self (k0_pay135 (F := Ideal) a x (k0_pay131 n) (k0_pay132 x) small) shapeCasts_S8x2048_S8x2048

/-- The eight partial rows, summed. -/
def col : FVec Ideal S1x2048 .f32 :=
  shapeCast S1x2048 (multiReduction .add [0] S2048 a 0x00000000#32 reduces_S8x2048_S2048 (.inl rfl) rfl) shapeCasts_S2048_S1x2048

theorem col_at (b : Fin 1) (d : Fin 2048) : col a (ix2 b d) = ∑ j : Fin 8, (a (ix2 j d) : EReal) := by
  pointwise [col]

theorem step_138 : k0_pay138 (F := Ideal) a x (k0_pay131 n) (k0_pay132 x) small = col (k0_pay6 a x n) := rfl
end

/-- The product of two blocks, at an element of the tile. -/
def dot (p : Vec Ideal S1024x1024 .bf16) (b : Vec Ideal S1024x2048 .bf16) (r : Fin 1024) (d : Fin 2048) : EReal :=
  ∑ x : Fin 1024, (show EReal from p (ix2 x r)) * (show EReal from b (ix2 x d))

section
variable (p : Vec Ideal S1024x1024 .bf16) (b : Vec Ideal S1024x2048 .bf16) (acc : Vec Ideal S1024x2048 .f32) (r : Fin 1024) (d : Fin 2048)

theorem first_at : k0_pay2 (F := Ideal) (k0_pay47 p b) (ix2 r d) = dot p b r d := by
  unfold dot
  pointwise [k0_pay2, k0_pay47]

theorem next_at : k0_pay93 (F := Ideal) acc p b (ix2 r d) = acc (ix2 r d) + dot p b r d := by
  unfold dot
  pointwise [k0_pay93]

theorem last_at : k0_pay139 (F := Ideal) acc p b (ix2 r d) = acc (ix2 r d) + dot p b r d := by
  unfold dot
  pointwise [k0_pay139]
end

variable (m : (ℓ : Loc nD τ sig) → Buf (Elt Ideal) ℓ) (c : Dev nD) (t : Fin cfg0.N)

/-- What the point before left. -/
abbrev before := outsAt0 m c (t.val - 1) (Nat.lt_of_le_of_lt (Nat.sub_le _ _) t.isLt)

/-- The slabs' gradients at a point. -/
abbrev dxs : Fin 8 → Vec Ideal S16x2048 .f32 := dx (iblk m c 4 t) (iblk m c 3 t) (iblk m c 2 t) (iblk m c 5 t)

/-! ## The gradient of the rows -/

theorem dx_A (h0 : t.val % 64 = 0) (j : Fin 128) (d : Fin 2048) : (outsAt0 m c t.val t.isLt).2.1 (ix2 j d) =
    dxs m c t ⟨j / 16, by omega⟩ (ix2 ⟨j % 16, by omega⟩ d) := by
  rw [outsAt0_A m c t h0 (by omega) (by omega) (by omega)]
  unfold out0_A_7
  frame_out
  canon_tiles x q
  · refine (congrFun ?_ x).trans (pick (dxs m c t) 7 x j d (by simpa using q0) (by simpa using q1)).symm
    sl_kernel_rfl
  · refine (congrFun ?_ x).trans (pick (dxs m c t) 6 x j d (by simpa using q0) (by simpa using q1)).symm
    sl_kernel_rfl
  · refine (congrFun ?_ x).trans (pick (dxs m c t) 5 x j d (by simpa using q0) (by simpa using q1)).symm
    sl_kernel_rfl
  · refine (congrFun ?_ x).trans (pick (dxs m c t) 4 x j d (by simpa using q0) (by simpa using q1)).symm
    sl_kernel_rfl
  · refine (congrFun ?_ x).trans (pick (dxs m c t) 3 x j d (by simpa using q0) (by simpa using q1)).symm
    sl_kernel_rfl
  · refine (congrFun ?_ x).trans (pick (dxs m c t) 2 x j d (by simpa using q0) (by simpa using q1)).symm
    sl_kernel_rfl
  · refine (congrFun ?_ x).trans (pick (dxs m c t) 1 x j d (by simpa using q0) (by simpa using q1)).symm
    sl_kernel_rfl
  · refine (congrFun ?_ x).trans (pick (dxs m c t) 0 x j d (by simpa using q0) (by simpa using q1)).symm
    sl_kernel_rfl

theorem dx_B (h2 : 1 ≤ t.val % 8 ∧ t.val % 8 ≤ 6) (j : Fin 128) (d : Fin 2048) : (outsAt0 m c t.val t.isLt).2.1 (ix2 j d) =
    dxs m c t ⟨j / 16, by omega⟩ (ix2 ⟨j % 16, by omega⟩ d) := by
  rw [outsAt0_B m c t (by omega) (by omega) h2 (by omega)]
  unfold out0_B_7
  frame_out
  canon_tiles x q
  · refine (congrFun ?_ x).trans (pick (dxs m c t) 7 x j d (by simpa using q0) (by simpa using q1)).symm
    sl_kernel_rfl
  · refine (congrFun ?_ x).trans (pick (dxs m c t) 6 x j d (by simpa using q0) (by simpa using q1)).symm
    sl_kernel_rfl
  · refine (congrFun ?_ x).trans (pick (dxs m c t) 5 x j d (by simpa using q0) (by simpa using q1)).symm
    sl_kernel_rfl
  · refine (congrFun ?_ x).trans (pick (dxs m c t) 4 x j d (by simpa using q0) (by simpa using q1)).symm
    sl_kernel_rfl
  · refine (congrFun ?_ x).trans (pick (dxs m c t) 3 x j d (by simpa using q0) (by simpa using q1)).symm
    sl_kernel_rfl
  · refine (congrFun ?_ x).trans (pick (dxs m c t) 2 x j d (by simpa using q0) (by simpa using q1)).symm
    sl_kernel_rfl
  · refine (congrFun ?_ x).trans (pick (dxs m c t) 1 x j d (by simpa using q0) (by simpa using q1)).symm
    sl_kernel_rfl
  · refine (congrFun ?_ x).trans (pick (dxs m c t) 0 x j d (by simpa using q0) (by simpa using q1)).symm
    sl_kernel_rfl

theorem dx_C (h3 : t.val % 8 = 7) (j : Fin 128) (d : Fin 2048) : (outsAt0 m c t.val t.isLt).2.1 (ix2 j d) =
    dxs m c t ⟨j / 16, by omega⟩ (ix2 ⟨j % 16, by omega⟩ d) := by
  rw [outsAt0_C m c t (by omega) (by omega) (by omega) h3]
  unfold out0_C_7
  frame_out
  canon_tiles x q
  · refine (congrFun ?_ x).trans (pick (dxs m c t) 7 x j d (by simpa using q0) (by simpa using q1)).symm
    sl_kernel_rfl
  · refine (congrFun ?_ x).trans (pick (dxs m c t) 6 x j d (by simpa using q0) (by simpa using q1)).symm
    sl_kernel_rfl
  · refine (congrFun ?_ x).trans (pick (dxs m c t) 5 x j d (by simpa using q0) (by simpa using q1)).symm
    sl_kernel_rfl
  · refine (congrFun ?_ x).trans (pick (dxs m c t) 4 x j d (by simpa using q0) (by simpa using q1)).symm
    sl_kernel_rfl
  · refine (congrFun ?_ x).trans (pick (dxs m c t) 3 x j d (by simpa using q0) (by simpa using q1)).symm
    sl_kernel_rfl
  · refine (congrFun ?_ x).trans (pick (dxs m c t) 2 x j d (by simpa using q0) (by simpa using q1)).symm
    sl_kernel_rfl
  · refine (congrFun ?_ x).trans (pick (dxs m c t) 1 x j d (by simpa using q0) (by simpa using q1)).symm
    sl_kernel_rfl
  · refine (congrFun ?_ x).trans (pick (dxs m c t) 0 x j d (by simpa using q0) (by simpa using q1)).symm
    sl_kernel_rfl

theorem dx_D (h0 : ¬t.val % 64 = 0) (h1 : t.val % 8 = 0) (j : Fin 128) (d : Fin 2048) : (outsAt0 m c t.val t.isLt).2.1 (ix2 j d) =
    dxs m c t ⟨j / 16, by omega⟩ (ix2 ⟨j % 16, by omega⟩ d) := by
  rw [outsAt0_D m c t h0 h1 (by omega) (by omega)]
  unfold out0_D_7
  frame_out
  canon_tiles x q
  · refine (congrFun ?_ x).trans (pick (dxs m c t) 7 x j d (by simpa using q0) (by simpa using q1)).symm
    sl_kernel_rfl
  · refine (congrFun ?_ x).trans (pick (dxs m c t) 6 x j d (by simpa using q0) (by simpa using q1)).symm
    sl_kernel_rfl
  · refine (congrFun ?_ x).trans (pick (dxs m c t) 5 x j d (by simpa using q0) (by simpa using q1)).symm
    sl_kernel_rfl
  · refine (congrFun ?_ x).trans (pick (dxs m c t) 4 x j d (by simpa using q0) (by simpa using q1)).symm
    sl_kernel_rfl
  · refine (congrFun ?_ x).trans (pick (dxs m c t) 3 x j d (by simpa using q0) (by simpa using q1)).symm
    sl_kernel_rfl
  · refine (congrFun ?_ x).trans (pick (dxs m c t) 2 x j d (by simpa using q0) (by simpa using q1)).symm
    sl_kernel_rfl
  · refine (congrFun ?_ x).trans (pick (dxs m c t) 1 x j d (by simpa using q0) (by simpa using q1)).symm
    sl_kernel_rfl
  · refine (congrFun ?_ x).trans (pick (dxs m c t) 0 x j d (by simpa using q0) (by simpa using q1)).symm
    sl_kernel_rfl

theorem dx_point (j : Fin 128) (d : Fin 2048) : (outsAt0 m c t.val t.isLt).2.1 (ix2 j d) =
    dxs m c t ⟨j / 16, by omega⟩ (ix2 ⟨j % 16, by omega⟩ d) := by
  by_cases h0 : t.val % 64 = 0
  · exact dx_A m c t h0 j d
  by_cases h1 : t.val % 8 = 0
  · exact dx_D m c t h0 h1 j d
  by_cases h3 : t.val % 8 = 7
  · exact dx_C m c t h3 j d
  · exact dx_B m c t (by omega) j d

/-! ## The partial rows -/

theorem sums_A (h0 : t.val % 64 = 0) (j : Fin 8) (d : Fin 2048) : (outsAt0 m c t.val t.isLt).2.2.2.2 (ix2 j d) =
    sums (iblk m c 3 t) (iblk m c 2 t) (k0_pay1 (F := Ideal)) (ix2 j d) := by
  rw [outsAt0_A m c t h0 (by omega) (by omega) (by omega)]
  unfold sout0_A_1
  frame_open
  simp (disch := decide) only [↓View.readCov_skip, ↓View.readCov_fill]
  frame_out
  simp only [step_11, step_20, step_27, step_33, step_38, step_45]
  rfl

theorem sums_B (h2 : 1 ≤ t.val % 8 ∧ t.val % 8 ≤ 6) (j : Fin 8) (d : Fin 2048) : (outsAt0 m c t.val t.isLt).2.2.2.2 (ix2 j d) =
    sums (iblk m c 3 t) (iblk m c 2 t) (before m c t).2.2.2.2 (ix2 j d) := by
  rw [outsAt0_B m c t (by omega) (by omega) h2 (by omega)]
  unfold sout0_B_1
  frame_out
  simp only [read_unread_whole]
  simp only [step_51, step_56, step_66, step_72, step_78, step_83, step_91]
  rfl

theorem sums_C (h3 : t.val % 8 = 7) (j : Fin 8) (d : Fin 2048) : (outsAt0 m c t.val t.isLt).2.2.2.2 (ix2 j d) =
    sums (iblk m c 3 t) (iblk m c 2 t) (before m c t).2.2.2.2 (ix2 j d) := by
  rw [outsAt0_C m c t (by omega) (by omega) (by omega) h3]
  unfold sout0_C_1
  frame_out
  simp only [read_unread_whole]
  simp only [step_97, step_102, step_112, step_118, step_124, step_129, step_137]
  rfl

theorem sums_D (h0 : ¬t.val % 64 = 0) (h1 : t.val % 8 = 0) (j : Fin 8) (d : Fin 2048) : (outsAt0 m c t.val t.isLt).2.2.2.2 (ix2 j d) =
    sums (iblk m c 3 t) (iblk m c 2 t) (before m c t).2.2.2.2 (ix2 j d) := by
  rw [outsAt0_D m c t h0 h1 (by omega) (by omega)]
  unfold sout0_D_1
  frame_out
  simp only [read_unread_whole]
  simp only [step_11, step_20, step_27, step_33, step_38, step_45]
  rfl

theorem sums_next (h0 : ¬t.val % 64 = 0) (j : Fin 8) (d : Fin 2048) : (outsAt0 m c t.val t.isLt).2.2.2.2 (ix2 j d) =
    sums (iblk m c 3 t) (iblk m c 2 t) (before m c t).2.2.2.2 (ix2 j d) := by
  by_cases h1 : t.val % 8 = 0
  · exact sums_D m c t h0 h1 j d
  by_cases h3 : t.val % 8 = 7
  · exact sums_C m c t h3 j d
  · exact sums_B m c t (by omega) j d

theorem gain_C (h3 : t.val % 8 = 7) (b : Fin 1) (d : Fin 2048) : (outsAt0 m c t.val t.isLt).2.2.1 (ix2 b d) =
    ∑ j : Fin 8, (sums (iblk m c 3 t) (iblk m c 2 t) (before m c t).2.2.2.2 (ix2 j d) : EReal) := by
  rw [outsAt0_C m c t (by omega) (by omega) (by omega) h3, ← col_at]
  unfold out0_C_8
  frame_out
  simp only [read_unread_whole, step_97, step_102, step_112, step_118, step_124, step_129, step_138]
  rfl

/-! ## The product -/

theorem scratch_first (h1 : t.val % 8 = 0) (r : Fin 1024) (d : Fin 2048) : (outsAt0 m c t.val t.isLt).2.2.2.1 (ix2 r d) =
    dot (iblk m c 0 t) (iblk m c 1 t) r d := by
  by_cases h0 : t.val % 64 = 0
  · rw [outsAt0_A m c t h0 (by omega) (by omega) (by omega)]
    unfold sout0_A_0
    frame_out
    exact first_at _ _ r d
  · rw [outsAt0_D m c t h0 h1 (by omega) (by omega)]
    unfold sout0_D_0
    frame_out
    exact first_at _ _ r d

theorem scratch_next (h2 : 1 ≤ t.val % 8 ∧ t.val % 8 ≤ 6) (r : Fin 1024) (d : Fin 2048) :
    (outsAt0 m c t.val t.isLt).2.2.2.1 (ix2 r d) =
      (before m c t).2.2.2.1 (ix2 r d) + dot (iblk m c 0 t) (iblk m c 1 t) r d := by
  rw [outsAt0_B m c t (by omega) (by omega) h2 (by omega)]
  unfold sout0_B_0
  frame_out
  simp only [read_unread_whole]
  exact next_at _ _ _ r d

theorem out_last (h3 : t.val % 8 = 7) (r : Fin 1024) (d : Fin 2048) : (outsAt0 m c t.val t.isLt).1 (ix2 r d) =
    (before m c t).2.2.2.1 (ix2 r d) + dot (iblk m c 0 t) (iblk m c 1 t) r d := by
  rw [outsAt0_C m c t (by omega) (by omega) (by omega) h3]
  unfold out0_C_6
  frame_out
  simp only [read_unread_whole]
  exact last_at _ _ _ r d

end Cert.NormTile

end
-- ==== Proof.FfGrad.lean ====
/- `ff2_dw`: the gradient of the second feed-forward weight, accumulated over the rows; the residual stream's gradient
   through the norm before the MLP; and the norm's gain's gradient. -/
module

public import proofs.«01_k».proof.Proof.NormPoint
public import proofs.«01_k».proof.Proof.Finite
public import proofs.«01_k».proof.Proof.Gen.Pre_finite6
public import proofs.«01_k».proof.Proof.Gen.Kernel6Ideal.Value
public import proofs.«01_k».proof.Defs

@[expose] public section

set_option maxRecDepth 16384

noncomputable section

namespace Cert.FfGrad

open Idealize.ShloMosaic Idealize.ShloMosaic.TcCoe Idealize.SL.Sem
open Cert.NormBack Cert.NormTile
open Cert.Mixer (IsReal)

/-! ## The precondition -/

section
open Cert.Pre_finite6 Cert.Pre_finite6.Gen
variable (A : FVec Ideal S8192x8192 .bf16) (B D : FVec Ideal S8192x2048 .bf16) (X : FVec Ideal S8192x2048 .f32)
  (G : FVec Ideal S1x2048 .f32)

theorem finite (e : fn (F := Ideal) A B D X G = fun _ => 1#1) :
    (∀ s d, IsReal (D (ix2 s d))) ∧ (∀ s d, IsReal (X (ix2 s d))) ∧ (∀ d : Fin 2048, IsReal (G (ix2 0 d))) := by
  have e := congrFun e (fun a => a.elim0)
  have : Subsingleton (Shape.Idx S_) := ⟨fun a b => funext fun x => x.elim0⟩
  simp only [fn] at e
  obtain ⟨e, e3⟩ := IntOp.andi_eq_one.1 e
  obtain ⟨e1, e2⟩ := IntOp.andi_eq_one.1 e
  refine ⟨fun s d => ?_, fun s d => ?_, fun d => ?_⟩
  · have q := Host.reduce_andi_all _ _ _ _ _ e1 (ix2 s d)
    pointwise at q
    exact Cert.Pre.isReal_of_bit .bf16 _ q
  · have q := Host.reduce_andi_all _ _ _ _ _ e2 (ix2 s d)
    pointwise at q
    exact Cert.Pre.isReal_of_bit .f32 _ q
  · have q := Host.reduce_andi_all _ _ _ _ _ e3 (ix2 0 d)
    pointwise at q
    exact Cert.Pre.isReal_of_bit .f32 _ q
end

/-! ## The kernel -/

open Cert.Kernel6Ideal Cert.Kernel6Ideal.Gen

variable (m : (ℓ : Loc nD τ sig) → Buf (Elt Ideal) ℓ) (c : Dev nD) (t : Fin cfg0.N)

theorem points : t.val < 64 := lt_of_lt_of_eq t.isLt (show cfg0.N = 64 from N_0)

theorem at_0 : ∀ t : Fin cfg0.N, win0_0.index t = ![t.val % 8, t.val / 8] := (by decide +kernel : ∀ t : Fin grid0.N, _)
theorem at_1 : ∀ t : Fin cfg0.N, win0_1.index t = ![t.val % 8, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val / 8, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![0, 0] := (by decide +kernel : ∀ t : Fin grid0.N, _)
theorem flush_6 : ∀ t : Fin cfg0.N, (cfg0.win 6).flush t = true → t.val % 8 = 7 :=
  (by decide +kernel : ∀ t : Fin grid0.N, (cfg0.win 6).flush t = true → t.val % 8 = 7)
theorem flush_8 : ∀ t : Fin cfg0.N, (cfg0.win 8).flush t = true → t.val = 63 :=
  (by decide +kernel : ∀ t : Fin grid0.N, (cfg0.win 8).flush t = true → t.val = 63)

/-- The five arguments, as launched. -/
abbrev argA : Vec Ideal S8192x8192 .bf16 := m ((c : Thread nD τ).loc main_arg0)
abbrev argB : Vec Ideal S8192x2048 .bf16 := m ((c : Thread nD τ).loc main_arg1)
abbrev argD : Vec Ideal S8192x2048 .bf16 := m ((c : Thread nD τ).loc main_arg2)
abbrev argX : Vec Ideal S8192x2048 .f32 := m ((c : Thread nD τ).loc main_arg3)
abbrev argG : Vec Ideal S1x2048 .f32 := m ((c : Thread nD τ).loc main_arg4)

theorem blk_0 (x r : Fin 1024) : iblk m c 0 t (ix2 x r) =
    (argA m c (ix2 ⟨t.val % 8 * 1024 + x, by omega⟩ ⟨t.val / 8 * 1024 + r, by have := points t; omega⟩) : EReal) := by
  rw [argA, ← V_main_arg0 m c]
  blk_point [iblk, V, at_0 t]

theorem blk_1 (x : Fin 1024) (d : Fin 2048) : iblk m c 1 t (ix2 x d) =
    (argB m c (ix2 ⟨t.val % 8 * 1024 + x, by omega⟩ d) : EReal) := by
  rw [argB, ← V_main_arg1 m c]
  blk_point [iblk, V, at_1 t]

theorem blk_2 (j : Fin 128) (d : Fin 2048) : iblk m c 2 t (ix2 j d) =
    (argD m c (ix2 ⟨t.val * 128 + j, by have := points t; omega⟩ d) : EReal) := by
  rw [argD, ← V_main_arg2 m c]
  blk_point [iblk, V, at_2 t]

theorem blk_3 (j : Fin 128) (d : Fin 2048) : iblk m c 3 t (ix2 j d) =
    (argX m c (ix2 ⟨t.val * 128 + j, by have := points t; omega⟩ d) : EReal) := by
  rw [argX, ← V_main_arg3 m c]
  blk_point [iblk, V, at_3 t]

theorem blk_4 (b : Fin 1) (d : Fin 2048) : iblk m c 4 t (ix2 b d) = (argG m c (ix2 b d) : EReal) := by
  rw [argG, ← V_main_arg4 m c]
  blk_point [iblk, V, at_4 t]

theorem blk_5 (j : Fin 128) (d : Fin 2048) : iblk m c 5 t (ix2 j d) =
    (argB m c (ix2 ⟨t.val * 128 + j, by have := points t; omega⟩ d) : EReal) := by
  rw [argB, ← V_main_arg1 m c]
  blk_point [iblk, V, at_5 t]

/-! ## The gradient of the residual stream -/

/-- An element of it. -/
def dRes (s : Fin 8192) (d : Fin 2048) : EReal :=
  (argB m c (ix2 s d) : EReal) + dRow (row (e := .f32) (argX m c) s) (row (e := .bf16) (argD m c) s) (fun d => argG m c (ix2 0 d)) d

def outRes : Vec Ideal S8192x2048 .f32 := fun i => dRes m c (i 0) (i 1)

theorem res_at (j : Fin 128) (d : Fin 2048) (s : Fin 8192) (hs : (s : ℕ) = t.val * 128 + j) :
    (outsAt0 m c t.val t.isLt).2.1 (ix2 j d) = dRes m c s d := by
  obtain rfl : s = ⟨t.val * 128 + j, by clear hs; have := points t; omega⟩ := Fin.ext hs
  rw [dx_point, dxs, dx_at, add_comm]
  refine congrArg₂ (fun a b : EReal => a + b) (blk_5 m c t j d) ?_
  rw [funext (blk_3 m c t j), funext (blk_2 m c t j), funext (blk_4 m c t 0)]

theorem point_7 (y : S128x2048.Idx) (j : S8192x2048.Idx) (h0 : (j 0 : ℕ) = t.val * 128 + y 0) (h1 : (j 1 : ℕ) = y 1) :
    (outsAt0 m c t.val t.isLt).2.1 y = outRes m c j := by
  idx_vars y
  refine (res_at m c t _ _ (j 0) h0).trans (congrArg (dRes m c (j 0)) (Fin.ext h1.symm))

theorem final_7 : (dats m 0 c).arrAt 7 cfg0.N = outRes m c := by
  refine (dats m 0 c).arrAt_eq_of_covers 7 _ (by decide +kernel) fun t hf y => ?_
  blk_simp
  rw [after0_7]
  have hi := at_7 t
  refine point_7 m c t y _ ?_ ?_
  all_goals (blk_simp [hi] <;> try omega)

/-! ## The gain -/

/-- What a row contributes to the gain's gradient; the rows beyond the array are not reached. -/
def term (d : Fin 2048) (s : ℕ) : EReal :=
  if h : s < 8192 then gTerm (row (e := .f32) (argX m c) ⟨s, h⟩) (row (e := .bf16) (argD m c) ⟨s, h⟩) d else 0

theorem sums_term (acc : Vec Ideal S8x2048 .f32) (j : Fin 8) (d : Fin 2048) : sums (iblk m c 3 t) (iblk m c 2 t) acc (ix2 j d) =
    (acc (ix2 j d) : EReal) + ∑ u : Fin 16, term m c d (t.val * 128 + (u * 8 + j)) := by
  have ht := points t
  rw [sums_at]
  refine congrArg (fun y : EReal => _ + y) (Finset.sum_congr rfl fun u _ => ?_)
  rw [funext (blk_3 m c t _), funext (blk_2 m c t _), term, dif_pos (by omega)]

theorem sums_sum (j : Fin 8) (d : Fin 2048) : ∀ (n : ℕ) (hn : n < cfg0.N), (outsAt0 m c n hn).2.2.2.2 (ix2 j d) =
    ∑ v ∈ Finset.range (n + 1), ∑ u : Fin 16, term m c d (v * 128 + (u * 8 + j))
  | 0, hn => by
    rw [sums_A m c ⟨0, hn⟩ rfl, sums_term, Finset.sum_range_one]
    refine (congrArg (fun y : EReal => y + _) ?_).trans (zero_add _)
    pointwise [k0_pay1]
  | n + 1, hn => by
    have hp := points ⟨n + 1, hn⟩
    have : n + 1 < 64 := hp
    rw [sums_next m c ⟨n + 1, hn⟩ (by show ¬(n + 1) % 64 = 0; omega), sums_term, Finset.sum_range_succ _ (n + 1)]
    refine congrArg (fun y : EReal => y + _) ?_
    exact sums_sum j d n (Nat.lt_of_succ_lt hn)

/-- Summing every eighth row of every tile, and then over the eight, is summing the rows. -/
theorem sum_rows (f : ℕ → EReal) : (∑ j : Fin 8, ∑ v ∈ Finset.range 64, ∑ u : Fin 16, f (v * 128 + (u * 8 + j))) =
    ∑ s : Fin 8192, f s := by
  rw [Finset.sum_comm]
  have e : ∀ b : ℕ, (∑ j : Fin 8, ∑ u : Fin 16, f (b + (u * 8 + j))) = ∑ r : Fin 128, f (b + r) := fun b => by
    rw [Finset.sum_comm]
    exact (Fin.sum_univ_tiles 16 8 rfl (fun r : Fin (16 * 8) => f (b + r))).symm
  calc _ = ∑ v ∈ Finset.range 64, ∑ r : Fin 128, f (v * 128 + r) := Finset.sum_congr rfl fun v _ => e _
    _ = ∑ v : Fin 64, ∑ r : Fin 128, f (v * 128 + r) := Finset.sum_range _
    _ = _ := (Fin.sum_univ_tiles 64 128 rfl (fun s : Fin (64 * 128) => f s)).symm

/-- An element of the gain's gradient. -/
def dGain (d : Fin 2048) : EReal :=
  ∑ s : Fin 8192, gTerm (row (e := .f32) (argX m c) s) (row (e := .bf16) (argD m c) s) d

def outGain : Vec Ideal S1x2048 .f32 := fun i => dGain m c (i 1)

theorem gain_at (h : t.val = 63) (b : Fin 1) (d : Fin 2048) : (outsAt0 m c t.val t.isLt).2.2.1 (ix2 b d) = dGain m c d := by
  rw [gain_C m c t (by omega)]
  have e : ∀ j : Fin 8, (sums (iblk m c 3 t) (iblk m c 2 t) (before m c t).2.2.2.2 (ix2 j d) : EReal) =
      ∑ v ∈ Finset.range 64, ∑ u : Fin 16, term m c d (v * 128 + (u * 8 + j)) := fun j => by
    rw [← sums_next m c t (by omega), sums_sum, h]
  rw [Finset.sum_congr rfl fun j _ => e j, sum_rows]
  refine Finset.sum_congr rfl fun s _ => ?_
  rw [term, dif_pos s.isLt]

theorem point_8 (h : t.val = 63) (y : S1x2048.Idx) (j : S1x2048.Idx) (h1 : (j 1 : ℕ) = y 1) :
    (outsAt0 m c t.val t.isLt).2.2.1 y = outGain m c j := by
  idx_vars y
  exact (gain_at m c t h _ _).trans (congrArg (dGain m c) (Fin.ext h1.symm))

theorem final_8 : (dats m 0 c).arrAt 8 cfg0.N = outGain m c := by
  refine (dats m 0 c).arrAt_eq_of_covers 8 _ (by decide +kernel) fun t hf y => ?_
  blk_simp
  rw [after0_8]
  have hi := at_8 t
  refine point_8 m c t (flush_8 t hf) y _ ?_
  all_goals (blk_simp [hi] <;> try omega)

/-! ## The product -/

/-- What a block of rows contributes to an element of the weight's gradient. -/
def contrib (f : Fin 8192) (d : Fin 2048) (n : ℕ) : EReal :=
  ∑ x : Fin 1024, (argA m c (ix2 ⟨n % 8 * 1024 + x, by omega⟩ f) : EReal) * argB m c (ix2 ⟨n % 8 * 1024 + x, by omega⟩ d)

theorem contrib_mod {f : Fin 8192} {d : Fin 2048} {n k : ℕ} (h : n % 8 = k % 8) : contrib m c f d n = contrib m c f d k := by
  simp only [contrib, h]

theorem dot_point (r : Fin 1024) (d : Fin 2048) (f : Fin 8192) (h : (f : ℕ) = t.val / 8 * 1024 + r) :
    dot (iblk m c 0 t) (iblk m c 1 t) r d = contrib m c f d t.val := by
  obtain rfl : f = ⟨t.val / 8 * 1024 + r, by clear h; have := points t; omega⟩ := Fin.ext h
  exact Finset.sum_congr rfl fun x _ => congrArg₂ (fun a b : EReal => a * b) (blk_0 m c t x r) (blk_1 m c t x d)

theorem scratch_at (r : Fin 1024) (d : Fin 2048) (f : Fin 8192) (q : ℕ) (h : (f : ℕ) = q * 1024 + r) :
    ∀ (k : ℕ) (_ : k < 7) (hn : q * 8 + k < cfg0.N),
      (outsAt0 m c (q * 8 + k) hn).2.2.2.1 (ix2 r d) = ∑ v ∈ Finset.range (k + 1), contrib m c f d v
  | 0, _, hn => by
    rw [Finset.sum_range_one]
    refine (scratch_first m c ⟨q * 8 + 0, hn⟩ (by show (q * 8 + 0) % 8 = 0; omega) r d).trans ?_
    refine (dot_point m c ⟨q * 8 + 0, hn⟩ r d f (by show (f : ℕ) = (q * 8 + 0) / 8 * 1024 + r; omega)).trans ?_
    exact contrib_mod m c (by show (q * 8 + 0) % 8 = 0 % 8; omega)
  | k + 1, hk, hn => by
    rw [Finset.sum_range_succ]
    refine (scratch_next m c ⟨q * 8 + (k + 1), hn⟩
      (by show 1 ≤ (q * 8 + (k + 1)) % 8 ∧ (q * 8 + (k + 1)) % 8 ≤ 6; omega) r d).trans ?_
    refine congrArg₂ (fun a b : EReal => a + b) (scratch_at r d f q h k (by omega) (Nat.lt_of_succ_lt hn)) ?_
    refine (dot_point m c ⟨q * 8 + (k + 1), hn⟩ r d f (by show (f : ℕ) = (q * 8 + (k + 1)) / 8 * 1024 + r; omega)).trans ?_
    exact contrib_mod m c (by show (q * 8 + (k + 1)) % 8 = (k + 1) % 8; omega)

/-- An element of the weight's gradient. -/
def grad (f : Fin 8192) (d : Fin 2048) : EReal := ∑ s : Fin 8192, (argA m c (ix2 s f) : EReal) * argB m c (ix2 s d)

theorem sum_contrib (f : Fin 8192) (d : Fin 2048) : (∑ v ∈ Finset.range 8, contrib m c f d v) = grad m c f d := by
  rw [Finset.sum_range]
  refine Eq.trans ?_ (Fin.sum_univ_tiles 8 1024 rfl (fun s : Fin (8 * 1024) =>
    (argA m c (ix2 s f) : EReal) * argB m c (ix2 s d))).symm
  refine Finset.sum_congr rfl fun v _ => Finset.sum_congr rfl fun x _ => ?_
  have e : (⟨(v : ℕ) % 8 * 1024 + x, by omega⟩ : Fin 8192) = ⟨v * 1024 + x, by omega⟩ :=
    Fin.ext (by show (v : ℕ) % 8 * 1024 + x = v * 1024 + x; omega)
  rw [e]

def outProd : Vec Ideal S8192x2048 .bf16 := fun i => grad m c (i 0) (i 1)

theorem block_at (h3 : t.val % 8 = 7) (r : Fin 1024) (d : Fin 2048) (f : Fin 8192) (h : (f : ℕ) = t.val / 8 * 1024 + r) :
    (outsAt0 m c t.val t.isLt).1 (ix2 r d) = grad m c f d := by
  obtain ⟨n, hn⟩ := t
  have h' : n % 8 = 7 := h3
  obtain ⟨q, rfl⟩ : ∃ q, n = q * 8 + 6 + 1 := ⟨n / 8, by omega⟩
  have hf : (f : ℕ) = (q * 8 + 6 + 1) / 8 * 1024 + r := h
  refine (out_last m c _ h3 r d).trans ?_
  rw [← sum_contrib, Finset.sum_range_succ _ 7]
  refine congrArg₂ (fun a b : EReal => a + b) (scratch_at m c r d f q (by omega) 6 (by omega) (Nat.lt_of_succ_lt hn)) ?_
  exact (dot_point m c _ r d f h).trans (contrib_mod m c h')

theorem point_6 (h3 : t.val % 8 = 7) (y : S1024x2048.Idx) (j : S8192x2048.Idx) (h0 : (j 0 : ℕ) = t.val / 8 * 1024 + y 0)
    (h1 : (j 1 : ℕ) = y 1) : (outsAt0 m c t.val t.isLt).1 y = outProd m c j := by
  idx_vars y
  exact (block_at m c t h3 _ _ (j 0) h0).trans (congrArg (grad m c (j 0)) (Fin.ext h1.symm))

theorem final_6 : (dats m 0 c).arrAt 6 cfg0.N = outProd m c := by
  refine (dats m 0 c).arrAt_eq_of_covers 6 _ (by decide +kernel) fun t hf y => ?_
  blk_simp
  rw [after0_6]
  have hi := at_6 t
  refine point_6 m c t (flush_6 t hf) y _ ?_ ?_
  all_goals (blk_simp [hi] <;> try omega)

/-! ## The equation -/

theorem equal : Cert.algebraic_Kernel6Ideal_Reference6Ideal_pre_finite6 := by
  intro m g m' g' hpre hagree
  refine ⟨fun c => outProd m c, fun c => outRes m c, fun c => outGain m c, ?_, ?_⟩
  · exact (θ_run Cert.Kernel6Ideal.defs _ _).mono (fun r h c => ⟨(h c).1.trans (final_6 m c),
      (h c).2.1.trans (final_7 m c), (h c).2.2.1.trans (final_8 m c), (h c).2.2.2⟩)
      (Cert.Kernel6Ideal.Value.run_blocks m g)
  · refine (θ_run Cert.Reference6Ideal.defs _ _).mono (fun r h c => ?_) (Cert.Reference6Ideal.Value.run m' g')
    obtain ⟨a0, a1, a2, a3, a4⟩ := hagree c
    obtain ⟨hD, hX, hG⟩ := finite _ _ _ _ _ (hpre c)
    refine ⟨(h c).1.trans ?_, (h c).2.1.trans ?_, (h c).2.2.1.trans ?_, (h c).2.2.2⟩
    · rw [a0, a1]
      funext i
      rw [eq_ix2 i]
      exact refProd_at _ _ _ _
    · unfold Cert.Reference6Ideal.Value.res_main_v44
      rw [a1, a2, a3, a4]
      funext i
      rw [eq_ix2 i]
      exact refDx_at (argB m c) (argD m c) (argX m c) (argG m c) hX hD hG _ _
    · rw [a2, a3]
      funext i
      rw [eq_ix2 i]
      exact refGain_at _ _ _ _

end Cert.FfGrad

end
-- ==== Proof.GateIn.lean ====
/- The projection onto the columns of the forget gate (`in_proj_gate`): each row of the normalised input times each row of
   the transposed weight, summed over the 2048 columns in one step. The kernel's array after the run, and the equation
   with the forward line. -/
module

public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Lib.Pipeline.ReadBack

@[expose] public section

set_option maxRecDepth 16384

noncomputable section

namespace Cert.GateIn

open Idealize.ShloMosaic Idealize.ShloMosaic.TcCoe Idealize.SL.Sem

/-- An element of the projection. -/
def proj (U : Fin 8192 → Fin 2048 → EReal) (W : Fin 128 → Fin 2048 → EReal) (s : Fin 8192) (f : Fin 128) : EReal :=
  ∑ d : Fin 2048, U s d * W f d

section
open Cert.Reference7Ideal Cert.Reference7Ideal.Gen

/-! ## The forward line -/

/-- The reference's result, from its two arguments. -/
def ref (U : FVec Ideal S8192x2048 .bf16) (W : FVec Ideal S128x2048 .bf16) : FVec Ideal S8192x128 .f32 :=
  Host.dotGeneral dot_S8192x2048_S2048x128_S8192x128_1_0_0_1_n_n none (extf .f32 U bitsLt_bf16_f32) (transpose S2048x128 [1, 0] (extf .f32 W bitsLt_bf16_f32) transposes_S128x2048_S2048x128_1_0)

theorem ref_at (U : FVec Ideal S8192x2048 .bf16) (W : FVec Ideal S128x2048 .bf16) (s : Fin 8192) (f : Fin 128) :
    ref U W (ix2 s f) = proj (fun s d => U (ix2 s d)) (fun f d => W (ix2 f d)) s f := by
  pointwise [ref]
  rfl

end

/-! ## The kernel -/

open Cert.Kernel7Ideal Cert.Kernel7Ideal.Gen

variable (m : (ℓ : Loc nD τ sig) → Buf (Elt Ideal) ℓ) (c : Dev nD) (t : Fin cfg0.N)

theorem points : t.val < 8 := lt_of_lt_of_eq t.isLt (show cfg0.N = 8 from N_0)

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)

/-- The normalised input and the transposed weight, as launched. -/
abbrev argU : Vec Ideal S8192x2048 .bf16 := m ((c : Thread nD τ).loc main_arg0)
abbrev argW : Vec Ideal S128x2048 .bf16 := m ((c : Thread nD τ).loc main_arg1)

theorem blk_0 (r : Fin 1024) (d : Fin 2048) : iblk m c 0 t (ix2 r d) =
    (argU m c (ix2 ⟨t.val * 1024 + r, by have := points t; omega⟩ d) : EReal) := by
  rw [argU, ← V_main_arg0 m c]
  blk_point [iblk, V, at_0 t]

theorem blk_1 (f : Fin 128) (d : Fin 2048) : iblk m c 1 t (ix2 f d) = (argW m c (ix2 f d) : EReal) := by
  rw [argW, ← V_main_arg1 m c]
  blk_point [iblk, V, at_1 t]

/-- What a point computes of its two blocks. -/
theorem pay_at (u : Vec Ideal S1024x2048 .bf16) (w : Vec Ideal S128x2048 .bf16) (r : Fin 1024) (f : Fin 128) :
    k0_pay1 (F := Ideal) u w (ix2 r f) = ∑ d : Fin 2048, (show EReal from u (ix2 r d)) * w (ix2 f d) := by
  pointwise [k0_pay1]

def out : Vec Ideal S8192x128 .f32 := fun i =>
  proj (fun s d => argU m c (ix2 s d)) (fun f d => argW m c (ix2 f d)) (i 0) (i 1)

theorem block_at (r : Fin 1024) (f : Fin 128) :
    out0_2 (iblk m c 0 t) (iblk m c 1 t) (ix2 r f) =
      out m c (ix2 ⟨t.val * 1024 + r, by have := points t; omega⟩ f) := by
  unfold out0_2
  frame_out
  refine (pay_at _ _ r f).trans ?_
  exact Finset.sum_congr rfl fun d _ =>
    congrArg₂ (fun a b : EReal => a * b) (blk_0 m c t r d) (blk_1 m c t f d)

theorem point_2 (y : S1024x128.Idx) (j : S8192x128.Idx) (h0 : (j 0 : ℕ) = t.val * 1024 + y 0)
    (h1 : (j 1 : ℕ) = y 1) :
    out0_2 (iblk m c 0 t) (iblk m c 1 t) y = out m c j := by
  idx_vars y
  refine (block_at m c t y0 y1).trans ?_
  rw [eq_ix2 j]
  exact congrArg₂ (fun (p : Fin 8192) (q : Fin 128) => out m c (ix2 p q)) (Fin.ext h0.symm) (Fin.ext h1.symm)

/-- The array after the run. -/
theorem final : (dats m 0 c).arrAt 2 cfg0.N = out m c := by
  refine (dats m 0 c).arrAt_eq_of_covers 2 _ (by decide +kernel) fun t hf y => ?_
  blk_simp
  rw [after0_2]
  have hi := at_2 t
  refine point_2 m c t y _ ?_ ?_
  all_goals (blk_simp [hi] <;> try omega)

/-! ## The equation -/

theorem equal : Cert.algebraic_Kernel7Ideal_Reference7Ideal := by
  intro m g m' g' _ hagree
  refine ⟨fun c => out m c, ?_, ?_⟩
  · exact (θ_run Cert.Kernel7Ideal.defs _ _).mono (fun r h c => ⟨(h c).1.trans (final m c), (h c).2⟩)
      (Cert.Kernel7Ideal.Value.run_blocks m g)
  · refine (θ_run Cert.Reference7Ideal.defs _ _).mono (fun r h c => ⟨(h c).1.trans ?_, (h c).2⟩)
      (Cert.Reference7Ideal.Value.run m' g')
    rw [(hagree c).1, (hagree c).2]
    funext i
    rw [eq_ix2 i]
    exact ref_at _ _ _ _

end Cert.GateIn

end
-- ==== Proof.lean ====
/- The claims of `Cert.Claim`, put together: the frames of the programs, and for each call the equation of its results
   with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.RunD
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.RunD
public import proofs.«01_k».proof.Proof.Gen.ReferenceIdeal
public import proofs.«01_k».proof.Proof.Gen.Pre_finite
public import proofs.«01_k».proof.Proof.Gen.Pre_finite6
public import proofs.«01_k».proof.Proof.Gen.On_written
public import proofs.«01_k».proof.Proof.WalkKernel
public import proofs.«01_k».proof.Proof.Compare
public import proofs.«01_k».proof.Proof.Written
public import proofs.«01_k».proof.Proof.Gen.ReferenceIdeal.Run
public import proofs.«01_k».proof.Proof.ReluGrad
public import proofs.«01_k».proof.Proof.HiddenGrad
public import proofs.«01_k».proof.Proof.MlpOut
public import proofs.«01_k».proof.Proof.OutProj
public import proofs.«01_k».proof.Proof.FfGrad
public import proofs.«01_k».proof.Proof.GateIn
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

open Idealize.ShloMosaic Idealize.SL.Sem Cert.Kernel

/-- The kernel's frame, at the bits. -/
theorem frame_kernel : Cert.quiescent_Kernel := fun m ρ _ => Cert.Kernel.Walk.unchanged m ρ

/-- The kernel's frame over the reals, with and without the precondition. -/
theorem frame_ideal : Cert.quiescent_KernelIdeal := fun m ρ _ => Cert.KernelIdeal.Walk.unchanged m ρ
theorem frame_ideal_finite : Cert.quiescent_KernelIdeal_pre_finite := fun m ρ _ => Cert.KernelIdeal.Walk.unchanged m ρ

/-- The reference's run, its four results named; it has no semaphore. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m, fun _ => 0, ρ⟩ fun r => ∀ c : Dev Cert.ReferenceIdeal.nD,
      r.2.mem ((c.tc : Thread _ _).loc Cert.ReferenceIdeal.main_v5) = Cert.Ref.refW1 (StableHlo.launchContents m c)
      ∧ r.2.mem ((c.tc : Thread _ _).loc Cert.ReferenceIdeal.main_v124) = Cert.Ref.refZ (StableHlo.launchContents m c)
      ∧ r.2.mem ((c.tc : Thread _ _).loc Cert.ReferenceIdeal.main_v126) = Cert.Ref.refTaps (StableHlo.launchContents m c)
      ∧ r.2.mem ((c.tc : Thread _ _).loc Cert.ReferenceIdeal.main_v117) = Cert.Ref.refGain (StableHlo.launchContents m c)
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3)
      ∧ r.2.mem ((c.tc : Thread _ _).loc Cert.ReferenceIdeal.main_arg4) = m ((c.tc : Thread _ _).loc Cert.ReferenceIdeal.main_arg4)
      ∧ r.2.mem ((c.tc : Thread _ _).loc Cert.ReferenceIdeal.main_arg5) = m ((c.tc : Thread _ _).loc Cert.ReferenceIdeal.main_arg5) :=
  Cert.ReferenceIdeal.Value.run m ρ

theorem frame_reference : Cert.quiescent_ReferenceIdeal := by
  intro m ρ _
  exact (θ_run Cert.ReferenceIdeal.defs _ _).mono (fun r h => ⟨fun c => (h c).2.2.2.2,
    sem_eq_zero_of_no_sems (by decide) r.2⟩) (run_reference m ρ)
theorem frame_reference_finite : Cert.quiescent_ReferenceIdeal_pre_finite := fun m ρ _ => frame_reference m ρ trivial

/-- The kernel's results are the reference's, where the mask selects them. -/
theorem algebraic : Cert.algebraic_KernelIdeal_ReferenceIdeal_on_written_pre_finite := by
  intro m g m' g' hpre hagree
  have agree : ∀ c, Cert.Compare.Agree m c (StableHlo.launchContents m' c) := fun c =>
    ⟨(hagree c).1, (hagree c).2.1, (hagree c).2.2.1, (hagree c).2.2.2.1, (hagree c).2.2.2.2.1, (hagree c).2.2.2.2.2⟩
  have fin : ∀ c (k : Fin 8), ((Cert.KernelIdeal.Walk.arrs m c).grp k).Finite := fun c k =>
    Cert.Pre.grp_finite _ _ _ _ _ _ (hpre c) k
  refine ⟨fun c => Cert.Ref.refW1 (StableHlo.launchContents m' c), fun c => Cert.Ref.refZ (StableHlo.launchContents m' c),
    fun c => Cert.Ref.refTaps (StableHlo.launchContents m' c), fun c => Cert.Ref.refGain (StableHlo.launchContents m' c), ?_, ?_⟩
  · refine (θ_run Cert.KernelIdeal.defs _ _).mono (fun r h c => ?_) (Cert.KernelIdeal.Walk.results m g)
    obtain ⟨e0, e1, e2, e3, a⟩ := h c
    refine ⟨fun i _ => ?_, fun i hi => ?_, fun i _ => ?_, fun i _ => ?_, a⟩
    · refine (congrFun e0 i).trans ?_
      rw [eq_ix3 i]
      exact Cert.Compare.w1_at (agree c) _ _ _
    · refine (congrFun e1 i).trans ?_
      rw [eq_ix2 i] at hi ⊢
      have hd := Cert.Mask.column_lt _ _ _ _ _ _ _ _ hi
      exact (Cert.KernelIdeal.Walk.final_11 m c _ _ hd).trans (Cert.Compare.z_eq (agree c) (fin c) _ _ hd)
    · refine (congrFun e2 i).trans ?_
      rw [eq_ix2 i]
      exact Cert.Compare.taps_at (agree c) (fin c) _ _
    · refine (congrFun e3 i).trans ?_
      rw [eq_ix2 i]
      exact Cert.Compare.gain_at (agree c) _ _
  · exact (θ_run Cert.ReferenceIdeal.defs _ _).mono (fun r h c => ⟨fun i _ => congrFun (h c).1 i,
      fun i _ => congrFun (h c).2.1 i, fun i _ => congrFun (h c).2.2.1 i, fun i _ => congrFun (h c).2.2.2.1 i,
      (h c).2.2.2.2⟩) (run_reference m' g')

/-! ## The further calls: the frames -/

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_ideal6_finite : Cert.quiescent_Kernel6Ideal_pre_finite6 := fun m ρ _ => Cert.Kernel6Ideal.Gen.frame m ρ
theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)
theorem frame_reference6_finite : Cert.quiescent_Reference6Ideal_pre_finite6 := fun m ρ _ => frame_reference6 m ρ trivial

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts, Cert.Pre_finite6.Gen.facts, Cert.On_written.Gen.facts,
  frame_kernel, frame_ideal, frame_ideal_finite, frame_reference, frame_reference_finite,
  frame_kernel2, frame_ideal2, frame_reference2,
  frame_kernel3, frame_ideal3, frame_reference3,
  frame_kernel4, frame_ideal4, frame_reference4,
  frame_kernel5, frame_ideal5, frame_reference5,
  frame_kernel6, frame_ideal6, frame_ideal6_finite, frame_reference6, frame_reference6_finite,
  frame_kernel7, frame_ideal7, frame_reference7,
  trivial, algebraic, trivial, Cert.ReluGrad.equal, trivial, Cert.HiddenGrad.equal, trivial, Cert.MlpOut.equal, trivial, Cert.OutProj.equal,
  trivial, Cert.FfGrad.equal, trivial, Cert.GateIn.equal⟩

end Cert.Proof

end
